-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_RefAttnIdeal (m : (ℓ : Loc Cert.RefAttnIdeal.nD Cert.RefAttnIdeal.τ Cert.RefAttnIdeal.sig) → Buf (Elt Ideal) ℓ) : Prop :=
  True

def Pre_RefAttnIdeal_finite_qk [hPre_finite_qk : Cert.Pre_finite_qk.Facts] (m : (ℓ : Loc Cert.RefAttnIdeal.nD Cert.RefAttnIdeal.τ Cert.RefAttnIdeal.sig) → Buf (Elt Ideal) ℓ) : Prop :=
  ∀ c : Dev Cert.RefAttnIdeal.nD,
    (Cert.Pre_finite_qk.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3)) (m ((c.tc : Thread Cert.RefAttnIdeal.nD Cert.RefAttnIdeal.τ).loc Cert.RefAttnIdeal.main_arg4)) (m ((c.tc : Thread Cert.RefAttnIdeal.nD Cert.RefAttnIdeal.τ).loc Cert.RefAttnIdeal.main_arg5)) (m ((c.tc : Thread Cert.RefAttnIdeal.nD Cert.RefAttnIdeal.τ).loc Cert.RefAttnIdeal.main_arg6))) = (fun _ => 1#1)

def Pre_RefAttn (m : (ℓ : Loc Cert.RefAttn.nD Cert.RefAttn.τ Cert.RefAttn.sig) → Buf (Elt Bits) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_RefQkvIdeal (m : (ℓ : Loc Cert.RefQkvIdeal.nD Cert.RefQkvIdeal.τ Cert.RefQkvIdeal.sig) → Buf (Elt Ideal) ℓ) : Prop :=
  True

def Pre_RefQkv (m : (ℓ : Loc Cert.RefQkv.nD Cert.RefQkv.τ Cert.RefQkv.sig) → Buf (Elt Bits) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_RefAttnIdeal [hRefAttnIdeal : Cert.RefAttnIdeal.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2)
      ∧ r.2.mem ((c.tc : Thread Cert.RefAttnIdeal.nD Cert.RefAttnIdeal.τ).loc Cert.RefAttnIdeal.main_arg3) = m ((c.tc : Thread Cert.RefAttnIdeal.nD Cert.RefAttnIdeal.τ).loc Cert.RefAttnIdeal.main_arg3)
      ∧ r.2.mem ((c.tc : Thread Cert.RefAttnIdeal.nD Cert.RefAttnIdeal.τ).loc Cert.RefAttnIdeal.main_arg4) = m ((c.tc : Thread Cert.RefAttnIdeal.nD Cert.RefAttnIdeal.τ).loc Cert.RefAttnIdeal.main_arg4)
      ∧ r.2.mem ((c.tc : Thread Cert.RefAttnIdeal.nD Cert.RefAttnIdeal.τ).loc Cert.RefAttnIdeal.main_arg5) = m ((c.tc : Thread Cert.RefAttnIdeal.nD Cert.RefAttnIdeal.τ).loc Cert.RefAttnIdeal.main_arg5)
      ∧ r.2.mem ((c.tc : Thread Cert.RefAttnIdeal.nD Cert.RefAttnIdeal.τ).loc Cert.RefAttnIdeal.main_arg6) = m ((c.tc : Thread Cert.RefAttnIdeal.nD Cert.RefAttnIdeal.τ).loc Cert.RefAttnIdeal.main_arg6))
      ∧ r.2.sem = fun _ => 0)

def quiescent_RefAttnIdeal_pre_finite_qk [hRefAttnIdeal : Cert.RefAttnIdeal.Facts] [hPre_finite_qk : Cert.Pre_finite_qk.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal_finite_qk m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2)
      ∧ r.2.mem ((c.tc : Thread Cert.RefAttnIdeal.nD Cert.RefAttnIdeal.τ).loc Cert.RefAttnIdeal.main_arg3) = m ((c.tc : Thread Cert.RefAttnIdeal.nD Cert.RefAttnIdeal.τ).loc Cert.RefAttnIdeal.main_arg3)
      ∧ r.2.mem ((c.tc : Thread Cert.RefAttnIdeal.nD Cert.RefAttnIdeal.τ).loc Cert.RefAttnIdeal.main_arg4) = m ((c.tc : Thread Cert.RefAttnIdeal.nD Cert.RefAttnIdeal.τ).loc Cert.RefAttnIdeal.main_arg4)
      ∧ r.2.mem ((c.tc : Thread Cert.RefAttnIdeal.nD Cert.RefAttnIdeal.τ).loc Cert.RefAttnIdeal.main_arg5) = m ((c.tc : Thread Cert.RefAttnIdeal.nD Cert.RefAttnIdeal.τ).loc Cert.RefAttnIdeal.main_arg5)
      ∧ r.2.mem ((c.tc : Thread Cert.RefAttnIdeal.nD Cert.RefAttnIdeal.τ).loc Cert.RefAttnIdeal.main_arg6) = m ((c.tc : Thread Cert.RefAttnIdeal.nD Cert.RefAttnIdeal.τ).loc Cert.RefAttnIdeal.main_arg6))
      ∧ r.2.sem = fun _ => 0)

def quiescent_RefAttn [hRefAttn : Cert.RefAttn.Facts] : Prop :=
  ∀ (m : (ℓ : Loc Cert.RefAttn.nD Cert.RefAttn.τ Cert.RefAttn.sig) → Buf (Elt Bits) ℓ) (g : Dev Cert.RefAttn.nD → PrngReg), Pre_RefAttn m →
    θ_run (Cert.RefAttn.defs (F := Bits)) (onTc (τ := Cert.RefAttn.τ) (Cert.RefAttn.main (F := Bits))) ⟨m, fun _ => 0, g⟩ (fun r => (∀ c : Dev Cert.RefAttn.nD,
      r.2.mem ((c.tc : Thread Cert.RefAttn.nD Cert.RefAttn.τ).loc Cert.RefAttn.main_arg0) = m ((c.tc : Thread Cert.RefAttn.nD Cert.RefAttn.τ).loc Cert.RefAttn.main_arg0)
      ∧ r.2.mem ((c.tc : Thread Cert.RefAttn.nD Cert.RefAttn.τ).loc Cert.RefAttn.main_arg1) = m ((c.tc : Thread Cert.RefAttn.nD Cert.RefAttn.τ).loc Cert.RefAttn.main_arg1)
      ∧ r.2.mem ((c.tc : Thread Cert.RefAttn.nD Cert.RefAttn.τ).loc Cert.RefAttn.main_arg2) = m ((c.tc : Thread Cert.RefAttn.nD Cert.RefAttn.τ).loc Cert.RefAttn.main_arg2)
      ∧ r.2.mem ((c.tc : Thread Cert.RefAttn.nD Cert.RefAttn.τ).loc Cert.RefAttn.main_arg3) = m ((c.tc : Thread Cert.RefAttn.nD Cert.RefAttn.τ).loc Cert.RefAttn.main_arg3)
      ∧ r.2.mem ((c.tc : Thread Cert.RefAttn.nD Cert.RefAttn.τ).loc Cert.RefAttn.main_arg4) = m ((c.tc : Thread Cert.RefAttn.nD Cert.RefAttn.τ).loc Cert.RefAttn.main_arg4)
      ∧ r.2.mem ((c.tc : Thread Cert.RefAttn.nD Cert.RefAttn.τ).loc Cert.RefAttn.main_arg5) = m ((c.tc : Thread Cert.RefAttn.nD Cert.RefAttn.τ).loc Cert.RefAttn.main_arg5)
      ∧ r.2.mem ((c.tc : Thread Cert.RefAttn.nD Cert.RefAttn.τ).loc Cert.RefAttn.main_arg6) = m ((c.tc : Thread Cert.RefAttn.nD Cert.RefAttn.τ).loc Cert.RefAttn.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9)
      ∧ r.2.mem ((c.tc : Thread Cert.Qkv.nD Cert.Qkv.τ).loc Cert.Qkv.main_arg10) = m ((c.tc : Thread Cert.Qkv.nD Cert.Qkv.τ).loc Cert.Qkv.main_arg10))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
      ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10))
      ∧ r.2.sem = fun _ => 0)

def quiescent_RefQkvIdeal [hRefQkvIdeal : Cert.RefQkvIdeal.Facts] : Prop :=
  ∀ (m : (ℓ : Loc Cert.RefQkvIdeal.nD Cert.RefQkvIdeal.τ Cert.RefQkvIdeal.sig) → Buf (Elt Ideal) ℓ) (g : Dev Cert.RefQkvIdeal.nD → PrngReg), Pre_RefQkvIdeal m →
    θ_run (Cert.RefQkvIdeal.defs (F := Ideal)) (onTc (τ := Cert.RefQkvIdeal.τ) (Cert.RefQkvIdeal.main (F := Ideal))) ⟨m, fun _ => 0, g⟩ (fun r => (∀ c : Dev Cert.RefQkvIdeal.nD,
      r.2.mem ((c.tc : Thread Cert.RefQkvIdeal.nD Cert.RefQkvIdeal.τ).loc Cert.RefQkvIdeal.main_arg0) = m ((c.tc : Thread Cert.RefQkvIdeal.nD Cert.RefQkvIdeal.τ).loc Cert.RefQkvIdeal.main_arg0)
      ∧ r.2.mem ((c.tc : Thread Cert.RefQkvIdeal.nD Cert.RefQkvIdeal.τ).loc Cert.RefQkvIdeal.main_arg1) = m ((c.tc : Thread Cert.RefQkvIdeal.nD Cert.RefQkvIdeal.τ).loc Cert.RefQkvIdeal.main_arg1)
      ∧ r.2.mem ((c.tc : Thread Cert.RefQkvIdeal.nD Cert.RefQkvIdeal.τ).loc Cert.RefQkvIdeal.main_arg2) = m ((c.tc : Thread Cert.RefQkvIdeal.nD Cert.RefQkvIdeal.τ).loc Cert.RefQkvIdeal.main_arg2)
      ∧ r.2.mem ((c.tc : Thread Cert.RefQkvIdeal.nD Cert.RefQkvIdeal.τ).loc Cert.RefQkvIdeal.main_arg3) = m ((c.tc : Thread Cert.RefQkvIdeal.nD Cert.RefQkvIdeal.τ).loc Cert.RefQkvIdeal.main_arg3)
      ∧ r.2.mem ((c.tc : Thread Cert.RefQkvIdeal.nD Cert.RefQkvIdeal.τ).loc Cert.RefQkvIdeal.main_arg4) = m ((c.tc : Thread Cert.RefQkvIdeal.nD Cert.RefQkvIdeal.τ).loc Cert.RefQkvIdeal.main_arg4)
      ∧ r.2.mem ((c.tc : Thread Cert.RefQkvIdeal.nD Cert.RefQkvIdeal.τ).loc Cert.RefQkvIdeal.main_arg5) = m ((c.tc : Thread Cert.RefQkvIdeal.nD Cert.RefQkvIdeal.τ).loc Cert.RefQkvIdeal.main_arg5)
      ∧ r.2.mem ((c.tc : Thread Cert.RefQkvIdeal.nD Cert.RefQkvIdeal.τ).loc Cert.RefQkvIdeal.main_arg6) = m ((c.tc : Thread Cert.RefQkvIdeal.nD Cert.RefQkvIdeal.τ).loc Cert.RefQkvIdeal.main_arg6)
      ∧ r.2.mem ((c.tc : Thread Cert.RefQkvIdeal.nD Cert.RefQkvIdeal.τ).loc Cert.RefQkvIdeal.main_arg7) = m ((c.tc : Thread Cert.RefQkvIdeal.nD Cert.RefQkvIdeal.τ).loc Cert.RefQkvIdeal.main_arg7)
      ∧ r.2.mem ((c.tc : Thread Cert.RefQkvIdeal.nD Cert.RefQkvIdeal.τ).loc Cert.RefQkvIdeal.main_arg8) = m ((c.tc : Thread Cert.RefQkvIdeal.nD Cert.RefQkvIdeal.τ).loc Cert.RefQkvIdeal.main_arg8)
      ∧ r.2.mem ((c.tc : Thread Cert.RefQkvIdeal.nD Cert.RefQkvIdeal.τ).loc Cert.RefQkvIdeal.main_arg9) = m ((c.tc : Thread Cert.RefQkvIdeal.nD Cert.RefQkvIdeal.τ).loc Cert.RefQkvIdeal.main_arg9)
      ∧ r.2.mem ((c.tc : Thread Cert.RefQkvIdeal.nD Cert.RefQkvIdeal.τ).loc Cert.RefQkvIdeal.main_arg10) = m ((c.tc : Thread Cert.RefQkvIdeal.nD Cert.RefQkvIdeal.τ).loc Cert.RefQkvIdeal.main_arg10))
      ∧ r.2.sem = fun _ => 0)

def quiescent_RefQkv [hRefQkv : Cert.RefQkv.Facts] : Prop :=
  ∀ (m : (ℓ : Loc Cert.RefQkv.nD Cert.RefQkv.τ Cert.RefQkv.sig) → Buf (Elt Bits) ℓ) (g : Dev Cert.RefQkv.nD → PrngReg), Pre_RefQkv m →
    θ_run (Cert.RefQkv.defs (F := Bits)) (onTc (τ := Cert.RefQkv.τ) (Cert.RefQkv.main (F := Bits))) ⟨m, fun _ => 0, g⟩ (fun r => (∀ c : Dev Cert.RefQkv.nD,
      r.2.mem ((c.tc : Thread Cert.RefQkv.nD Cert.RefQkv.τ).loc Cert.RefQkv.main_arg0) = m ((c.tc : Thread Cert.RefQkv.nD Cert.RefQkv.τ).loc Cert.RefQkv.main_arg0)
      ∧ r.2.mem ((c.tc : Thread Cert.RefQkv.nD Cert.RefQkv.τ).loc Cert.RefQkv.main_arg1) = m ((c.tc : Thread Cert.RefQkv.nD Cert.RefQkv.τ).loc Cert.RefQkv.main_arg1)
      ∧ r.2.mem ((c.tc : Thread Cert.RefQkv.nD Cert.RefQkv.τ).loc Cert.RefQkv.main_arg2) = m ((c.tc : Thread Cert.RefQkv.nD Cert.RefQkv.τ).loc Cert.RefQkv.main_arg2)
      ∧ r.2.mem ((c.tc : Thread Cert.RefQkv.nD Cert.RefQkv.τ).loc Cert.RefQkv.main_arg3) = m ((c.tc : Thread Cert.RefQkv.nD Cert.RefQkv.τ).loc Cert.RefQkv.main_arg3)
      ∧ r.2.mem ((c.tc : Thread Cert.RefQkv.nD Cert.RefQkv.τ).loc Cert.RefQkv.main_arg4) = m ((c.tc : Thread Cert.RefQkv.nD Cert.RefQkv.τ).loc Cert.RefQkv.main_arg4)
      ∧ r.2.mem ((c.tc : Thread Cert.RefQkv.nD Cert.RefQkv.τ).loc Cert.RefQkv.main_arg5) = m ((c.tc : Thread Cert.RefQkv.nD Cert.RefQkv.τ).loc Cert.RefQkv.main_arg5)
      ∧ r.2.mem ((c.tc : Thread Cert.RefQkv.nD Cert.RefQkv.τ).loc Cert.RefQkv.main_arg6) = m ((c.tc : Thread Cert.RefQkv.nD Cert.RefQkv.τ).loc Cert.RefQkv.main_arg6)
      ∧ r.2.mem ((c.tc : Thread Cert.RefQkv.nD Cert.RefQkv.τ).loc Cert.RefQkv.main_arg7) = m ((c.tc : Thread Cert.RefQkv.nD Cert.RefQkv.τ).loc Cert.RefQkv.main_arg7)
      ∧ r.2.mem ((c.tc : Thread Cert.RefQkv.nD Cert.RefQkv.τ).loc Cert.RefQkv.main_arg8) = m ((c.tc : Thread Cert.RefQkv.nD Cert.RefQkv.τ).loc Cert.RefQkv.main_arg8)
      ∧ r.2.mem ((c.tc : Thread Cert.RefQkv.nD Cert.RefQkv.τ).loc Cert.RefQkv.main_arg9) = m ((c.tc : Thread Cert.RefQkv.nD Cert.RefQkv.τ).loc Cert.RefQkv.main_arg9)
      ∧ r.2.mem ((c.tc : Thread Cert.RefQkv.nD Cert.RefQkv.τ).loc Cert.RefQkv.main_arg10) = m ((c.tc : Thread Cert.RefQkv.nD Cert.RefQkv.τ).loc Cert.RefQkv.main_arg10))
      ∧ r.2.sem = fun _ => 0)

def preserves_Attn_AttnIdeal : Prop :=
  IdealRules.named_const.Statement Cert.AttnIdeal.κ "score_log2e" .f32 0x3D8293EE#32 (((Real.sqrt 512)⁻¹ * (Real.log 2)⁻¹ : ℝ) : EReal)

def preserves_RefAttn_RefAttnIdeal : Prop :=
  IdealRules.named_const.Statement Cert.RefAttnIdeal.κ "score" .f32 0x3D3504F3#32 (((Real.sqrt 512)⁻¹ : ℝ) : EReal)
  ∧ IdealRules.named_const.Statement Cert.RefAttnIdeal.κ "ln2" .f32 0x3F317218#32 ((Real.log 2 : ℝ) : EReal)

def algebraic_AttnIdeal_RefAttnIdeal_pre_finite_qk [hAttnIdeal : Cert.AttnIdeal.Facts] [hRefAttnIdeal : Cert.RefAttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.RefAttnIdeal.nD Cert.RefAttnIdeal.τ Cert.RefAttnIdeal.sig) → Buf (Elt Ideal) ℓ) (g' : Dev Cert.RefAttnIdeal.nD → PrngReg), Pre_AttnIdeal_finite_qk m →
    (∀ c : Dev Cert.AttnIdeal.nD,
      m' ((c.tc : Thread Cert.RefAttnIdeal.nD Cert.RefAttnIdeal.τ).loc Cert.RefAttnIdeal.main_arg0) = m ((c.tc : Thread Cert.AttnIdeal.nD Cert.AttnIdeal.τ).loc Cert.AttnIdeal.main_arg0)
      ∧ m' ((c.tc : Thread Cert.RefAttnIdeal.nD Cert.RefAttnIdeal.τ).loc Cert.RefAttnIdeal.main_arg1) = m ((c.tc : Thread Cert.AttnIdeal.nD Cert.AttnIdeal.τ).loc Cert.AttnIdeal.main_arg1)
      ∧ m' ((c.tc : Thread Cert.RefAttnIdeal.nD Cert.RefAttnIdeal.τ).loc Cert.RefAttnIdeal.main_arg2) = m ((c.tc : Thread Cert.AttnIdeal.nD Cert.AttnIdeal.τ).loc Cert.AttnIdeal.main_arg2)
      ∧ m' ((c.tc : Thread Cert.RefAttnIdeal.nD Cert.RefAttnIdeal.τ).loc Cert.RefAttnIdeal.main_arg3) = m ((c.tc : Thread Cert.AttnIdeal.nD Cert.AttnIdeal.τ).loc Cert.AttnIdeal.main_arg3)
      ∧ m' ((c.tc : Thread Cert.RefAttnIdeal.nD Cert.RefAttnIdeal.τ).loc Cert.RefAttnIdeal.main_arg4) = m ((c.tc : Thread Cert.AttnIdeal.nD Cert.AttnIdeal.τ).loc Cert.AttnIdeal.main_arg4)
      ∧ m' ((c.tc : Thread Cert.RefAttnIdeal.nD Cert.RefAttnIdeal.τ).loc Cert.RefAttnIdeal.main_arg5) = m ((c.tc : Thread Cert.AttnIdeal.nD Cert.AttnIdeal.τ).loc Cert.AttnIdeal.main_arg5)
      ∧ m' ((c.tc : Thread Cert.RefAttnIdeal.nD Cert.RefAttnIdeal.τ).loc Cert.RefAttnIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v2_0)) (v1 : (c : Dev Cert.AttnIdeal.nD) → Buf (Elt Ideal) ((c.tc : Thread Cert.AttnIdeal.nD Cert.AttnIdeal.τ).loc Cert.AttnIdeal.main_v2_1)) (v2 : (c : Dev Cert.AttnIdeal.nD) → Buf (Elt Ideal) ((c.tc : Thread Cert.AttnIdeal.nD Cert.AttnIdeal.τ).loc Cert.AttnIdeal.main_v2_2)) (v3 : (c : Dev Cert.AttnIdeal.nD) → Buf (Elt Ideal) ((c.tc : Thread Cert.AttnIdeal.nD Cert.AttnIdeal.τ).loc Cert.AttnIdeal.main_v2_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2_0) = v0 c
          ∧ r.2.mem ((c.tc : Thread Cert.AttnIdeal.nD Cert.AttnIdeal.τ).loc Cert.AttnIdeal.main_v2_1) = v1 c
          ∧ r.2.mem ((c.tc : Thread Cert.AttnIdeal.nD Cert.AttnIdeal.τ).loc Cert.AttnIdeal.main_v2_2) = v2 c
          ∧ r.2.mem ((c.tc : Thread Cert.AttnIdeal.nD Cert.AttnIdeal.τ).loc Cert.AttnIdeal.main_v2_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.RefAttnIdeal.defs (F := Ideal)) (onTc (τ := Cert.RefAttnIdeal.τ) (Cert.RefAttnIdeal.main (F := Ideal))) ⟨m', fun _ => 0, g'⟩ (fun r => ∀ c : Dev Cert.RefAttnIdeal.nD,
          r.2.mem ((c.tc : Thread Cert.RefAttnIdeal.nD Cert.RefAttnIdeal.τ).loc Cert.RefAttnIdeal.main_v0_0) = v0 c
          ∧ r.2.mem ((c.tc : Thread Cert.RefAttnIdeal.nD Cert.RefAttnIdeal.τ).loc Cert.RefAttnIdeal.main_v0_1) = v1 c
          ∧ r.2.mem ((c.tc : Thread Cert.RefAttnIdeal.nD Cert.RefAttnIdeal.τ).loc Cert.RefAttnIdeal.main_v0_2) = v2 c
          ∧ r.2.mem ((c.tc : Thread Cert.RefAttnIdeal.nD Cert.RefAttnIdeal.τ).loc Cert.RefAttnIdeal.main_v0_3) = v3 c
          ∧ r.2.mem ((c.tc : Thread Cert.RefAttnIdeal.nD Cert.RefAttnIdeal.τ).loc Cert.RefAttnIdeal.main_arg0) = m' ((c.tc : Thread Cert.RefAttnIdeal.nD Cert.RefAttnIdeal.τ).loc Cert.RefAttnIdeal.main_arg0)
          ∧ r.2.mem ((c.tc : Thread Cert.RefAttnIdeal.nD Cert.RefAttnIdeal.τ).loc Cert.RefAttnIdeal.main_arg1) = m' ((c.tc : Thread Cert.RefAttnIdeal.nD Cert.RefAttnIdeal.τ).loc Cert.RefAttnIdeal.main_arg1)
          ∧ r.2.mem ((c.tc : Thread Cert.RefAttnIdeal.nD Cert.RefAttnIdeal.τ).loc Cert.RefAttnIdeal.main_arg2) = m' ((c.tc : Thread Cert.RefAttnIdeal.nD Cert.RefAttnIdeal.τ).loc Cert.RefAttnIdeal.main_arg2)
          ∧ r.2.mem ((c.tc : Thread Cert.RefAttnIdeal.nD Cert.RefAttnIdeal.τ).loc Cert.RefAttnIdeal.main_arg3) = m' ((c.tc : Thread Cert.RefAttnIdeal.nD Cert.RefAttnIdeal.τ).loc Cert.RefAttnIdeal.main_arg3)
          ∧ r.2.mem ((c.tc : Thread Cert.RefAttnIdeal.nD Cert.RefAttnIdeal.τ).loc Cert.RefAttnIdeal.main_arg4) = m' ((c.tc : Thread Cert.RefAttnIdeal.nD Cert.RefAttnIdeal.τ).loc Cert.RefAttnIdeal.main_arg4)
          ∧ r.2.mem ((c.tc : Thread Cert.RefAttnIdeal.nD Cert.RefAttnIdeal.τ).loc Cert.RefAttnIdeal.main_arg5) = m' ((c.tc : Thread Cert.RefAttnIdeal.nD Cert.RefAttnIdeal.τ).loc Cert.RefAttnIdeal.main_arg5)
          ∧ r.2.mem ((c.tc : Thread Cert.RefAttnIdeal.nD Cert.RefAttnIdeal.τ).loc Cert.RefAttnIdeal.main_arg6) = m' ((c.tc : Thread Cert.RefAttnIdeal.nD Cert.RefAttnIdeal.τ).loc Cert.RefAttnIdeal.main_arg6))

def preserves_Qkv_QkvIdeal : Prop :=
  True

def preserves_RefQkv_RefQkvIdeal : Prop :=
  IdealRules.named_const.Statement Cert.RefQkvIdeal.κ "ln2" .f32 0x3F317218#32 ((Real.log 2 : ℝ) : EReal)

def algebraic_QkvIdeal_RefQkvIdeal [hQkvIdeal : Cert.QkvIdeal.Facts] [hRefQkvIdeal : Cert.RefQkvIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.RefQkvIdeal.nD Cert.RefQkvIdeal.τ Cert.RefQkvIdeal.sig) → Buf (Elt Ideal) ℓ) (g' : Dev Cert.RefQkvIdeal.nD → PrngReg), Pre_QkvIdeal m →
    (∀ c : Dev Cert.QkvIdeal.nD,
      m' ((c.tc : Thread Cert.RefQkvIdeal.nD Cert.RefQkvIdeal.τ).loc Cert.RefQkvIdeal.main_arg0) = m ((c.tc : Thread Cert.QkvIdeal.nD Cert.QkvIdeal.τ).loc Cert.QkvIdeal.main_arg0)
      ∧ m' ((c.tc : Thread Cert.RefQkvIdeal.nD Cert.RefQkvIdeal.τ).loc Cert.RefQkvIdeal.main_arg1) = m ((c.tc : Thread Cert.QkvIdeal.nD Cert.QkvIdeal.τ).loc Cert.QkvIdeal.main_arg1)
      ∧ m' ((c.tc : Thread Cert.RefQkvIdeal.nD Cert.RefQkvIdeal.τ).loc Cert.RefQkvIdeal.main_arg2) = m ((c.tc : Thread Cert.QkvIdeal.nD Cert.QkvIdeal.τ).loc Cert.QkvIdeal.main_arg2)
      ∧ m' ((c.tc : Thread Cert.RefQkvIdeal.nD Cert.RefQkvIdeal.τ).loc Cert.RefQkvIdeal.main_arg3) = m ((c.tc : Thread Cert.QkvIdeal.nD Cert.QkvIdeal.τ).loc Cert.QkvIdeal.main_arg3)
      ∧ m' ((c.tc : Thread Cert.RefQkvIdeal.nD Cert.RefQkvIdeal.τ).loc Cert.RefQkvIdeal.main_arg4) = m ((c.tc : Thread Cert.QkvIdeal.nD Cert.QkvIdeal.τ).loc Cert.QkvIdeal.main_arg4)
      ∧ m' ((c.tc : Thread Cert.RefQkvIdeal.nD Cert.RefQkvIdeal.τ).loc Cert.RefQkvIdeal.main_arg5) = m ((c.tc : Thread Cert.QkvIdeal.nD Cert.QkvIdeal.τ).loc Cert.QkvIdeal.main_arg5)
      ∧ m' ((c.tc : Thread Cert.RefQkvIdeal.nD Cert.RefQkvIdeal.τ).loc Cert.RefQkvIdeal.main_arg6) = m ((c.tc : Thread Cert.QkvIdeal.nD Cert.QkvIdeal.τ).loc Cert.QkvIdeal.main_arg6)
      ∧ m' ((c.tc : Thread Cert.RefQkvIdeal.nD Cert.RefQkvIdeal.τ).loc Cert.RefQkvIdeal.main_arg7) = m ((c.tc : Thread Cert.QkvIdeal.nD Cert.QkvIdeal.τ).loc Cert.QkvIdeal.main_arg7)
      ∧ m' ((c.tc : Thread Cert.RefQkvIdeal.nD Cert.RefQkvIdeal.τ).loc Cert.RefQkvIdeal.main_arg8) = m ((c.tc : Thread Cert.QkvIdeal.nD Cert.QkvIdeal.τ).loc Cert.QkvIdeal.main_arg8)
      ∧ m' ((c.tc : Thread Cert.RefQkvIdeal.nD Cert.RefQkvIdeal.τ).loc Cert.RefQkvIdeal.main_arg9) = m ((c.tc : Thread Cert.QkvIdeal.nD Cert.QkvIdeal.τ).loc Cert.QkvIdeal.main_arg9)
      ∧ m' ((c.tc : Thread Cert.RefQkvIdeal.nD Cert.RefQkvIdeal.τ).loc Cert.RefQkvIdeal.main_arg10) = m ((c.tc : Thread Cert.QkvIdeal.nD Cert.QkvIdeal.τ).loc Cert.QkvIdeal.main_arg10)) →
    ∃ (v0 : (c : Dev Cert.QkvIdeal.nD) → Buf (Elt Ideal) ((c.tc : Thread Cert.QkvIdeal.nD Cert.QkvIdeal.τ).loc Cert.QkvIdeal.main_v7_0)) (v1 : (c : Dev Cert.QkvIdeal.nD) → Buf (Elt Ideal) ((c.tc : Thread Cert.QkvIdeal.nD Cert.QkvIdeal.τ).loc Cert.QkvIdeal.main_v7_1)) (v2 : (c : Dev Cert.QkvIdeal.nD) → Buf (Elt Ideal) ((c.tc : Thread Cert.QkvIdeal.nD Cert.QkvIdeal.τ).loc Cert.QkvIdeal.main_v7_2)) (v3 : (c : Dev Cert.QkvIdeal.nD) → Buf (Elt Ideal) ((c.tc : Thread Cert.QkvIdeal.nD Cert.QkvIdeal.τ).loc Cert.QkvIdeal.main_v7_3)) (v4 : (c : Dev Cert.QkvIdeal.nD) → Buf (Elt Ideal) ((c.tc : Thread Cert.QkvIdeal.nD Cert.QkvIdeal.τ).loc Cert.QkvIdeal.main_v7_4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v7_0) = v0 c
          ∧ r.2.mem ((c.tc : Thread Cert.QkvIdeal.nD Cert.QkvIdeal.τ).loc Cert.QkvIdeal.main_v7_1) = v1 c
          ∧ r.2.mem ((c.tc : Thread Cert.QkvIdeal.nD Cert.QkvIdeal.τ).loc Cert.QkvIdeal.main_v7_2) = v2 c
          ∧ r.2.mem ((c.tc : Thread Cert.QkvIdeal.nD Cert.QkvIdeal.τ).loc Cert.QkvIdeal.main_v7_3) = v3 c
          ∧ r.2.mem ((c.tc : Thread Cert.QkvIdeal.nD Cert.QkvIdeal.τ).loc Cert.QkvIdeal.main_v7_4) = v4 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9)
          ∧ r.2.mem ((c.tc : Thread Cert.QkvIdeal.nD Cert.QkvIdeal.τ).loc Cert.QkvIdeal.main_arg10) = m ((c.tc : Thread Cert.QkvIdeal.nD Cert.QkvIdeal.τ).loc Cert.QkvIdeal.main_arg10))
      ∧ θ_run (Cert.RefQkvIdeal.defs (F := Ideal)) (onTc (τ := Cert.RefQkvIdeal.τ) (Cert.RefQkvIdeal.main (F := Ideal))) ⟨m', fun _ => 0, g'⟩ (fun r => ∀ c : Dev Cert.RefQkvIdeal.nD,
          r.2.mem ((c.tc : Thread Cert.RefQkvIdeal.nD Cert.RefQkvIdeal.τ).loc Cert.RefQkvIdeal.main_v25_0) = v0 c
          ∧ r.2.mem ((c.tc : Thread Cert.RefQkvIdeal.nD Cert.RefQkvIdeal.τ).loc Cert.RefQkvIdeal.main_v25_1) = v1 c
          ∧ r.2.mem ((c.tc : Thread Cert.RefQkvIdeal.nD Cert.RefQkvIdeal.τ).loc Cert.RefQkvIdeal.main_v25_2) = v2 c
          ∧ r.2.mem ((c.tc : Thread Cert.RefQkvIdeal.nD Cert.RefQkvIdeal.τ).loc Cert.RefQkvIdeal.main_v25_3) = v3 c
          ∧ r.2.mem ((c.tc : Thread Cert.RefQkvIdeal.nD Cert.RefQkvIdeal.τ).loc Cert.RefQkvIdeal.main_v25_4) = v4 c
          ∧ r.2.mem ((c.tc : Thread Cert.RefQkvIdeal.nD Cert.RefQkvIdeal.τ).loc Cert.RefQkvIdeal.main_arg0) = m' ((c.tc : Thread Cert.RefQkvIdeal.nD Cert.RefQkvIdeal.τ).loc Cert.RefQkvIdeal.main_arg0)
          ∧ r.2.mem ((c.tc : Thread Cert.RefQkvIdeal.nD Cert.RefQkvIdeal.τ).loc Cert.RefQkvIdeal.main_arg1) = m' ((c.tc : Thread Cert.RefQkvIdeal.nD Cert.RefQkvIdeal.τ).loc Cert.RefQkvIdeal.main_arg1)
          ∧ r.2.mem ((c.tc : Thread Cert.RefQkvIdeal.nD Cert.RefQkvIdeal.τ).loc Cert.RefQkvIdeal.main_arg2) = m' ((c.tc : Thread Cert.RefQkvIdeal.nD Cert.RefQkvIdeal.τ).loc Cert.RefQkvIdeal.main_arg2)
          ∧ r.2.mem ((c.tc : Thread Cert.RefQkvIdeal.nD Cert.RefQkvIdeal.τ).loc Cert.RefQkvIdeal.main_arg3) = m' ((c.tc : Thread Cert.RefQkvIdeal.nD Cert.RefQkvIdeal.τ).loc Cert.RefQkvIdeal.main_arg3)
          ∧ r.2.mem ((c.tc : Thread Cert.RefQkvIdeal.nD Cert.RefQkvIdeal.τ).loc Cert.RefQkvIdeal.main_arg4) = m' ((c.tc : Thread Cert.RefQkvIdeal.nD Cert.RefQkvIdeal.τ).loc Cert.RefQkvIdeal.main_arg4)
          ∧ r.2.mem ((c.tc : Thread Cert.RefQkvIdeal.nD Cert.RefQkvIdeal.τ).loc Cert.RefQkvIdeal.main_arg5) = m' ((c.tc : Thread Cert.RefQkvIdeal.nD Cert.RefQkvIdeal.τ).loc Cert.RefQkvIdeal.main_arg5)
          ∧ r.2.mem ((c.tc : Thread Cert.RefQkvIdeal.nD Cert.RefQkvIdeal.τ).loc Cert.RefQkvIdeal.main_arg6) = m' ((c.tc : Thread Cert.RefQkvIdeal.nD Cert.RefQkvIdeal.τ).loc Cert.RefQkvIdeal.main_arg6)
          ∧ r.2.mem ((c.tc : Thread Cert.RefQkvIdeal.nD Cert.RefQkvIdeal.τ).loc Cert.RefQkvIdeal.main_arg7) = m' ((c.tc : Thread Cert.RefQkvIdeal.nD Cert.RefQkvIdeal.τ).loc Cert.RefQkvIdeal.main_arg7)
          ∧ r.2.mem ((c.tc : Thread Cert.RefQkvIdeal.nD Cert.RefQkvIdeal.τ).loc Cert.RefQkvIdeal.main_arg8) = m' ((c.tc : Thread Cert.RefQkvIdeal.nD Cert.RefQkvIdeal.τ).loc Cert.RefQkvIdeal.main_arg8)
          ∧ r.2.mem ((c.tc : Thread Cert.RefQkvIdeal.nD Cert.RefQkvIdeal.τ).loc Cert.RefQkvIdeal.main_arg9) = m' ((c.tc : Thread Cert.RefQkvIdeal.nD Cert.RefQkvIdeal.τ).loc Cert.RefQkvIdeal.main_arg9)
          ∧ r.2.mem ((c.tc : Thread Cert.RefQkvIdeal.nD Cert.RefQkvIdeal.τ).loc Cert.RefQkvIdeal.main_arg10) = m' ((c.tc : Thread Cert.RefQkvIdeal.nD Cert.RefQkvIdeal.τ).loc Cert.RefQkvIdeal.main_arg10))

def Claim : Prop :=
  ∃ (hAttn : Cert.Attn.Facts) (hAttnIdeal : Cert.AttnIdeal.Facts) (hRefAttnIdeal : Cert.RefAttnIdeal.Facts) (hRefAttn : Cert.RefAttn.Facts) (hQkv : Cert.Qkv.Facts) (hQkvIdeal : Cert.QkvIdeal.Facts) (hRefQkvIdeal : Cert.RefQkvIdeal.Facts) (hRefQkv : Cert.RefQkv.Facts) (hPre_finite_qk : Cert.Pre_finite_qk.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_RefAttnIdeal (hRefAttnIdeal := hRefAttnIdeal)
    ∧ quiescent_RefAttnIdeal_pre_finite_qk (hRefAttnIdeal := hRefAttnIdeal) (hPre_finite_qk := hPre_finite_qk)
    ∧ quiescent_RefAttn (hRefAttn := hRefAttn)
    ∧ quiescent_Qkv (hQkv := hQkv)
    ∧ quiescent_QkvIdeal (hQkvIdeal := hQkvIdeal)
    ∧ quiescent_RefQkvIdeal (hRefQkvIdeal := hRefQkvIdeal)
    ∧ quiescent_RefQkv (hRefQkv := hRefQkv)
    ∧ preserves_Attn_AttnIdeal
    ∧ preserves_RefAttn_RefAttnIdeal
    ∧ algebraic_AttnIdeal_RefAttnIdeal_pre_finite_qk (hAttnIdeal := hAttnIdeal) (hRefAttnIdeal := hRefAttnIdeal) (hPre_finite_qk := hPre_finite_qk)
    ∧ preserves_Qkv_QkvIdeal
    ∧ preserves_RefQkv_RefQkvIdeal
    ∧ algebraic_QkvIdeal_RefQkvIdeal (hQkvIdeal := hQkvIdeal) (hRefQkvIdeal := hRefQkvIdeal)
-- ==== Pre_finite_qk.lean ====
abbrev S20x4096x512 : Shape := ⟨3, ![20, 4096, 512]⟩
abbrev S512x512 : Shape := ⟨2, ![512, 512]⟩
abbrev S512 : Shape := ⟨1, ![512]⟩
abbrev S_ : Shape := ⟨0, ![]⟩

class Facts : Prop where
  bcast_S_S20x4096x512 : S_.BroadcastsInDim S20x4096x512 (![] : Fin 0 → Fin S20x4096x512.rank)

variable [Facts]

def fn {F : FTy → Type} [FloatOps F] (main_arg0 : FVec F S20x4096x512 .bf16) (main_arg1 : FVec F S20x4096x512 .bf16) (main_arg2 : FVec F S20x4096x512 .bf16) (main_arg3 : FVec F S20x4096x512 .bf16) (main_arg4 : FVec F S512x512 .fp8e4m3) (main_arg5 : FVec F S512 .f32) (main_arg6 : FVec F S512 .f32) : IVec S20x4096x512 1 :=
  let main_v0 : FVec F S20x4096x512 .bf16 := Host.absf main_arg0
  let main_cst : FVec F S_ .bf16 := constant S_ .bf16 0x7F80#16
  let main_v1 : FVec F S20x4096x512 .bf16 := broadcastInDim S20x4096x512 ![] bcast_S_S20x4096x512 main_cst
  let main_v2 : IVec S20x4096x512 1 := cmpf .olt main_v0 main_v1
  let main_v3 : FVec F S20x4096x512 .bf16 := Host.absf main_arg1
  let main_cst_0 : FVec F S_ .bf16 := constant S_ .bf16 0x7F80#16
  let main_v4 : FVec F S20x4096x512 .bf16 := broadcastInDim S20x4096x512 ![] bcast_S_S20x4096x512 main_cst_0
  let main_v5 : IVec S20x4096x512 1 := cmpf .olt main_v3 main_v4
  let main_v6 : IVec S20x4096x512 1 := andi main_v2 main_v5
  main_v6
-- ==== Attn.lean ====
abbrev S20x4096x512 : Shape := ⟨3, ![20, 4096, 512]⟩
abbrev S512x512 : Shape := ⟨2, ![512, 512]⟩
abbrev S512 : Shape := ⟨1, ![512]⟩
abbrev S1x512 : Shape := ⟨2, ![1, 512]⟩
abbrev S20x4096 : Shape := ⟨2, ![20, 4096]⟩
abbrev S1x1024x512 : Shape := ⟨3, ![1, 1024, 512]⟩
abbrev S1x4096x512 : Shape := ⟨3, ![1, 4096, 512]⟩
abbrev S2x512x4096 : Shape := ⟨3, ![2, 512, 4096]⟩
abbrev S1x512x512 : Shape := ⟨3, ![1, 512, 512]⟩
abbrev S512x128 : Shape := ⟨2, ![512, 128]⟩
abbrev S512x1 : Shape := ⟨2, ![512, 1]⟩
abbrev S512x256 : Shape := ⟨2, ![512, 256]⟩
abbrev S128x128 : Shape := ⟨2, ![128, 128]⟩
abbrev S128x1 : Shape := ⟨2, ![128, 1]⟩
abbrev S128 : Shape := ⟨1, ![128]⟩
abbrev S1x128 : Shape := ⟨2, ![1, 128]⟩

abbrev nBuf : Space → Nat
  | .hbm => 13
  | .vmem => 19
  | .smem => 0
  | _ => 0

abbrev bufTy : (tb : Table) → Fin (tcTables nBuf tb) → BufTy
  | .hbm, ⟨0, _⟩ => ⟨S20x4096x512, .bf16⟩
  | .hbm, ⟨1, _⟩ => ⟨S20x4096x512, .bf16⟩
  | .hbm, ⟨2, _⟩ => ⟨S20x4096x512, .bf16⟩
  | .hbm, ⟨3, _⟩ => ⟨S20x4096x512, .bf16⟩
  | .hbm, ⟨4, _⟩ => ⟨S512x512, .fp8e4m3⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S20x4096x512, .bf16⟩
  | .hbm, ⟨10, _⟩ => ⟨S20x4096x512, .bf16⟩
  | .hbm, ⟨11, _⟩ => ⟨S20x4096x512, .fp8e4m3⟩
  | .hbm, ⟨12, _⟩ => ⟨S20x4096, .f32⟩
  | .local _ .vmem, ⟨0, _⟩ => ⟨S1x1024x512, .bf16⟩
  | .local _ .vmem, ⟨1, _⟩ => ⟨S1x1024x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S512x512, .fp8e4m3⟩
  | .local _ .vmem, ⟨9, _⟩ => ⟨S1x512, .f32⟩
  | .local _ .vmem, ⟨10, _⟩ => ⟨S1x512, .f32⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .fp8e4m3⟩
  | .local _ .vmem, ⟨16, _⟩ => ⟨S1x1024x512, .fp8e4m3⟩
  | .local _ .vmem, ⟨17, _⟩ => ⟨S20x4096, .f32⟩
  | .local _ .vmem, ⟨18, _⟩ => ⟨S2x512x4096, .f32⟩
  | _, _ => ⟨S20x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![20, 4], ![false, false]⟩

def k0_off1 (i : grid0.Coords) (c0_i32_403 : BitVec 32) : Fin 2 → Nat :=
  let arg0 : BitVec 32 := BitVec.ofNat 32 (i 0).val
  let v780 : Index := Scalar.indexCast arg0
  let arg1 : BitVec 32 := BitVec.ofNat 32 (i 1).val
  let c1024_i32 : BitVec 32 := 1024#32
  let v778 : BitVec 32 := Scalar.muli arg1 c1024_i32
  let v779 : BitVec 32 := Scalar.addi v778 c0_i32_403
  let v781 : Index := Scalar.indexCast v779
  ![v780.toNat, v781.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S20x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== AttnIdeal.lean ====
variable {F : FTy → Type} [FloatOps F] [Named F]
def κ : String → Option EReal := fun
  | "score_log2e" => some (((Real.sqrt 512)⁻¹ * (Real.log 2)⁻¹ : ℝ) : EReal)
  | _ => none
-- ==== RefAttnIdeal.lean ====
variable {F : FTy → Type} [FloatOps F] [Named F]
def κ : String → Option EReal := fun
  | "ln2" => some ((Real.log 2 : ℝ) : EReal)
  | "score" => some (((Real.sqrt 512)⁻¹ : ℝ) : EReal)
  | _ => none
-- ==== RefAttn.lean ====
abbrev S20x4096x512 : Shape := ⟨3, ![20, 4096, 512]⟩
abbrev S512x512 : Shape := ⟨2, ![512, 512]⟩
abbrev S512 : Shape := ⟨1, ![512]⟩
abbrev S20x4096 : Shape := ⟨2, ![20, 4096]⟩
abbrev S20x4096x4096 : Shape := ⟨3, ![20, 4096, 4096]⟩
abbrev S20x4096x1 : Shape := ⟨3, ![20, 4096, 1]⟩
abbrev S81920x512 : Shape := ⟨2, ![81920, 512]⟩
abbrev S1x1x512 : Shape := ⟨3, ![1, 1, 512]⟩

abbrev nBuf : Space → Nat
  | .hbm => 11
  | .vmem => 11
  | .smem => 0
  | _ => 0

abbrev bufTy : (tb : Table) → Fin (tcTables nBuf tb) → BufTy
  | .hbm, ⟨0, _⟩ => ⟨S20x4096x512, .bf16⟩
  | .hbm, ⟨1, _⟩ => ⟨S20x4096x512, .bf16⟩
  | .hbm, ⟨2, _⟩ => ⟨S20x4096x512, .bf16⟩
  | .hbm, ⟨3, _⟩ => ⟨S20x4096x512, .bf16⟩
  | .hbm, ⟨4, _⟩ => ⟨S512x512, .fp8e4m3⟩
  | .hbm, ⟨5, _⟩ => ⟨S512, .f32⟩
  | .hbm, ⟨6, _⟩ => ⟨S512, .f32⟩
  | .hbm, ⟨7, _⟩ => ⟨S20x4096x512, .bf16⟩
  | .hbm, ⟨8, _⟩ => ⟨S20x4096x512, .bf16⟩
  | .hbm, ⟨9, _⟩ => ⟨S20x4096x512, .fp8e4m3⟩
  | .hbm, ⟨10, _⟩ => ⟨S20x4096, .f32⟩
  | .local _ .vmem, ⟨0, _⟩ => ⟨S20x4096x512, .bf16⟩
  | .local _ .vmem, ⟨1, _⟩ => ⟨S20x4096x512, .bf16⟩
  | .local _ .vmem, ⟨2, _⟩ => ⟨S20x4096x512, .bf16⟩
  | .local _ .vmem, ⟨3, _⟩ => ⟨S20x4096x512, .bf16⟩
  | .local _ .vmem, ⟨4, _⟩ => ⟨S512x512, .fp8e4m3⟩
  | .local _ .vmem, ⟨5, _⟩ => ⟨S512, .f32⟩
  | .local _ .vmem, ⟨6, _⟩ => ⟨S512, .f32⟩
  | .local _ .vmem, ⟨7, _⟩ => ⟨S20x4096x512, .bf16⟩
  | .local _ .vmem, ⟨8, _⟩ => ⟨S20x4096x512, .bf16⟩
  | .local _ .vmem, ⟨9, _⟩ => ⟨S20x4096x512, .fp8e4m3⟩
  | .local _ .vmem, ⟨10, _⟩ => ⟨S20x4096, .f32⟩
  | _, _ => ⟨S20x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S20x4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S20x4096x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S20x4096x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S20x4096x512 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S20x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Qkv.lean ====
abbrev S20x4096x512 : Shape := ⟨3, ![20, 4096, 512]⟩
abbrev S512 : Shape := ⟨1, ![512]⟩
abbrev S512x512 : Shape := ⟨2, ![512, 512]⟩
abbrev S1x512 : Shape := ⟨2, ![1, 512]⟩
abbrev S20x4096 : Shape := ⟨2, ![20, 4096]⟩
abbrev S1x4096x512 : Shape := ⟨3, ![1, 4096, 512]⟩
abbrev S8x512 : Shape := ⟨2, ![8, 512]⟩
abbrev S1x256x512 : Shape := ⟨3, ![1, 256, 512]⟩
abbrev S256x512 : Shape := ⟨2, ![256, 512]⟩
abbrev S32x8x512 : Shape := ⟨3, ![32, 8, 512]⟩
abbrev S256 : Shape := ⟨1, ![256]⟩
abbrev S256x1 : Shape := ⟨2, ![256, 1]⟩
abbrev S256x256 : Shape := ⟨2, ![256, 256]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S1x256 : Shape := ⟨2, ![1, 256]⟩

abbrev nBuf : Space → Nat
  | .hbm => 23
  | .vmem => 21
  | .smem => 0
  | _ => 0

abbrev bufTy : (tb : Table) → Fin (tcTables nBuf tb) → BufTy
  | .hbm, ⟨0, _⟩ => ⟨S20x4096x512, .bf16⟩
  | .hbm, ⟨1, _⟩ => ⟨S512, .f32⟩
  | .hbm, ⟨2, _⟩ => ⟨S512, .f32⟩
  | .hbm, ⟨3, _⟩ => ⟨S512x512, .fp8e4m3⟩
  | .hbm, ⟨4, _⟩ => ⟨S512x512, .fp8e4m3⟩
  | .hbm, ⟨5, _⟩ => ⟨S512x512, .fp8e4m3⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S20x4096x512, .fp8e4m3⟩
  | .hbm, ⟨19, _⟩ => ⟨S20x4096, .f32⟩
  | .hbm, ⟨20, _⟩ => ⟨S20x4096x512, .bf16⟩
  | .hbm, ⟨21, _⟩ => ⟨S20x4096x512, .bf16⟩
  | .hbm, ⟨22, _⟩ => ⟨S20x4096x512, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x512, .f32⟩
  | .local _ .vmem, ⟨3, _⟩ => ⟨S1x512, .f32⟩
  | .local _ .vmem, ⟨4, _⟩ => ⟨S512x512, .fp8e4m3⟩
  | .local _ .vmem, ⟨5, _⟩ => ⟨S512x512, .fp8e4m3⟩
  | .local _ .vmem, ⟨6, _⟩ => ⟨S512x512, .fp8e4m3⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x4096x512, .fp8e4m3⟩
  | .local _ .vmem, ⟨13, _⟩ => ⟨S1x4096x512, .fp8e4m3⟩
  | .local _ .vmem, ⟨14, _⟩ => ⟨S20x4096, .f32⟩
  | .local _ .vmem, ⟨15, _⟩ => ⟨S1x4096x512, .bf16⟩
  | .local _ .vmem, ⟨16, _⟩ => ⟨S1x4096x512, .bf16⟩
  | .local _ .vmem, ⟨17, _⟩ => ⟨S1x4096x512, .bf16⟩
  | .local _ .vmem, ⟨18, _⟩ => ⟨S1x4096x512, .bf16⟩
  | .local _ .vmem, ⟨19, _⟩ => ⟨S1x4096x512, .bf16⟩
  | .local _ .vmem, ⟨20, _⟩ => ⟨S1x4096x512, .bf16⟩
  | _, _ => ⟨S20x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![20], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_off1 (k0_t1 : Fin k0_t1_loop.trips) : Fin 3 → Nat :=
  let c0 : Index := 0#32
  let c0_i32 : BitVec 32 := 0#32
  let c1_i32 : BitVec 32 := 1#32
  let arg17 : BitVec 32 := Scf.iv c0_i32 c1_i32 k0_t1
  let c256_i32 : BitVec 32 := 256#32
  let v89 : BitVec 32 := Scalar.muli arg17 c256_i32
  let v90 : Index := Scalar.indexCast v89
  let c0_39 : Index := 0#32
  ![0, v90.toNat, 0]
@[reducible] def k0_t2_loop : Scf.Loop 32 :=
  let c0_i32_12 : BitVec 32 := 0#32
  let c16_i32_13 : BitVec 32 := 16#32
  let v43 : BitVec 32 := Scalar.addi c0_i32_12 c16_i32_13
  let c1_i32_14 : BitVec 32 := 1#32
  ⟨c0_i32_12, v43, c1_i32_14⟩
def k0_off2 (k0_t2 : Fin k0_t2_loop.trips) : Fin 3 → Nat :=
  let c0 : Index := 0#32
  let c0_i32_12 : BitVec 32 := 0#32
  let c1_i32_14 : BitVec 32 := 1#32
  let arg17 : BitVec 32 := Scf.iv c0_i32_12 c1_i32_14 k0_t2
  let c256_i32 : BitVec 32 := 256#32
  let v89 : BitVec 32 := Scalar.muli arg17 c256_i32
  let v90 : Index := Scalar.indexCast v89
  let c0_39 : Index := 0#32
  ![0, v90.toNat, 0]
@[reducible] def k0_t3_loop : Scf.Loop 32 :=
  let c0_i32_35 : BitVec 32 := 0#32
  let c16_i32_36 : BitVec 32 := 16#32
  let v88 : BitVec 32 := Scalar.addi c0_i32_35 c16_i32_36
  let c1_i32_37 : BitVec 32 := 1#32
  ⟨c0_i32_35, v88, c1_i32_37⟩
def k0_off3 (k0_t3 : Fin k0_t3_loop.trips) : Fin 3 → Nat :=
  let c0 : Index := 0#32
  let c0_i32_35 : BitVec 32 := 0#32
  let c1_i32_37 : BitVec 32 := 1#32
  let arg17 : BitVec 32 := Scf.iv c0_i32_35 c1_i32_37 k0_t3
  let c256_i32_39 : BitVec 32 := 256#32
  let v90 : BitVec 32 := Scalar.muli arg17 c256_i32_39
  let v91 : Index := Scalar.indexCast v90
  let c0_40 : Index := 0#32
  ![0, v91.toNat, 0]
def k0_off4 (i : grid0.Coords) (k0_t3 : Fin k0_t3_loop.trips) : Fin 2 → Nat :=
  let arg0 : BitVec 32 := BitVec.ofNat 32 (i 0).val
  let v178 : Index := Scalar.indexCast arg0
  let c0_i32_35 : BitVec 32 := 0#32
  let c1_i32_37 : BitVec 32 := 1#32
  let arg17 : BitVec 32 := Scf.iv c0_i32_35 c1_i32_37 k0_t3
  let c256_i32 : BitVec 32 := 256#32
  let v89 : BitVec 32 := Scalar.muli arg17 c256_i32
  let v179 : Index := Scalar.indexCast v89
  ![v178.toNat, v179.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x4096x512 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S20x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x4096x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4096x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4096x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== RefQkvIdeal.lean ====
variable {F : FTy → Type} [FloatOps F] [Named F]
def κ : String → Option EReal := fun
  | "ln2" => some ((Real.log 2 : ℝ) : EReal)
  | _ => none
-- ==== RefQkv.lean ====
abbrev S20x4096x512 : Shape := ⟨3, ![20, 4096, 512]⟩
abbrev S512 : Shape := ⟨1, ![512]⟩
abbrev S512x512 : Shape := ⟨2, ![512, 512]⟩
abbrev S20x4096x32x16 : Shape := ⟨4, ![20, 4096, 32, 16]⟩
abbrev S_ : Shape := ⟨0, ![]⟩
abbrev S20x32 : Shape := ⟨2, ![20, 32]⟩
abbrev S20x1x32x1 : Shape := ⟨4, ![20, 1, 32, 1]⟩
abbrev S1x1x512 : Shape := ⟨3, ![1, 1, 512]⟩
abbrev S20x4096 : Shape := ⟨2, ![20, 4096]⟩
abbrev S20x4096x1 : Shape := ⟨3, ![20, 4096, 1]⟩
abbrev S81920x512 : Shape := ⟨2, ![81920, 512]⟩

abbrev nBuf : Space → Nat
  | .hbm => 46
  | .vmem => 14
  | .smem => 0
  | _ => 0

abbrev bufTy : (tb : Table) → Fin (tcTables nBuf tb) → BufTy
  | .hbm, ⟨0, _⟩ => ⟨S20x4096x512, .bf16⟩
  | .hbm, ⟨1, _⟩ => ⟨S512, .f32⟩
  | .hbm, ⟨2, _⟩ => ⟨S512, .f32⟩
  | .hbm, ⟨3, _⟩ => ⟨S512x512, .fp8e4m3⟩
  | .hbm, ⟨4, _⟩ => ⟨S512x512, .fp8e4m3⟩
  | .hbm, ⟨5, _⟩ => ⟨S512x512, .fp8e4m3⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S20x4096x512, .f32⟩
  | .hbm, ⟨12, _⟩ => ⟨S20x4096x32x16, .f32⟩
  | .hbm, ⟨13, _⟩ => ⟨S_, .f32⟩
  | .hbm, ⟨14, _⟩ => ⟨S20x32, .f32⟩
  | .hbm, ⟨15, _⟩ => ⟨S20x1x32x1, .f32⟩
  | .hbm, ⟨16, _⟩ => ⟨S_, .f32⟩
  | .hbm, ⟨17, _⟩ => ⟨S20x1x32x1, .f32⟩
  | .hbm, ⟨18, _⟩ => ⟨S20x1x32x1, .f32⟩
  | .hbm, ⟨19, _⟩ => ⟨S20x4096x32x16, .f32⟩
  | .hbm, ⟨20, _⟩ => ⟨S20x4096x32x16, .f32⟩
  | .hbm, ⟨21, _⟩ => ⟨S20x4096x32x16, .f32⟩
  | .hbm, ⟨22, _⟩ => ⟨S_, .f32⟩
  | .hbm, ⟨23, _⟩ => ⟨S20x32, .f32⟩
  | .hbm, ⟨24, _⟩ => ⟨S20x1x32x1, .f32⟩
  | .hbm, ⟨25, _⟩ => ⟨S_, .f32⟩
  | .hbm, ⟨26, _⟩ => ⟨S20x1x32x1, .f32⟩
  | .hbm, ⟨27, _⟩ => ⟨S20x1x32x1, .f32⟩
  | .hbm, ⟨28, _⟩ => ⟨S_, .f32⟩
  | .hbm, ⟨29, _⟩ => ⟨S20x1x32x1, .f32⟩
  | .hbm, ⟨30, _⟩ => ⟨S20x1x32x1, .f32⟩
  | .hbm, ⟨31, _⟩ => ⟨S20x1x32x1, .f32⟩
  | .hbm, ⟨32, _⟩ => ⟨S20x4096x32x16, .f32⟩
  | .hbm, ⟨33, _⟩ => ⟨S20x4096x32x16, .f32⟩
  | .hbm, ⟨34, _⟩ => ⟨S20x4096x512, .f32⟩
  | .hbm, ⟨35, _⟩ => ⟨S1x1x512, .f32⟩
  | .hbm, ⟨36, _⟩ => ⟨S20x4096x512, .f32⟩
  | .hbm, ⟨37, _⟩ => ⟨S20x4096x512, .f32⟩
  | .hbm, ⟨38, _⟩ => ⟨S1x1x512, .f32⟩
  | .hbm, ⟨39, _⟩ => ⟨S20x4096x512, .f32⟩
  | .hbm, ⟨40, _⟩ => ⟨S20x4096x512, .f32⟩
  | .hbm, ⟨41, _⟩ => ⟨S20x4096x512, .fp8e4m3⟩
  | .hbm, ⟨42, _⟩ => ⟨S20x4096, .f32⟩
  | .hbm, ⟨43, _⟩ => ⟨S20x4096x512, .bf16⟩
  | .hbm, ⟨44, _⟩ => ⟨S20x4096x512, .bf16⟩
  | .hbm, ⟨45, _⟩ => ⟨S20x4096x512, .bf16⟩
  | .local _ .vmem, ⟨0, _⟩ => ⟨S20x4096x512, .f32⟩
  | .local _ .vmem, ⟨1, _⟩ => ⟨S512x512, .fp8e4m3⟩
  | .local _ .vmem, ⟨2, _⟩ => ⟨S512x512, .fp8e4m3⟩
  | .local _ .vmem, ⟨3, _⟩ => ⟨S512x512, .fp8e4m3⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S512, .f32⟩
  | .local _ .vmem, ⟨9, _⟩ => ⟨S20x4096x512, .fp8e4m3⟩
  | .local _ .vmem, ⟨10, _⟩ => ⟨S20x4096, .f32⟩
  | .local _ .vmem, ⟨11, _⟩ => ⟨S20x4096x512, .bf16⟩
  | .local _ .vmem, ⟨12, _⟩ => ⟨S20x4096x512, .bf16⟩
  | .local _ .vmem, ⟨13, _⟩ => ⟨S20x4096x512, .bf16⟩
  | _, _ => ⟨S20x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev main_v25_3 : Ref sig .tc := ⟨.hbm, 44, rfl⟩
abbrev main_v25_4 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S20x4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S20x4096x512 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S20x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S20x4096x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S20x4096x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S20x4096x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.AttnFrame.lean ====
module

public import proofs.«01_k».proof.Proof.Gen.Attn.Frame
public import proofs.«01_k».proof.Proof.Gen.Attn.Skeleton
public import Idealize.ShloMosaic.Lib.Claim

@[expose] public section

-- membership in a rectangle of production extents (`View.cover_of_tiled`): the elaborator's structural look
-- recurses once per coordinate of the long axes
set_option maxRecDepth 16384

noncomputable section

namespace Cert.Attn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays after a run whose arrays start as the region finds them. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

abbrev ms0_0 (t : Fin cfg0.N) : Memref sig .tc .vmem S1x1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x512 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S20x4096 .f32 := win0_10.stage (cfg0.slots t 10)
abbrev hs0_10 (t : Fin cfg0.N) : (ms0_10 t).IsWhole := hstage0_10 ((cfg0.slots t 10).cast nbuf0_10)
abbrev scM0_0 : Memref sig .tc .vmem S2x512x4096 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1140000 in
theorem kernelRun0_A (c : Dev nD) (i : grid0.Coords) (arg2 : Memref sig .tc .vmem S1x1024x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x1024x512 .bf16) (harg5 : arg5.IsWhole) (arg6 : Memref sig .tc .vmem S512x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x1024x512 .fp8e4m3) (harg11 : arg11.IsWhole) (arg12 : Memref sig .tc .vmem S20x4096 .f32) (harg12 : arg12.IsWhole) (arg13 : Memref sig .tc .vmem S2x512x4096 .f32) (harg13 : arg13.IsWhole)
    (x0 : Vec F S1x1024x512 .bf16) (x1 : Vec F S1x4096x512 .bf16) (x2 : Vec F S1x4096x512 .bf16) (x3 : Vec F S1x1024x512 .bf16) (x4 : Vec F S512x512 .fp8e4m3) (x5 : Vec F S1x512 .f32) (x6 : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_attn_out i arg2 harg2 arg3 harg3 arg4 harg4 arg5 harg5 arg6 harg6 arg7 harg7 arg8 harg8 arg9 harg9 arg10 harg10 arg11 harg11 arg12 harg12 arg13 harg13) K := by
    intro E K
    simp only [cc0_attn_out_eq_skeleton]; unfold cc0_attn_out_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact HS0
    ipureintro; rfl

def forgets0 : Fin 11 → Bool := fun w => w.val == 7 || w.val == 8 || w.val == 9 || w.val == 10

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  unchanged_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Attn.Gen

end
-- ==== Proof.Blk.lean ====
module

public import Idealize.ShloMosaic.Lib.Pipeline
public import Idealize.ShloMosaic.Lib.Exec
public import Idealize.ShloMosaic.Lib.Pipeline.FrameBody
public import Idealize.ShloMosaic.PureOps
public import Idealize.ShloMosaic.Lib.Pointwise.Index
public import Idealize.ShloMosaic.Lib.WholeRead
public import Idealize.ShloMosaic.Lib.WritesUnit
public import Idealize.ShloMosaic.Lib.Pipeline.Value

@[expose] public section

set_option maxRecDepth 16384

noncomputable section

/-! What one grid point of the attention kernel computes, as functions of the blocks it reads: one
    512-row query block against the whole key and value arrays in chunks of 512 rows, the fp8
    quantiser of the result, and the output projection. -/

namespace Cert.Blk

open Idealize.ShloMosaic

abbrev SP : Shape := ⟨3, ![1, 512, 512]⟩
abbrev SM : Shape := ⟨2, ![512, 512]⟩
abbrev SL : Shape := ⟨2, ![512, 128]⟩
abbrev SC : Shape := ⟨2, ![512, 1]⟩
abbrev SV : Shape := ⟨1, ![512]⟩
abbrev SR : Shape := ⟨2, ![1, 512]⟩
abbrev SB : Shape := ⟨2, ![512, 256]⟩
abbrev SE : Shape := ⟨2, ![128, 128]⟩
abbrev SE1 : Shape := ⟨2, ![128, 1]⟩
abbrev S1E : Shape := ⟨2, ![1, 128]⟩
abbrev SEV : Shape := ⟨1, ![128]⟩
abbrev SQ : Shape := ⟨3, ![1, 1024, 512]⟩
abbrev SK : Shape := ⟨3, ![1, 4096, 512]⟩
abbrev SS : Shape := ⟨2, ![20, 4096]⟩

/-- Rows of the left operand against rows of the right one. -/
def dimsT : DotDims SM SM SM where
  lhsContracting := [1]
  rhsContracting := [1]
  lhsNonContracting := [0]
  rhsNonContracting := [0]
  lhsBatch := []
  rhsBatch := []
  wf := by decide

/-- Rows of the left operand against columns of the right one. -/
def dims : DotDims SM SM SM where
  lhsContracting := [1]
  rhsContracting := [0]
  lhsNonContracting := [0]
  rhsNonContracting := [1]
  lhsBatch := []
  rhsBatch := []
  wf := by decide

variable {F : FTy → Type} [FloatOps F]

/-- A one-image block read as a matrix. -/
def flat {e : EltTy} (x : Vec F SP e) : Vec F SM e := shapeCast SM x (by decide)

/-- A matrix as a one-image block. -/
def unflat {e : EltTy} (x : Vec F SM e) : Vec F SP e := shapeCast SP x (by decide)

/-- A column repeated along the lanes. -/
def wide (x : FVec F SC .f32) : FVec F SM .f32 := broadcastTo SM x (by decide)

/-- The scores of a query block against a key chunk. -/
def dotT (q k : Vec F SP .bf16) : FVec F SM .f32 :=
  matmul dimsT none (flat (e := .bf16) q) (flat (e := .bf16) k) (constant SM .f32 0x00000000#32)

/-- The four 128-lane slices of a matrix combined. -/
def start4 (op : FVec F SL .f32 → FVec F SL .f32 → FVec F SL .f32) (v : FVec F SM .f32) : FVec F SL .f32 :=
  op (op (op (extractStridedSlice SL ![0, 0] v (by decide)) (extractStridedSlice SL ![0, 128] v (by decide)))
    (extractStridedSlice SL ![0, 256] v (by decide))) (extractStridedSlice SL ![0, 384] v (by decide))

/-- The four 128-lane slices of a matrix combined onto an accumulator. -/
def fold4 (op : FVec F SL .f32 → FVec F SL .f32 → FVec F SL .f32) (a : FVec F SL .f32) (v : FVec F SM .f32) :
    FVec F SL .f32 :=
  op (op (op (op a (extractStridedSlice SL ![0, 0] v (by decide))) (extractStridedSlice SL ![0, 128] v (by decide)))
    (extractStridedSlice SL ![0, 256] v (by decide))) (extractStridedSlice SL ![0, 384] v (by decide))

/-- The 128-lane slices of eight chunks combined. -/
def lanes (op : FVec F SL .f32 → FVec F SL .f32 → FVec F SL .f32) (v : Fin 8 → FVec F SM .f32) : FVec F SL .f32 :=
  fold4 op (fold4 op (fold4 op (fold4 op (fold4 op (fold4 op (fold4 op (start4 op (v 0)) (v 1)) (v 2)) (v 3)) (v 4))
    (v 5)) (v 6)) (v 7)

/-- The row maximum of the scores. -/
def mx (q : Vec F SP .bf16) (k : Fin 8 → Vec F SP .bf16) : FVec F SC .f32 :=
  shapeCast SC (multiReduction .maximumf [1] SV (lanes maximumf fun j => dotT q (k j)) 0xFF800000#32 (by decide)
    (.inl rfl) rfl) (by decide)

/-- The exponentials of a chunk of scores, below the row maximum. -/
def ex (cst : F .f32) (m : FVec F SC .f32) (s : Vec F SP .f32) : FVec F SM .f32 :=
  exp2 (mulf (subf (flat (e := .f32) s) (wide m)) (broadcast SM cst))

/-- The exponentials of chunk `j`. -/
def exs (cst : F .f32) (q : Vec F SP .bf16) (k : Fin 8 → Vec F SP .bf16) (j : Fin 8) : FVec F SM .f32 :=
  ex cst (mx q k) (unflat (e := .f32) (dotT q (k j)))

/-- One over the row sums of the exponentials. -/
def rl (cst : F .f32) (q : Vec F SP .bf16) (k : Fin 8 → Vec F SP .bf16) : FVec F SC .f32 :=
  divf (broadcast SC (Scalar.ofBits .f32 0x3F800000#32))
    (shapeCast SC (multiReduction .add [1] SV (lanes addf fun j => exs cst q k j) 0x00000000#32 (by decide)
      (.inl rfl) rfl) (by decide))

/-- A chunk's share of the attention output. -/
def pv (r : FVec F SC .f32) (e : Vec F SP .f32) (v : Vec F SP .bf16) : FVec F SM .f32 :=
  matmul dims none (truncf .bf16 (mulf (flat (e := .f32) e) (wide r)) (by decide)) (flat (e := .bf16) v)
    (constant SM .f32 0x00000000#32)

/-- Chunk `j`'s share of the attention output. -/
def pvs (cst : F .f32) (q : Vec F SP .bf16) (k v : Fin 8 → Vec F SP .bf16) (j : Fin 8) : FVec F SM .f32 :=
  pv (rl cst q k) (unflat (e := .f32) (exs cst q k j)) (v j)

/-- The attention output of a query block. -/
def att (cst : F .f32) (q : Vec F SP .bf16) (k v : Fin 8 → Vec F SP .bf16) : FVec F SM .f32 :=
  addf (addf (addf (addf (addf (addf (addf (pvs cst q k v 0) (pvs cst q k v 1)) (pvs cst q k v 2)) (pvs cst q k v 3))
    (pvs cst q k v 4)) (pvs cst q k v 5)) (pvs cst q k v 6)) (pvs cst q k v 7)

/-- The largest magnitude of a row over the largest code. -/
def amax (o : FVec F SM .f32) : FVec F SC .f32 :=
  mulf (shapeCast SC (multiReduction .maximumf [1] SV (absf o) 0xFF800000#32 (by decide) (.inl rfl) rfl) (by decide))
    (broadcast SC (Scalar.ofBits .f32 0x3B124925#32))

/-- The powers of two compared with: lane `k` holds `2 ^ (k - 127)`, the last lanes infinity. -/
def pows : FVec F SB .f32 :=
  bitcastToFloat .f32 (shli (select (cmpi .sgt (iota .tc SB 32 [1] (by decide)) (broadcast SB 252#32))
    (broadcast SB 255#32) (iota .tc SB 32 [1] (by decide))) (broadcast SB 23#32))

/-- How many of the powers lie at or below a row's scaled maximum. -/
def cnt (a : FVec F SC .f32) : IVec SC 32 :=
  shapeCast SC (multiReductionI .add [1] SV
    (select (andi (cmpi .sgt (iota .tc SB 32 [1] (by decide)) (broadcast SB 0#32))
      (cmpf .oge (broadcastTo SB a (by decide)) pows)) (broadcast SB 1#32) (broadcast SB 0#32)) 0#32
    (by decide) rfl) (by decide)

/-- The exponent of a row's scale. -/
def expo (n : IVec SC 32) : IVec SC 32 :=
  select (ori (cmpi .eq n (broadcast SC 0#32)) (cmpi .eq n (broadcast SC 255#32))) (broadcast SC 0#32)
    (subi n (broadcast SC 126#32))

/-- A row's scale, a power of two. -/
def scale (o : FVec F SM .f32) : FVec F SC .f32 :=
  bitcastToFloat .f32 (shli (addi (expo (cnt (amax o))) (broadcast SC 127#32)) (broadcast SC 23#32))

/-- One over a row's scale. -/
def inv (o : FVec F SM .f32) : FVec F SC .f32 :=
  bitcastToFloat .f32 (shli (subi (broadcast SC 127#32) (expo (cnt (amax o)))) (broadcast SC 23#32))

/-- The codes of a matrix. -/
def codes (o : FVec F SM .f32) : FVec F SM .fp8e4m3 :=
  truncf .fp8e4m3 (minimumf (broadcast SM (Scalar.ofBits .f32 0x43E00000#32))
    (maximumf (broadcast SM (Scalar.ofBits .f32 0xC3E00000#32)) (mulf o (wide (inv o))))) (by decide)

/-- 128 entries of a column as a row: the diagonal of the column repeated, summed down. -/
def rowPart (s : FVec F SE1 .f32) : FVec F S1E .f32 :=
  shapeCast S1E (multiReduction .add [0] SEV
    (select (cmpi .eq (iota .tc SE 32 [0] (by decide)) (iota .tc SE 32 [1] (by decide)))
      (broadcastTo SE (shapeCast SE1 s (by decide)) (by decide)) (broadcast SE (Scalar.ofBits .f32 0x00000000#32)))
    0x00000000#32 (by decide) (.inl rfl) rfl) (by decide)

/-- A column as a row. -/
def rowOf (s : FVec F SC .f32) : FVec F SR .f32 :=
  concatenate SR 1 [⟨S1E, rowPart (extractStridedSlice SE1 ![0, 0] s (by decide))⟩,
    ⟨S1E, rowPart (extractStridedSlice SE1 ![128, 0] s (by decide))⟩,
    ⟨S1E, rowPart (extractStridedSlice SE1 ![256, 0] s (by decide))⟩,
    ⟨S1E, rowPart (extractStridedSlice SE1 ![384, 0] s (by decide))⟩]
    (by show Shape.Concatenates [S1E, S1E, S1E, S1E] SR 1; decide)

/-- The output projection of a quantised block. -/
def proj (o : FVec F SM .f32) (w : Vec F SM .fp8e4m3) (sc b : Vec F SR .f32) : FVec F SM .f32 :=
  addf (mulf (mulf (matmul dims none (codes o) w (constant SM .f32 0x00000000#32)) (wide (scale o)))
    (broadcastTo SM (shapeCast SR sc (by decide)) (by decide))) (broadcastTo SM (shapeCast SR b (by decide)) (by decide))

/-- The block of the projection result. -/
def projP (o : FVec F SM .f32) (w : Vec F SM .fp8e4m3) (sc b : Vec F SR .f32) : Vec F SP .bf16 :=
  unflat (e := .bf16) (truncf .bf16 (proj o w sc b) (by decide))

/-- The block of the residual sum. -/
def resP (o : FVec F SM .f32) (x : Vec F SP .bf16) (w : Vec F SM .fp8e4m3) (sc b : Vec F SR .f32) : Vec F SP .bf16 :=
  unflat (e := .bf16) (truncf .bf16 (addf (extf .f32 (flat (e := .bf16) x) (by decide)) (proj o w sc b)) (by decide))

/-- The block of codes. -/
def codesP (o : FVec F SM .f32) : Vec F SP .fp8e4m3 := unflat (e := .fp8e4m3) (codes o)

/-- Half `n` of a block of 1024 rows. -/
def half {e : EltTy} (X : Vec F SQ e) (n : Fin 2) : Vec F SP e :=
  View.ld X (Rect.unit ![0, 512 * n, 0] ![1, 512, 512] (by revert n; decide))

/-- Chunk `j` of an array of 4096 rows. -/
def chunk {e : EltTy} (X : Vec F SK e) (j : Fin 8) : Vec F SP e :=
  View.ld X (Rect.unit ![0, 512 * j, 0] ![1, 512, 512] (by revert j; decide))

/-- The attention output of half `n` of a query block. -/
def attO (cst : F .f32) (q : Vec F SQ .bf16) (k v : Vec F SK .bf16) (n : Fin 2) : FVec F SM .f32 :=
  att cst (half q n) (chunk k) (chunk v)

/-- Two 512-row blocks one under the other. -/
def two {e : EltTy} (b : Fin 2 → Vec F SP e) : Vec F SQ e := fun j =>
  if h : (j 1).val < 512 then b 0 (ix3 0 ⟨(j 1).val, h⟩ (j 2))
  else b 1 (ix3 0 ⟨(j 1).val - 512, by have := (j 1).isLt; change _ < 1024 at this; omega⟩ (j 2))

/-- An array of 4096 columns with columns `1024 g` to `1024 g + 1024` of row `a` replaced by two runs of 512. -/
def put (d : Vec F SS .f32) (a g : ℕ) (b : Fin 2 → Vec F SR .f32) : Vec F SS .f32 := fun j =>
  if (j 0).val = a ∧ 1024 * g ≤ (j 1).val ∧ (j 1).val < 1024 * g + 1024 then
    if h : (j 1).val - 1024 * g < 512 then b 0 (ix2 0 ⟨(j 1).val - 1024 * g, h⟩)
    else b 1 (ix2 0 ⟨((j 1).val - 1024 * g) % 512, Nat.mod_lt _ (by omega)⟩)
  else d j

variable {sig : RefSig} {sp : Space}

theorem readAt_ld {s : Shape} {e : EltTy} {mr : Memref sig .tc sp s e} (h : mr.IsWhole) (X : Vec F s e) (r : Rect s) :
    View.readAt (Elt F) mr.view r.toLoadRect (h.unread X) = View.ld X r := funext (h.readAt_unread X _)

theorem zero2 : (![0, 0] : Fin 2 → ℕ) = fun _ => 0 := by decide

theorem ld_whole2 {d : Fin 2 → ℕ} {e : EltTy} (X : Vec F (⟨2, d⟩ : Shape) e) (h) :
    View.ld X (Rect.unit (s := ⟨2, d⟩) ![0, 0] (Shape.size ⟨2, d⟩) h) = X := View.ld_unit_zero zero2 h X

/-- Reading back two 512-row stores. -/
theorem read_two {e : EltTy} (v : View sig .tc sp SQ e) (f : v.ty.Contents (Elt F)) {b0 b1 : Vec F SP e} {B : Fin 2 → Vec F SP e}
    (h1 h0) (e1 : b1 = B 1) (e0 : b0 = B 0) :
    v.read (Elt F) (v.writes (Elt F) f [⟨Rect.unit ![0, 512, 0] ![1, 512, 512] h1, b1⟩, ⟨Rect.unit ![0, 0, 0] ![1, 512, 512] h0, b0⟩])
      = two B := by
  subst e1 e0
  funext j
  have hj0 : (j 0).val < 1 := (j 0).isLt
  have hj1 : (j 1).val < 1024 := (j 1).isLt
  have hj2 : (j 2).val < 512 := (j 2).isLt
  by_cases h : (j 1).val < 512
  · rw [View.read_writes_cons_unit_of_not_mem v f h1 _ _ j rfl 1 (Or.inl h),
      View.read_writes_cons_unit_of_mem v f h0 _ _ j (ix3 0 ⟨(j 1).val, h⟩ (j 2)) rfl (by
        intro a; fin_cases a
        · show (j 0).val = 0 + 0; omega
        · show (j 1).val = 0 + (j 1).val; omega
        · show (j 2).val = 0 + (j 2).val; omega)]
    unfold two; rw [dif_pos h]
  · rw [View.read_writes_cons_unit_of_mem v f h1 _ _ j (ix3 0 ⟨(j 1).val - 512, by omega⟩ (j 2)) rfl (by
        intro a; fin_cases a
        · show (j 0).val = 0 + 0; omega
        · show (j 1).val = 512 + ((j 1).val - 512); omega
        · show (j 2).val = 0 + (j 2).val; omega)]
    unfold two; rw [dif_neg h]

/-- Reading back two 512-column stores into one row. -/
theorem read_put (v : View sig .tc sp SS .f32) (f : v.ty.Contents (Elt F)) {d : Vec F SS .f32} {a g : ℕ} {b0 b1 : Vec F SR .f32}
    {B : Fin 2 → Vec F SR .f32} {o0 o1 : Fin 2 → ℕ} (h1 h0) (ho1 : o1 = ![a, 1024 * g + 512]) (ho0 : o0 = ![a, 1024 * g])
    (hd : v.read (Elt F) f = d) (e1 : b1 = B 1) (e0 : b0 = B 0) :
    v.read (Elt F) (v.writes (Elt F) f [⟨Rect.unit o1 ![1, 512] h1, b1⟩, ⟨Rect.unit o0 ![1, 512] h0, b0⟩])
      = put d a g B := by
  subst e1 e0 hd
  funext j
  unfold put
  by_cases ha : (j 0).val = a
  · by_cases hg : 1024 * g ≤ (j 1).val ∧ (j 1).val < 1024 * g + 1024
    · rw [if_pos ⟨ha, hg⟩]
      by_cases h : (j 1).val - 1024 * g < 512
      · rw [dif_pos h, View.read_writes_cons_unit_of_not_mem v f h1 _ _ j ho1 1 (Or.inl (by show (j 1).val < 1024 * g + 512; omega)),
          View.read_writes_cons_unit_of_mem v f h0 _ _ j (ix2 0 ⟨(j 1).val - 1024 * g, h⟩) ho0 (by
            intro a; fin_cases a
            · show (j 0).val = _ + 0; exact ha
            · show (j 1).val = 1024 * g + ((j 1).val - 1024 * g); omega)]
      · rw [dif_neg h, View.read_writes_cons_unit_of_mem v f h1 _ _ j (ix2 0 ⟨((j 1).val - 1024 * g) % 512, Nat.mod_lt _ (by omega)⟩) ho1 (by
            intro a; fin_cases a
            · show (j 0).val = _ + 0; exact ha
            · show (j 1).val = 1024 * g + 512 + ((j 1).val - 1024 * g) % 512; omega)]
    · rw [if_neg (fun h => hg h.2), View.read_writes_cons_unit_of_not_mem v f h1 _ _ j ho1 1 (by show (j 1).val < 1024 * g + 512 ∨ 1024 * g + 512 + 512 ≤ (j 1).val; omega),
        View.read_writes_cons_unit_of_not_mem v f h0 _ _ j ho0 1 (by show (j 1).val < 1024 * g ∨ 1024 * g + 512 ≤ (j 1).val; omega)]
      rfl
  · rw [if_neg (fun h => ha h.1), View.read_writes_cons_unit_of_not_mem v f h1 _ _ j ho1 0 (by show (j 0).val < a ∨ a + 1 ≤ (j 0).val; omega),
        View.read_writes_cons_unit_of_not_mem v f h0 _ _ j ho0 0 (by show (j 0).val < a ∨ a + 1 ≤ (j 0).val; omega)]
    rfl

end Cert.Blk

end
-- ==== Proof.AttnRun.lean ====
module

public import proofs.«01_k».proof.Proof.Gen.AttnIdeal.Frame
public import proofs.«01_k».proof.Proof.Gen.AttnIdeal.Skeleton
public import proofs.«01_k».proof.Proof.Blk
public import Idealize.ShloMosaic.Lib.WholeRead
public import Idealize.ShloMosaic.Lib.WritesUnit
public import Idealize.ShloMosaic.Lib.Pipeline.ReadBack

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 8000000 in
/-- What one grid point does: from the seven input blocks it fills the three output blocks, and in the array of
    scales it replaces the 1024 columns of its own query blocks. -/
theorem kernelRun0_A (c : Dev nD) (i : grid0.Coords) (arg2 : Memref sig .tc .vmem S1x1024x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x1024x512 .bf16) (harg5 : arg5.IsWhole) (arg6 : Memref sig .tc .vmem S512x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x1024x512 .fp8e4m3) (harg11 : arg11.IsWhole) (arg12 : Memref sig .tc .vmem S20x4096 .f32) (harg12 : arg12.IsWhole) (arg13 : Memref sig .tc .vmem S2x512x4096 .f32) (harg13 : arg13.IsWhole)
    (x0 : Vec F S1x1024x512 .bf16) (x1 : Vec F S1x4096x512 .bf16) (x2 : Vec F S1x4096x512 .bf16) (x3 : Vec F S1x1024x512 .bf16) (x4 : Vec F S512x512 .fp8e4m3) (x5 : Vec F S1x512 .f32) (x6 : Vec F S1x512 .f32) (d10 : Vec F S20x4096 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare d10 ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (Blk.two fun n => Blk.resP (Blk.attO (Named.named κ "score_log2e" 0x3D8293EE#32) x0 x1 x2 n) (Blk.half (e := .bf16) x3 n) x4 x5 x6) ∗ owns (c : Thread nD τ) arg10 fullShare (Blk.two fun n => Blk.projP (Blk.attO (Named.named κ "score_log2e" 0x3D8293EE#32) x0 x1 x2 n) x4 x5 x6) ∗ owns (c : Thread nD τ) arg11 fullShare (Blk.two fun n => Blk.codesP (Blk.attO (Named.named κ "score_log2e" 0x3D8293EE#32) x0 x1 x2 n)) ∗ owns (c : Thread nD τ) arg12 fullShare (Blk.put d10 (i 0).val (i 1).val fun n => Blk.rowOf (Blk.scale (Blk.attO (Named.named κ "score_log2e" 0x3D8293EE#32) x0 x1 x2 n))) ∗ (∃ d, owns (c : Thread nD τ) arg13 fullShare d)) -∗ K ⟨⟩))
          ⊢ wp frame (wpE (defs₀ (F := F)) Variants.none c none) E (cc0_attn_out i arg2 harg2 arg3 harg3 arg4 harg4 arg5 harg5 arg6 harg6 arg7 harg7 arg8 harg8 arg9 harg9 arg10 harg10 arg11 harg11 arg12 harg12 arg13 harg13) K := by
    intro E K
    simp only [cc0_attn_out_eq_skeleton]; unfold cc0_attn_out_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    have e_r_7 : kernelRun0_A.sl.r_7 c arg2 harg2 arg3 harg3 x0 x1 = Blk.mx (Blk.half (e := .bf16) x0 0) (Blk.chunk (e := .bf16) x1) := by
      delta kernelRun0_A.sl.r_7 kernelRun0_A.sl.r_6 kernelRun0_A.sl.r_5 kernelRun0_A.sl.r_4 kernelRun0_A.sl.r_2 kernelRun0_A.sl.r kernelRun0_A.sl.r_1 kernelRun0_A.sl.cst_40 kernelRun0_A.sl.r_3
      simp (disch := decide) only [↓View.readCov_skip, View.readCov_cons_toLoadRect, Blk.readAt_ld]
      rfl
    have e_v144 : kernelRun0_A.sl.v144 c arg2 harg2 arg3 harg3 arg13 x0 x1 = Blk.unflat (e := .f32) (Blk.dotT (Blk.half (e := .bf16) x0 0) ((Blk.chunk (e := .bf16) x1) 0)) := by
      delta kernelRun0_A.sl.v144 kernelRun0_A.sl.HS0_9 kernelRun0_A.sl.r_3 kernelRun0_A.sl.r_4 kernelRun0_A.sl.r_1 kernelRun0_A.sl.cst_40 kernelRun0_A.sl.r_6
      simp (disch := decide) only [↓View.readCov_skip, View.readCov_cons_toLoadRect, Blk.readAt_ld]
      rfl
    have e_v177 : kernelRun0_A.sl.v177 c arg2 harg2 arg3 harg3 arg13 x0 x1 = Blk.unflat (e := .f32) (Blk.dotT (Blk.half (e := .bf16) x0 0) ((Blk.chunk (e := .bf16) x1) 1)) := by
      delta kernelRun0_A.sl.v177 kernelRun0_A.sl.HS0_11 kernelRun0_A.sl.HS0_9 kernelRun0_A.sl.r_3 kernelRun0_A.sl.r_4 kernelRun0_A.sl.r_1 kernelRun0_A.sl.cst_40 kernelRun0_A.sl.r_6
      simp (disch := decide) only [↓View.readCov_skip, View.readCov_cons_toLoadRect, Blk.readAt_ld, e_r_7, e_v144]
      rfl
    have e_v211 : kernelRun0_A.sl.v211 c arg2 harg2 arg3 harg3 arg13 x0 x1 = Blk.unflat (e := .f32) (Blk.dotT (Blk.half (e := .bf16) x0 0) ((Blk.chunk (e := .bf16) x1) 2)) := by
      delta kernelRun0_A.sl.v211 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6
      simp (disch := decide) only [↓View.readCov_skip, View.readCov_cons_toLoadRect, Blk.readAt_ld, e_r_7, e_v144, e_v177]
      rfl
    have e_v245 : kernelRun0_A.sl.v245 c arg2 harg2 arg3 harg3 arg13 x0 x1 = Blk.unflat (e := .f32) (Blk.dotT (Blk.half (e := .bf16) x0 0) ((Blk.chunk (e := .bf16) x1) 3)) := by
      delta kernelRun0_A.sl.v245 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14
      simp (disch := decide) only [↓View.readCov_skip, View.readCov_cons_toLoadRect, Blk.readAt_ld, e_r_7, e_v144, e_v177, e_v211]
      rfl
    have e_v279 : kernelRun0_A.sl.v279 c arg2 harg2 arg3 harg3 arg13 x0 x1 = Blk.unflat (e := .f32) (Blk.dotT (Blk.half (e := .bf16) x0 0) ((Blk.chunk (e := .bf16) x1) 4)) := by
      delta kernelRun0_A.sl.v279 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17
      simp (disch := decide) only [↓View.readCov_skip, View.readCov_cons_toLoadRect, Blk.readAt_ld, e_r_7, e_v144, e_v177, e_v211, e_v245]
      rfl
    have e_v313 : kernelRun0_A.sl.v313 c arg2 harg2 arg3 harg3 arg13 x0 x1 = Blk.unflat (e := .f32) (Blk.dotT (Blk.half (e := .bf16) x0 0) ((Blk.chunk (e := .bf16) x1) 5)) := by
      delta kernelRun0_A.sl.v313 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17
      simp (disch := decide) only [↓View.readCov_skip, View.readCov_cons_toLoadRect, Blk.readAt_ld, e_r_7, e_v144, e_v177, e_v211, e_v245, e_v279]
      rfl
    have e_v347 : kernelRun0_A.sl.v347 c arg2 harg2 arg3 harg3 arg13 x0 x1 = Blk.unflat (e := .f32) (Blk.dotT (Blk.half (e := .bf16) x0 0) ((Blk.chunk (e := .bf16) x1) 6)) := by
      delta kernelRun0_A.sl.v347 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17
      simp (disch := decide) only [↓View.readCov_skip, View.readCov_cons_toLoadRect, Blk.readAt_ld, e_r_7, e_v144, e_v177, e_v211, e_v245, e_v279, e_v313]
      rfl
    have e_v381 : kernelRun0_A.sl.v381 c arg2 harg2 arg3 harg3 arg13 x0 x1 = Blk.unflat (e := .f32) (Blk.dotT (Blk.half (e := .bf16) x0 0) ((Blk.chunk (e := .bf16) x1) 7)) := by
      delta kernelRun0_A.sl.v381 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17
      simp (disch := decide) only [↓View.readCov_skip, View.readCov_cons_toLoadRect, Blk.readAt_ld, e_r_7, e_v144, e_v177, e_v211, e_v245, e_v279, e_v313, e_v347]
      rfl
    have e_r_30 : kernelRun0_A.sl.r_30 c arg2 harg2 arg3 harg3 x0 x1 = Blk.mx (Blk.half (e := .bf16) x0 1) (Blk.chunk (e := .bf16) x1) := by
      delta kernelRun0_A.sl.r_30 kernelRun0_A.sl.cst_40 kernelRun0_A.sl.r_27 kernelRun0_A.sl.r_28 kernelRun0_A.sl.r_25 kernelRun0_A.sl.r_24 kernelRun0_A.sl.r_22 kernelRun0_A.sl.r_18 kernelRun0_A.sl.r_16 kernelRun0_A.sl.r_13 kernelRun0_A.sl.r_11 kernelRun0_A.sl.r_9 kernelRun0_A.sl.r_8
      simp (disch := decide) only [↓View.readCov_skip, View.readCov_cons_toLoadRect, Blk.readAt_ld]
      rfl
    have e_v405 : kernelRun0_A.sl.v405 c arg2 harg2 arg3 harg3 arg13 x0 x1 = Blk.unflat (e := .f32) (Blk.exs (Named.named κ "score_log2e" 0x3D8293EE#32) (Blk.half (e := .bf16) x0 0) (Blk.chunk (e := .bf16) x1) 0) := by
      delta kernelRun0_A.sl.v405 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17
      simp (disch := decide) only [↓View.readCov_skip, View.readCov_cons_toLoadRect, Blk.readAt_ld, e_r_7, e_v144, e_v177, e_v211, e_v245, e_v279, e_v313, e_v347, e_v381]
      rfl
    have e_v413 : kernelRun0_A.sl.v413 c arg2 harg2 arg3 harg3 arg13 x0 x1 = Blk.unflat (e := .f32) (Blk.dotT (Blk.half (e := .bf16) x0 1) ((Blk.chunk (e := .bf16) x1) 0)) := by
      delta kernelRun0_A.sl.v413 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17
      simp (disch := decide) only [↓View.readCov_skip, View.readCov_cons_toLoadRect, Blk.readAt_ld, e_r_7, e_v144, e_v177, e_v211, e_v245, e_v279, e_v313, e_v347, e_v381]
      rfl
    have e_v430 : kernelRun0_A.sl.v430 c arg2 harg2 arg3 harg3 arg13 x0 x1 = Blk.unflat (e := .f32) (Blk.exs (Named.named κ "score_log2e" 0x3D8293EE#32) (Blk.half (e := .bf16) x0 0) (Blk.chunk (e := .bf16) x1) 1) := by
      delta kernelRun0_A.sl.v430 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17
      simp (disch := decide) only [↓View.readCov_skip, View.readCov_cons_toLoadRect, Blk.readAt_ld, e_r_7, e_r_30, e_v144, e_v177, e_v211, e_v245, e_v279, e_v313, e_v347, e_v381, e_v413]
      rfl
    have e_v439 : kernelRun0_A.sl.v439 c arg2 harg2 arg3 harg3 arg13 x0 x1 = Blk.unflat (e := .f32) (Blk.dotT (Blk.half (e := .bf16) x0 1) ((Blk.chunk (e := .bf16) x1) 1)) := by
      delta kernelRun0_A.sl.v439 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17
      simp (disch := decide) only [↓View.readCov_skip, View.readCov_cons_toLoadRect, Blk.readAt_ld, e_r_7, e_r_30, e_v144, e_v177, e_v211, e_v245, e_v279, e_v313, e_v347, e_v381, e_v413]
      rfl
    have e_v457 : kernelRun0_A.sl.v457 c arg2 harg2 arg3 harg3 arg13 x0 x1 = Blk.unflat (e := .f32) (Blk.exs (Named.named κ "score_log2e" 0x3D8293EE#32) (Blk.half (e := .bf16) x0 0) (Blk.chunk (e := .bf16) x1) 2) := by
      delta kernelRun0_A.sl.v457 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34
      simp (disch := decide) only [↓View.readCov_skip, View.readCov_cons_toLoadRect, Blk.readAt_ld, e_r_7, e_r_30, e_v144, e_v177, e_v211, e_v245, e_v279, e_v313, e_v347, e_v381, e_v413, e_v439]
      rfl
    have e_v466 : kernelRun0_A.sl.v466 c arg2 harg2 arg3 harg3 arg13 x0 x1 = Blk.unflat (e := .f32) (Blk.dotT (Blk.half (e := .bf16) x0 1) ((Blk.chunk (e := .bf16) x1) 2)) := by
      delta kernelRun0_A.sl.v466 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34
      simp (disch := decide) only [↓View.readCov_skip, View.readCov_cons_toLoadRect, Blk.readAt_ld, e_r_7, e_r_30, e_v144, e_v177, e_v211, e_v245, e_v279, e_v313, e_v347, e_v381, e_v413, e_v439]
      rfl
    have e_v484 : kernelRun0_A.sl.v484 c arg2 harg2 arg3 harg3 arg13 x0 x1 = Blk.unflat (e := .f32) (Blk.exs (Named.named κ "score_log2e" 0x3D8293EE#32) (Blk.half (e := .bf16) x0 0) (Blk.chunk (e := .bf16) x1) 3) := by
      delta kernelRun0_A.sl.v484 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34
      simp (disch := decide) only [↓View.readCov_skip, View.readCov_cons_toLoadRect, Blk.readAt_ld, e_r_7, e_r_30, e_v144, e_v177, e_v211, e_v245, e_v279, e_v313, e_v347, e_v381, e_v413, e_v439, e_v466]
      rfl
    have e_v493 : kernelRun0_A.sl.v493 c arg2 harg2 arg3 harg3 arg13 x0 x1 = Blk.unflat (e := .f32) (Blk.dotT (Blk.half (e := .bf16) x0 1) ((Blk.chunk (e := .bf16) x1) 3)) := by
      delta kernelRun0_A.sl.v493 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34
      simp (disch := decide) only [↓View.readCov_skip, View.readCov_cons_toLoadRect, Blk.readAt_ld, e_r_7, e_r_30, e_v144, e_v177, e_v211, e_v245, e_v279, e_v313, e_v347, e_v381, e_v413, e_v439, e_v466]
      rfl
    have e_v511 : kernelRun0_A.sl.v511 c arg2 harg2 arg3 harg3 arg13 x0 x1 = Blk.unflat (e := .f32) (Blk.exs (Named.named κ "score_log2e" 0x3D8293EE#32) (Blk.half (e := .bf16) x0 0) (Blk.chunk (e := .bf16) x1) 4) := by
      delta kernelRun0_A.sl.v511 kernelRun0_A.sl.HS0_28 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34
      simp (disch := decide) only [↓View.readCov_skip, View.readCov_cons_toLoadRect, Blk.readAt_ld, e_r_7, e_r_30, e_v144, e_v177, e_v211, e_v245, e_v279, e_v313, e_v347, e_v381, e_v413, e_v439, e_v466, e_v493]
      rfl
    have e_v520 : kernelRun0_A.sl.v520 c arg2 harg2 arg3 harg3 arg13 x0 x1 = Blk.unflat (e := .f32) (Blk.dotT (Blk.half (e := .bf16) x0 1) ((Blk.chunk (e := .bf16) x1) 4)) := by
      delta kernelRun0_A.sl.v520 kernelRun0_A.sl.HS0_28 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34
      simp (disch := decide) only [↓View.readCov_skip, View.readCov_cons_toLoadRect, Blk.readAt_ld, e_r_7, e_r_30, e_v144, e_v177, e_v211, e_v245, e_v279, e_v313, e_v347, e_v381, e_v413, e_v439, e_v466, e_v493]
      rfl
    have e_v538 : kernelRun0_A.sl.v538 c arg2 harg2 arg3 harg3 arg13 x0 x1 = Blk.unflat (e := .f32) (Blk.exs (Named.named κ "score_log2e" 0x3D8293EE#32) (Blk.half (e := .bf16) x0 0) (Blk.chunk (e := .bf16) x1) 5) := by
      delta kernelRun0_A.sl.v538 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34 kernelRun0_A.sl.r_40
      simp (disch := decide) only [↓View.readCov_skip, View.readCov_cons_toLoadRect, Blk.readAt_ld, e_r_7, e_r_30, e_v144, e_v177, e_v211, e_v245, e_v279, e_v313, e_v347, e_v381, e_v413, e_v439, e_v466, e_v493, e_v520]
      rfl
    have e_v547 : kernelRun0_A.sl.v547 c arg2 harg2 arg3 harg3 arg13 x0 x1 = Blk.unflat (e := .f32) (Blk.dotT (Blk.half (e := .bf16) x0 1) ((Blk.chunk (e := .bf16) x1) 5)) := by
      delta kernelRun0_A.sl.v547 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34 kernelRun0_A.sl.r_40
      simp (disch := decide) only [↓View.readCov_skip, View.readCov_cons_toLoadRect, Blk.readAt_ld, e_r_7, e_r_30, e_v144, e_v177, e_v211, e_v245, e_v279, e_v313, e_v347, e_v381, e_v413, e_v439, e_v466, e_v493, e_v520]
      rfl
    have e_v565 : kernelRun0_A.sl.v565 c arg2 harg2 arg3 harg3 arg13 x0 x1 = Blk.unflat (e := .f32) (Blk.exs (Named.named κ "score_log2e" 0x3D8293EE#32) (Blk.half (e := .bf16) x0 0) (Blk.chunk (e := .bf16) x1) 6) := by
      delta kernelRun0_A.sl.v565 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34 kernelRun0_A.sl.r_40
      simp (disch := decide) only [↓View.readCov_skip, View.readCov_cons_toLoadRect, Blk.readAt_ld, e_r_7, e_r_30, e_v144, e_v177, e_v211, e_v245, e_v279, e_v313, e_v347, e_v381, e_v413, e_v439, e_v466, e_v493, e_v520, e_v547]
      rfl
    have e_v574 : kernelRun0_A.sl.v574 c arg2 harg2 arg3 harg3 arg13 x0 x1 = Blk.unflat (e := .f32) (Blk.dotT (Blk.half (e := .bf16) x0 1) ((Blk.chunk (e := .bf16) x1) 6)) := by
      delta kernelRun0_A.sl.v574 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34 kernelRun0_A.sl.r_40
      simp (disch := decide) only [↓View.readCov_skip, View.readCov_cons_toLoadRect, Blk.readAt_ld, e_r_7, e_r_30, e_v144, e_v177, e_v211, e_v245, e_v279, e_v313, e_v347, e_v381, e_v413, e_v439, e_v466, e_v493, e_v520, e_v547]
      rfl
    have e_v592 : kernelRun0_A.sl.v592 c arg2 harg2 arg3 harg3 arg13 x0 x1 = Blk.unflat (e := .f32) (Blk.exs (Named.named κ "score_log2e" 0x3D8293EE#32) (Blk.half (e := .bf16) x0 0) (Blk.chunk (e := .bf16) x1) 7) := by
      delta kernelRun0_A.sl.v592 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34 kernelRun0_A.sl.r_40
      simp (disch := decide) only [↓View.readCov_skip, View.readCov_cons_toLoadRect, Blk.readAt_ld, e_r_7, e_r_30, e_v144, e_v177, e_v211, e_v245, e_v279, e_v313, e_v347, e_v381, e_v413, e_v439, e_v466, e_v493, e_v520, e_v547, e_v574]
      rfl
    have e_v601 : kernelRun0_A.sl.v601 c arg2 harg2 arg3 harg3 arg13 x0 x1 = Blk.unflat (e := .f32) (Blk.dotT (Blk.half (e := .bf16) x0 1) ((Blk.chunk (e := .bf16) x1) 7)) := by
      delta kernelRun0_A.sl.v601 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34 kernelRun0_A.sl.r_40
      simp (disch := decide) only [↓View.readCov_skip, View.readCov_cons_toLoadRect, Blk.readAt_ld, e_r_7, e_r_30, e_v144, e_v177, e_v211, e_v245, e_v279, e_v313, e_v347, e_v381, e_v413, e_v439, e_v466, e_v493, e_v520, e_v547, e_v574]
      rfl
    have e_v623 : kernelRun0_A.sl.v623 c arg2 harg2 arg3 harg3 arg13 x0 x1 = Blk.unflat (e := .f32) (Blk.exs (Named.named κ "score_log2e" 0x3D8293EE#32) (Blk.half (e := .bf16) x0 1) (Blk.chunk (e := .bf16) x1) 0) := by
      delta kernelRun0_A.sl.v623 kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34 kernelRun0_A.sl.r_40
      simp (disch := decide) only [↓View.readCov_skip, View.readCov_cons_toLoadRect, Blk.readAt_ld, e_r_7, e_r_30, e_v144, e_v177, e_v211, e_v245, e_v279, e_v313, e_v347, e_v381, e_v413, e_v439, e_v466, e_v493, e_v520, e_v547, e_v574, e_v601]
      rfl
    have e_v631 : kernelRun0_A.sl.v631 c arg2 harg2 arg3 harg3 arg13 x0 x1 = Blk.unflat (e := .f32) (Blk.exs (Named.named κ "score_log2e" 0x3D8293EE#32) (Blk.half (e := .bf16) x0 1) (Blk.chunk (e := .bf16) x1) 1) := by
      delta kernelRun0_A.sl.v631 kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34 kernelRun0_A.sl.r_40
      simp (disch := decide) only [↓View.readCov_skip, View.readCov_cons_toLoadRect, Blk.readAt_ld, e_r_7, e_r_30, e_v144, e_v177, e_v211, e_v245, e_v279, e_v313, e_v347, e_v381, e_v413, e_v439, e_v466, e_v493, e_v520, e_v547, e_v574, e_v601]
      rfl
    have e_v640 : kernelRun0_A.sl.v640 c arg2 harg2 arg3 harg3 arg13 x0 x1 = Blk.unflat (e := .f32) (Blk.exs (Named.named κ "score_log2e" 0x3D8293EE#32) (Blk.half (e := .bf16) x0 1) (Blk.chunk (e := .bf16) x1) 2) := by
      delta kernelRun0_A.sl.v640 kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34 kernelRun0_A.sl.r_40
      simp (disch := decide) only [↓View.readCov_skip, View.readCov_cons_toLoadRect, Blk.readAt_ld, e_r_7, e_r_30, e_v144, e_v177, e_v211, e_v245, e_v279, e_v313, e_v347, e_v381, e_v413, e_v439, e_v466, e_v493, e_v520, e_v547, e_v574, e_v601]
      rfl
    have e_v649 : kernelRun0_A.sl.v649 c arg2 harg2 arg3 harg3 arg13 x0 x1 = Blk.unflat (e := .f32) (Blk.exs (Named.named κ "score_log2e" 0x3D8293EE#32) (Blk.half (e := .bf16) x0 1) (Blk.chunk (e := .bf16) x1) 3) := by
      delta kernelRun0_A.sl.v649 kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34 kernelRun0_A.sl.r_40
      simp (disch := decide) only [↓View.readCov_skip, View.readCov_cons_toLoadRect, Blk.readAt_ld, e_r_7, e_r_30, e_v144, e_v177, e_v211, e_v245, e_v279, e_v313, e_v347, e_v381, e_v413, e_v439, e_v466, e_v493, e_v520, e_v547, e_v574, e_v601]
      rfl
    have e_v658 : kernelRun0_A.sl.v658 c arg2 harg2 arg3 harg3 arg13 x0 x1 = Blk.unflat (e := .f32) (Blk.exs (Named.named κ "score_log2e" 0x3D8293EE#32) (Blk.half (e := .bf16) x0 1) (Blk.chunk (e := .bf16) x1) 4) := by
      delta kernelRun0_A.sl.v658 kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34 kernelRun0_A.sl.r_40
      simp (disch := decide) only [↓View.readCov_skip, View.readCov_cons_toLoadRect, Blk.readAt_ld, e_r_7, e_r_30, e_v144, e_v177, e_v211, e_v245, e_v279, e_v313, e_v347, e_v381, e_v413, e_v439, e_v466, e_v493, e_v520, e_v547, e_v574, e_v601]
      rfl
    have e_v667 : kernelRun0_A.sl.v667 c arg2 harg2 arg3 harg3 arg13 x0 x1 = Blk.unflat (e := .f32) (Blk.exs (Named.named κ "score_log2e" 0x3D8293EE#32) (Blk.half (e := .bf16) x0 1) (Blk.chunk (e := .bf16) x1) 5) := by
      delta kernelRun0_A.sl.v667 kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34 kernelRun0_A.sl.r_40
      simp (disch := decide) only [↓View.readCov_skip, View.readCov_cons_toLoadRect, Blk.readAt_ld, e_r_7, e_r_30, e_v144, e_v177, e_v211, e_v245, e_v279, e_v313, e_v347, e_v381, e_v413, e_v439, e_v466, e_v493, e_v520, e_v547, e_v574, e_v601]
      rfl
    have e_v676 : kernelRun0_A.sl.v676 c arg2 harg2 arg3 harg3 arg13 x0 x1 = Blk.unflat (e := .f32) (Blk.exs (Named.named κ "score_log2e" 0x3D8293EE#32) (Blk.half (e := .bf16) x0 1) (Blk.chunk (e := .bf16) x1) 6) := by
      delta kernelRun0_A.sl.v676 kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34 kernelRun0_A.sl.r_40
      simp (disch := decide) only [↓View.readCov_skip, View.readCov_cons_toLoadRect, Blk.readAt_ld, e_r_7, e_r_30, e_v144, e_v177, e_v211, e_v245, e_v279, e_v313, e_v347, e_v381, e_v413, e_v439, e_v466, e_v493, e_v520, e_v547, e_v574, e_v601]
      rfl
    have e_v685 : kernelRun0_A.sl.v685 c arg2 harg2 arg3 harg3 arg13 x0 x1 = Blk.unflat (e := .f32) (Blk.exs (Named.named κ "score_log2e" 0x3D8293EE#32) (Blk.half (e := .bf16) x0 1) (Blk.chunk (e := .bf16) x1) 7) := by
      delta kernelRun0_A.sl.v685 kernelRun0_A.sl.HS0_32 kernelRun0_A.sl.HS0_31 kernelRun0_A.sl.HS0_30 kernelRun0_A.sl.HS0_29 kernelRun0_A.sl.HS0_28 kernelRun0_A.sl.HS0_27 kernelRun0_A.sl.HS0_26 kernelRun0_A.sl.HS0_25 kernelRun0_A.sl.HS0_24 kernelRun0_A.sl.HS0_23 kernelRun0_A.sl.r_27 kernelRun0_A.sl.r_28 kernelRun0_A.sl.HS0_21 kernelRun0_A.sl.r_24 kernelRun0_A.sl.HS0_19 kernelRun0_A.sl.HS0_17 kernelRun0_A.sl.HS0_15 kernelRun0_A.sl.HS0_13 kernelRun0_A.sl.HS0_11 kernelRun0_A.sl.HS0_9 kernelRun0_A.sl.r_3 kernelRun0_A.sl.r_4 kernelRun0_A.sl.r_1 kernelRun0_A.sl.cst_40 kernelRun0_A.sl.r_6 kernelRun0_A.sl.r_14 kernelRun0_A.sl.r_17 kernelRun0_A.sl.r_34 kernelRun0_A.sl.r_40
      simp (disch := decide) only [↓View.readCov_skip, View.readCov_cons_toLoadRect, Blk.readAt_ld, e_r_7, e_r_30, e_v144, e_v177, e_v211, e_v245, e_v279, e_v313, e_v347, e_v381, e_v413, e_v439, e_v466, e_v493, e_v520, e_v547, e_v574, e_v601]
      rfl
    have e_r_29 : kernelRun0_A.sl.r_29 c arg2 harg2 arg3 harg3 arg13 x0 x1 = Blk.rl (Named.named κ "score_log2e" 0x3D8293EE#32) (Blk.half (e := .bf16) x0 0) (Blk.chunk (e := .bf16) x1) := by
      delta kernelRun0_A.sl.r_29 kernelRun0_A.sl.r_26 kernelRun0_A.sl.r_23 kernelRun0_A.sl.r_20 kernelRun0_A.sl.r_15 kernelRun0_A.sl.r_14 kernelRun0_A.sl.r_12 kernelRun0_A.sl.r_10 kernelRun0_A.sl.r_17 kernelRun0_A.sl.r_21 kernelRun0_A.sl.r_19
      simp (disch := decide) only [↓View.readCov_skip, View.readCov_cons_toLoadRect, Blk.readAt_ld, e_r_7, e_v144, e_v177, e_v211, e_v245, e_v279, e_v313, e_v347, e_v381]
      rfl
    have e_r_46 : kernelRun0_A.sl.r_46 c arg2 harg2 arg3 harg3 arg13 x0 x1 = Blk.rl (Named.named κ "score_log2e" 0x3D8293EE#32) (Blk.half (e := .bf16) x0 1) (Blk.chunk (e := .bf16) x1) := by
      delta kernelRun0_A.sl.r_46 kernelRun0_A.sl.r_44 kernelRun0_A.sl.r_43 kernelRun0_A.sl.r_42 kernelRun0_A.sl.r_38 kernelRun0_A.sl.r_36 kernelRun0_A.sl.r_32 kernelRun0_A.sl.r_34 kernelRun0_A.sl.r_40
      simp (disch := decide) only [↓View.readCov_skip, View.readCov_cons_toLoadRect, Blk.readAt_ld, e_r_30, e_v413, e_v439, e_v466, e_v493, e_v520, e_v547, e_v574, e_v601]
      rfl
    have e_r_45 : kernelRun0_A.sl.r_45 c arg2 harg2 arg3 harg3 arg4 harg4 arg13 x0 x1 x2 = Blk.att (Named.named κ "score_log2e" 0x3D8293EE#32) (Blk.half (e := .bf16) x0 0) (Blk.chunk (e := .bf16) x1) (Blk.chunk (e := .bf16) x2) := by
      delta kernelRun0_A.sl.r_45 kernelRun0_A.sl.r_41 kernelRun0_A.sl.r_39 kernelRun0_A.sl.r_37 kernelRun0_A.sl.r_35 kernelRun0_A.sl.r_33 kernelRun0_A.sl.r_31 kernelRun0_A.sl.r_26 kernelRun0_A.sl.r_23 kernelRun0_A.sl.r_20 kernelRun0_A.sl.r_15 kernelRun0_A.sl.r_14 kernelRun0_A.sl.r_12 kernelRun0_A.sl.r_10 kernelRun0_A.sl.r_17 kernelRun0_A.sl.r_21 kernelRun0_A.sl.r_19
      simp (disch := decide) only [↓View.readCov_skip, View.readCov_cons_toLoadRect, Blk.readAt_ld, e_r_7, e_r_29, e_v144, e_v177, e_v211, e_v245, e_v279, e_v313, e_v347, e_v381, e_v405, e_v430, e_v457, e_v484, e_v511, e_v538, e_v565, e_v592]
      rfl
    have e_r_52 : kernelRun0_A.sl.r_52 c arg2 harg2 arg3 harg3 arg4 harg4 arg13 x0 x1 x2 = Blk.att (Named.named κ "score_log2e" 0x3D8293EE#32) (Blk.half (e := .bf16) x0 1) (Blk.chunk (e := .bf16) x1) (Blk.chunk (e := .bf16) x2) := by
      delta kernelRun0_A.sl.r_52 kernelRun0_A.sl.r_50 kernelRun0_A.sl.r_48 kernelRun0_A.sl.r_44 kernelRun0_A.sl.r_43 kernelRun0_A.sl.r_42 kernelRun0_A.sl.r_38 kernelRun0_A.sl.r_36 kernelRun0_A.sl.r_32 kernelRun0_A.sl.r_34 kernelRun0_A.sl.r_40 kernelRun0_A.sl.r_49 kernelRun0_A.sl.r_47 kernelRun0_A.sl.cst_40 kernelRun0_A.sl.r_51
      simp (disch := decide) only [↓View.readCov_skip, View.readCov_cons_toLoadRect, Blk.readAt_ld, e_r_30, e_r_46, e_v413, e_v439, e_v466, e_v493, e_v520, e_v547, e_v574, e_v601, e_v623, e_v631, e_v640, e_v649, e_v658, e_v667, e_v676, e_v685]
      rfl
    clear e_r_7 e_v144 e_v177 e_v211 e_v245 e_v279 e_v313 e_v347 e_v381 e_r_30 e_v405 e_v413 e_v430 e_v439 e_v457 e_v466 e_v484 e_v493 e_v511 e_v520 e_v538 e_v547 e_v565 e_v574 e_v592 e_v601 e_v623 e_v631 e_v640 e_v649 e_v658 e_v667 e_v676 e_v685 e_r_29 e_r_46
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      exact Blk.read_two _ _ _ _ (by
        delta kernelRun0_A.sl.r_65 kernelRun0_A.sl.r_61 kernelRun0_A.sl.r_60 kernelRun0_A.sl.r_59 kernelRun0_A.sl.r_58
        simp only [Blk.readAt_ld, e_r_45, e_r_52]
        rw [View.ld_unit_zero (S := S512x512) Blk.zero2 _ x4, View.ld_unit_zero (S := S1x512) Blk.zero2 _ x5, View.ld_unit_zero (S := S1x512) Blk.zero2 _ x6]
        rfl) (by
        delta kernelRun0_A.sl.r_57 kernelRun0_A.sl.r_55 kernelRun0_A.sl.r_54 kernelRun0_A.sl.r_53
        simp only [Blk.readAt_ld, e_r_45, e_r_52]
        rw [View.ld_unit_zero (S := S512x512) Blk.zero2 _ x4, View.ld_unit_zero (S := S1x512) Blk.zero2 _ x5, View.ld_unit_zero (S := S1x512) Blk.zero2 _ x6]
        rfl)
    isplitl [H8]
    · iexists _; isplitr; swap; · iexact H8
      ipureintro
      exact Blk.read_two _ _ _ _ (by
        delta kernelRun0_A.sl.r_61 kernelRun0_A.sl.r_60 kernelRun0_A.sl.r_59 kernelRun0_A.sl.r_58
        simp only [Blk.readAt_ld, e_r_45, e_r_52]
        rw [View.ld_unit_zero (S := S512x512) Blk.zero2 _ x4, View.ld_unit_zero (S := S1x512) Blk.zero2 _ x5, View.ld_unit_zero (S := S1x512) Blk.zero2 _ x6]
        rfl) (by
        delta kernelRun0_A.sl.r_57 kernelRun0_A.sl.r_55 kernelRun0_A.sl.r_54 kernelRun0_A.sl.r_53
        simp only [Blk.readAt_ld, e_r_45, e_r_52]
        rw [View.ld_unit_zero (S := S512x512) Blk.zero2 _ x4, View.ld_unit_zero (S := S1x512) Blk.zero2 _ x5, View.ld_unit_zero (S := S1x512) Blk.zero2 _ x6]
        rfl)
    isplitl [H9]
    · iexists _; isplitr; swap; · iexact H9
      ipureintro
      exact Blk.read_two _ _ _ _ (by
        delta kernelRun0_A.sl.r_59 kernelRun0_A.sl.r_58
        simp only [Blk.readAt_ld, e_r_45, e_r_52]
        rfl) (by
        delta kernelRun0_A.sl.r_53
        simp only [Blk.readAt_ld, e_r_45, e_r_52]
        rfl)
    isplitl [H10]
    · iexists _; isplitr; swap; · iexact H10
      ipureintro
      exact Blk.read_put _ _ _ _ (k0_off1_eq i 1) (k0_off1_eq i 0) hf10 (by
        delta kernelRun0_A.sl.r_64 kernelRun0_A.sl.r_63 kernelRun0_A.sl.r_62 kernelRun0_A.sl.r_60 kernelRun0_A.sl.r_59 kernelRun0_A.sl.r_58
        simp only [Blk.readAt_ld, e_r_45, e_r_52]
        rfl) (by
        delta kernelRun0_A.sl.r_56 kernelRun0_A.sl.r_54 kernelRun0_A.sl.r_53
        simp only [Blk.readAt_ld, e_r_45, e_r_52]
        rfl)
    iexists _, _; isplitr; swap; · iexact HS0
    ipureintro; rfl

end Cert.AttnIdeal.Gen

end
-- ==== Proof.AttnLaunch.lean ====
module

public import proofs.«01_k».proof.Proof.Gen.AttnIdeal.Frame
public import proofs.«01_k».proof.Proof.Gen.AttnIdeal.Skeleton
public import proofs.«01_k».proof.Proof.AttnRun
public import Idealize.ShloMosaic.Lib.Claim
public import Idealize.ShloMosaic.Lib.Pipeline.ArrRel
public import Idealize.ShloMosaic.Lib.Pipeline.DatRel
public import Idealize.ShloMosaic.Lib.Pipeline.ValueKit

@[expose] public section

-- membership in a rectangle of production extents (`View.cover_of_tiled`): the elaborator's structural look
-- recurses once per coordinate of the long axes
set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays after a run whose arrays start as the region finds them. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

abbrev ms0_0 (t : Fin cfg0.N) : Memref sig .tc .vmem S1x1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x512 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S20x4096 .f32 := win0_10.stage (cfg0.slots t 10)
abbrev hs0_10 (t : Fin cfg0.N) : (ms0_10 t).IsWhole := hstage0_10 ((cfg0.slots t 10).cast nbuf0_10)
abbrev scM0_0 : Memref sig .tc .vmem S2x512x4096 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the output buffers hold -/

/-- The attention output of half `n` of point `t`'s query block. -/
def att0 (c : Dev nD) (t : Fin cfg0.N) (n : Fin 2) : FVec F Blk.SM .f32 :=
  Blk.attO (Named.named κ "score_log2e" 0x3D8293EE#32) (iblk m c 0 t) (iblk m c 1 t) (iblk m c 2 t) n

/-- Point `t`'s block of the residual sum. -/
def blk7 (c : Dev nD) (t : Fin cfg0.N) : Vec F S1x1024x512 .bf16 :=
  Blk.two fun n => Blk.resP (att0 m c t n) (Blk.half (e := .bf16) (iblk m c 3 t) n) (iblk m c 4 t) (iblk m c 5 t) (iblk m c 6 t)

/-- Point `t`'s block of the projection. -/
def blk8 (c : Dev nD) (t : Fin cfg0.N) : Vec F S1x1024x512 .bf16 :=
  Blk.two fun n => Blk.projP (att0 m c t n) (iblk m c 4 t) (iblk m c 5 t) (iblk m c 6 t)

/-- Point `t`'s block of the codes. -/
def blk9 (c : Dev nD) (t : Fin cfg0.N) : Vec F S1x1024x512 .fp8e4m3 :=
  Blk.two fun n => Blk.codesP (att0 m c t n)

/-- Point `t`'s two runs of 512 scales. -/
def row10 (c : Dev nD) (t : Fin cfg0.N) (n : Fin 2) : Vec F Blk.SR .f32 := Blk.rowOf (Blk.scale (att0 m c t n))

/-- The point that computes the rows of image `a` from `1024 * g` on. -/
def ptOf (a : Fin 20) (r : Fin 4096) : Fin cfg0.N := ⟨4 * a.val + r.val / 1024, by
  have h0 := a.isLt; have h1 := r.isLt
  show 4 * a.val + r.val / 1024 < 80
  omega⟩

/-- The array of scales. -/
def arr10 (c : Dev nD) : Vec F S20x4096 .f32 := fun j =>
  row10 m c (ptOf (j 0) (j 1)) ⟨(j 1).val % 1024 / 512, by omega⟩ (ix2 0 ⟨(j 1).val % 512, Nat.mod_lt _ (by omega)⟩)

/-- What the body leaves in the output buffers: the three blocks, and the scales of every point so far. -/
def leaves0 (c : Dev nD) : (w : Fin cfg0.W) → (t : Fin cfg0.N) → ((cfg0.win w).block.Idx → Elt F (cfg0.win w).elt) → Prop
  | ⟨7, _⟩, t => fun X => X = blk7 m c t
  | ⟨8, _⟩, t => fun X => X = blk8 m c t
  | ⟨9, _⟩, t => fun X => X = blk9 m c t
  | ⟨10, _⟩, t => fun X => ∀ j : S20x4096.Idx, 4096 * (j 0).val + (j 1).val < 1024 * (t.val + 1) → X j = arr10 m c j
  | _, _ => fun _ => True

theorem coords0_0 : ∀ t : Fin cfg0.N, (grid0.coords t 0).val = t.val / 4 := (by decide +kernel : ∀ t : Fin grid0.N, _)
theorem coords0_1 : ∀ t : Fin cfg0.N, (grid0.coords t 1).val = t.val % 4 := (by decide +kernel : ∀ t : Fin grid0.N, _)
theorem fetch0_10 : ∀ t : Fin cfg0.N, win0_10.fetch t = false := (by decide +kernel : ∀ t : Fin grid0.N, _)
theorem unflushed0_10 : ∀ t : Fin cfg0.N, t.val < 79 → win0_10.flush t = false := (by decide +kernel : ∀ t : Fin grid0.N, _)

/-- One point's scales put into an array that holds the earlier points' ones. -/
theorem put_step (c : Dev nD) (t : Fin cfg0.N) (Y : Vec F S20x4096 .f32)
    (hY : ∀ j : S20x4096.Idx, 4096 * (j 0).val + (j 1).val < 1024 * t.val → Y j = arr10 m c j) (j : S20x4096.Idx)
    (hj : 4096 * (j 0).val + (j 1).val < 1024 * (t.val + 1)) :
    Blk.put Y (grid0.coords t 0).val (grid0.coords t 1).val (row10 m c t) j = arr10 m c j := by
  rw [coords0_0, coords0_1]
  have h0 : (j 0).val < 20 := (j 0).isLt
  have h1 : (j 1).val < 4096 := (j 1).isLt
  have ht : t.val < 80 := t.isLt
  unfold Blk.put
  by_cases h : (j 0).val = t.val / 4 ∧ 1024 * (t.val % 4) ≤ (j 1).val ∧ (j 1).val < 1024 * (t.val % 4) + 1024
  · rw [if_pos h]
    have ep : ptOf (j 0) (j 1) = t := by apply Fin.ext; show 4 * (j 0).val + (j 1).val / 1024 = t.val; omega
    unfold arr10; rw [ep]
    by_cases h2 : (j 1).val - 1024 * (t.val % 4) < 512
    · rw [dif_pos h2]
      have e1 : (⟨(j 1).val % 1024 / 512, by omega⟩ : Fin 2) = 0 := by apply Fin.ext; show (j 1).val % 1024 / 512 = 0; omega
      have e2 : (⟨(j 1).val - 1024 * (t.val % 4), h2⟩ : Fin 512) = ⟨(j 1).val % 512, Nat.mod_lt _ (by omega)⟩ := by
        apply Fin.ext; show (j 1).val - 1024 * (t.val % 4) = (j 1).val % 512; omega
      rw [e1, e2]
    · rw [dif_neg h2]
      have e1 : (⟨(j 1).val % 1024 / 512, by omega⟩ : Fin 2) = 1 := by apply Fin.ext; show (j 1).val % 1024 / 512 = 1; omega
      have e2 : (⟨((j 1).val - 1024 * (t.val % 4)) % 512, Nat.mod_lt _ (by omega)⟩ : Fin 512) = ⟨(j 1).val % 512, Nat.mod_lt _ (by omega)⟩ := by
        apply Fin.ext; show ((j 1).val - 1024 * (t.val % 4)) % 512 = (j 1).val % 512; omega
      rw [e1, e2]
  · rw [if_neg h]; exact hY j (by omega)

def forgets0 : Fin 11 → Bool := fun w => w.val == 7 || w.val == 8 || w.val == 9 || w.val == 10

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The array of scales as a point finds it holds the earlier points' ones. -/
theorem finds0_10 (c : Dev nD) (t : Fin cfg0.N) (Y : Vec F S20x4096 .f32)
    (h : ((dats m 0 c).toRRel forgets0 (leaves0 m c)).Finds 10 t Y) (j : S20x4096.Idx)
    (hj : 4096 * (j 0).val + (j 1).val < 1024 * t.val) : Y j = arr10 m c j := by
  have ht : t.val < 80 := t.isLt
  by_cases h0 : t.val = 0
  · omega
  · rcases (Pipeline.RDat.finds_of_pos _ (w := 10) (fetch0_10 t) h0 Y).mp h with h1 | h1
    · exact absurd h1 (by rw [show (cfg0.win 10).flush _ = false from unflushed0_10 _ (by show t.val - 1 < 79; omega)]; exact Bool.false_ne_true)
    · have h2 := (dats m 0 c).toRRel_leaves (fgt := forgets0) (Rl := leaves0 m c) (w := 10) rfl h1
      exact h2 j (by show _ < 1024 * (t.val - 1 + 1); omega)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, ⌜((dats m 0 c).toRRel forgets0 (leaves0 m c)).Finds 7 t d⌝ ∗ owns (c : Thread nD τ) (ms0_7 t) fullShare d)
    ∗ (∃ d, ⌜((dats m 0 c).toRRel forgets0 (leaves0 m c)).Finds 8 t d⌝ ∗ owns (c : Thread nD τ) (ms0_8 t) fullShare d)
    ∗ (∃ d, ⌜((dats m 0 c).toRRel forgets0 (leaves0 m c)).Finds 9 t d⌝ ∗ owns (c : Thread nD τ) (ms0_9 t) fullShare d)
    ∗ (∃ d, ⌜((dats m 0 c).toRRel forgets0 (leaves0 m c)).Finds 10 t d⌝ ∗ owns (c : Thread nD τ) (ms0_10 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜leaves0 m c 7 t X⌝ ∗ owns (c : Thread nD τ) (ms0_7 t) fullShare X)
    ∗ (∃ X, ⌜leaves0 m c 8 t X⌝ ∗ owns (c : Thread nD τ) (ms0_8 t) fullShare X)
    ∗ (∃ X, ⌜leaves0 m c 9 t X⌝ ∗ owns (c : Thread nD τ) (ms0_9 t) fullShare X)
    ∗ (∃ X, ⌜leaves0 m c 10 t X⌝ ∗ owns (c : Thread nD τ) (ms0_10 t) fullShare X))

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, -, H7⟩, ⟨%d8, -, H8⟩, ⟨%d9, -, H9⟩, ⟨%d10, %hd10, H10⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) d10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  iexists _; isplitr; swap; · iexact H10
  ipureintro; exact put_step m c t d10 (finds0_10 m c t d10 hd10)

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ forgets0 (leaves0 m c) := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRRel forgets0 (leaves0 m c)) (V m)) r ∧ r.2.sem = fun _ => 0) :=
  Pipeline.RDat.θ_run_frame (Q' := _) cfgs (0 : Fin 1) launch0 defs₀ Variants.none (fun c => (dats m 0 c).toRRel forgets0 (leaves0 m c)) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRRel forgets0 (leaves0 m c)) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  unchanged_of m ρ (fun c => (dats m 0 c).toRRel forgets0 (leaves0 m c)) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-! ## The result arrays -/

/-- The array of residual sums. -/
def arr7 (c : Dev nD) : Vec F S20x4096x512 .bf16 := fun j =>
  blk7 m c (ptOf (j 0) (j 1)) (ix3 0 ⟨(j 1).val % 1024, Nat.mod_lt _ (by omega)⟩ (j 2))

/-- The array of projections. -/
def arr8 (c : Dev nD) : Vec F S20x4096x512 .bf16 := fun j =>
  blk8 m c (ptOf (j 0) (j 1)) (ix3 0 ⟨(j 1).val % 1024, Nat.mod_lt _ (by omega)⟩ (j 2))

/-- The array of codes. -/
def arr9 (c : Dev nD) : Vec F S20x4096x512 .fp8e4m3 := fun j =>
  blk9 m c (ptOf (j 0) (j 1)) (ix3 0 ⟨(j 1).val % 1024, Nat.mod_lt _ (by omega)⟩ (j 2))

theorem index0_7 : ∀ t : Fin cfg0.N, win0_7.index t = ![t.val / 4, t.val % 4, 0] := (by decide +kernel : ∀ t : Fin grid0.N, _)
theorem index0_8 : ∀ t : Fin cfg0.N, win0_8.index t = ![t.val / 4, t.val % 4, 0] := (by decide +kernel : ∀ t : Fin grid0.N, _)
theorem index0_9 : ∀ t : Fin cfg0.N, win0_9.index t = ![t.val / 4, t.val % 4, 0] := (by decide +kernel : ∀ t : Fin grid0.N, _)

theorem final7 (c : Dev nD) (dat : Dat τ (Elt F) Unit ℕ (UR sig nD τ) ℕ cfg0 c)
    (h : ∀ t, win0_7.flush t = true → dat.after 7 t = blk7 m c t) : dat.arrAt 7 cfg0.N = arr7 m c := by
  refine dat.arrAt_eq_of_covers 7 _ (by decide +kernel) fun t hf y => ?_
  blk_simp
  rw [h t hf]
  have h0 : (y 0).val < 1 := (y 0).isLt
  have h1 : (y 1).val < 1024 := (y 1).isLt
  have ht : t.val < 80 := t.isLt
  unfold arr7
  have e0 : ((win0_7.blk t).view.emb y 0).val = t.val / 4 := by
    blk_simp [index0_7 t]; try omega
  have e1 : ((win0_7.blk t).view.emb y 1).val = 1024 * (t.val % 4) + (y 1).val := by
    blk_simp [index0_7 t]; try omega
  have e2 : ((win0_7.blk t).view.emb y 2).val = (y 2).val := by
    blk_simp [index0_7 t]; try omega
  have ep : ptOf ((win0_7.blk t).view.emb y 0) ((win0_7.blk t).view.emb y 1) = t := by
    apply Fin.ext
    show 4 * ((win0_7.blk t).view.emb y 0).val + ((win0_7.blk t).view.emb y 1).val / 1024 = t.val
    rw [e0, e1]; omega
  rw [ep]
  congr 1
  funext a; apply Fin.ext; fin_cases a
  · show (y 0).val = 0; omega
  · show (y 1).val = ((win0_7.blk t).view.emb y 1).val % 1024; rw [e1]; omega
  · exact e2.symm

theorem final8 (c : Dev nD) (dat : Dat τ (Elt F) Unit ℕ (UR sig nD τ) ℕ cfg0 c)
    (h : ∀ t, win0_8.flush t = true → dat.after 8 t = blk8 m c t) : dat.arrAt 8 cfg0.N = arr8 m c := by
  refine dat.arrAt_eq_of_covers 8 _ (by decide +kernel) fun t hf y => ?_
  blk_simp
  rw [h t hf]
  have h0 : (y 0).val < 1 := (y 0).isLt
  have h1 : (y 1).val < 1024 := (y 1).isLt
  have ht : t.val < 80 := t.isLt
  unfold arr8
  have e0 : ((win0_8.blk t).view.emb y 0).val = t.val / 4 := by
    blk_simp [index0_8 t]; try omega
  have e1 : ((win0_8.blk t).view.emb y 1).val = 1024 * (t.val % 4) + (y 1).val := by
    blk_simp [index0_8 t]; try omega
  have e2 : ((win0_8.blk t).view.emb y 2).val = (y 2).val := by
    blk_simp [index0_8 t]; try omega
  have ep : ptOf ((win0_8.blk t).view.emb y 0) ((win0_8.blk t).view.emb y 1) = t := by
    apply Fin.ext
    show 4 * ((win0_8.blk t).view.emb y 0).val + ((win0_8.blk t).view.emb y 1).val / 1024 = t.val
    rw [e0, e1]; omega
  rw [ep]
  congr 1
  funext a; apply Fin.ext; fin_cases a
  · show (y 0).val = 0; omega
  · show (y 1).val = ((win0_8.blk t).view.emb y 1).val % 1024; rw [e1]; omega
  · exact e2.symm

theorem final9 (c : Dev nD) (dat : Dat τ (Elt F) Unit ℕ (UR sig nD τ) ℕ cfg0 c)
    (h : ∀ t, win0_9.flush t = true → dat.after 9 t = blk9 m c t) : dat.arrAt 9 cfg0.N = arr9 m c := by
  refine dat.arrAt_eq_of_covers 9 _ (by decide +kernel) fun t hf y => ?_
  blk_simp
  rw [h t hf]
  have h0 : (y 0).val < 1 := (y 0).isLt
  have h1 : (y 1).val < 1024 := (y 1).isLt
  have ht : t.val < 80 := t.isLt
  unfold arr9
  have e0 : ((win0_9.blk t).view.emb y 0).val = t.val / 4 := by
    blk_simp [index0_9 t]; try omega
  have e1 : ((win0_9.blk t).view.emb y 1).val = 1024 * (t.val % 4) + (y 1).val := by
    blk_simp [index0_9 t]; try omega
  have e2 : ((win0_9.blk t).view.emb y 2).val = (y 2).val := by
    blk_simp [index0_9 t]; try omega
  have ep : ptOf ((win0_9.blk t).view.emb y 0) ((win0_9.blk t).view.emb y 1) = t := by
    apply Fin.ext
    show 4 * ((win0_9.blk t).view.emb y 0).val + ((win0_9.blk t).view.emb y 1).val / 1024 = t.val
    rw [e0, e1]; omega
  rw [ep]
  congr 1
  funext a; apply Fin.ext; fin_cases a
  · show (y 0).val = 0; omega
  · show (y 1).val = ((win0_9.blk t).view.emb y 1).val % 1024; rw [e1]; omega
  · exact e2.symm

theorem final10 (c : Dev nD) (dat : Dat τ (Elt F) Unit ℕ (UR sig nD τ) ℕ cfg0 c)
    (h : ∀ t, win0_10.flush t = true → leaves0 m c 10 t (dat.after 10 t)) : dat.arrAt 10 cfg0.N = arr10 m c := by
  refine dat.arrAt_eq_of_after_last 10 (⟨79, by decide⟩ : Fin grid0.N) (by decide +kernel) _ fun j => ?_
  blk_simp
  have h0 : (j 0).val < 20 := (j 0).isLt
  have h1 : (j 1).val < 4096 := (j 1).isLt
  exact h (⟨79, by decide⟩ : Fin grid0.N) (by decide +kernel) j (by show _ < 1024 * (79 + 1); omega)

/-- The run: the four result arrays named, the arguments unchanged. -/
theorem run : θ_run defs (onTc (τ := τ) (main (F := F))) ⟨m, fun _ => 0, ρ⟩ (fun r => ∀ c : Dev nD,
      (r.2.mem ((c.tc : Thread nD τ).loc main_v2_0) = arr7 m c
      ∧ r.2.mem ((c.tc : Thread nD τ).loc main_v2_1) = arr8 m c
      ∧ r.2.mem ((c.tc : Thread nD τ).loc main_v2_2) = arr9 m c
      ∧ r.2.mem ((c.tc : Thread nD τ).loc main_v2_3) = arr10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    refine ⟨?_, h.2 c⟩
    obtain ⟨after, hL, hA⟩ := Pipeline.RDat.FramePost.exists_exact h.1 c
    have hl : ∀ w : Fin cfg0.W, forgets0 w = true → ∀ t, (cfg0.win w).flush t = true → leaves0 m c w t (after w t) :=
      fun w hw t hf => (dats m 0 c).toRRel_leaves hw (hL w t hf)
    exact ⟨(hA 7).trans (final7 m c _ fun t hf => hl 7 rfl t hf), (hA 8).trans (final8 m c _ fun t hf => hl 8 rfl t hf),
      (hA 9).trans (final9 m c _ fun t hf => hl 9 rfl t hf), (hA 10).trans (final10 m c _ fun t hf => hl 10 rfl t hf)⟩)
    (θ_run_and (run_main m ρ) (unchanged m ρ))

end Cert.AttnIdeal.Gen

end
-- ==== Proof.AttnMath.lean ====
module

public import Idealize.ShloMosaic.PureOps.Ideal.Laws
public import Idealize.ShloMosaic.Lib.IndicatorCount
public import Mathlib.Analysis.SpecialFunctions.Log.Basic

@[expose] public section

set_option maxRecDepth 16384

noncomputable section

/-! The real-number facts behind the attention kernel: the quantiser's exponent found by counting powers of two equals
    the one read off a logarithm, and the softmax in base two equals the softmax in base e. -/

namespace Cert.Blk

open Idealize.ShloMosaic
open scoped BigOperators

/-! ## The quantiser -/

theorem word_fields : ∀ k : Fin 256,
    ((IntOp.shli .vector (BitVec.ofNat 32 k.val) 23#32).extractLsb' 31 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

/-- The word with exponent field `k` and no significand denotes a power of two. -/
theorem ofBits_pow (k : Fin 256) (h0 : 0 < k.val) (h1 : k.val < 255) :
    Ideal.ofBits .f32 (IntOp.shli .vector (BitVec.ofNat 32 k.val) 23#32) = (((2 : ℝ) ^ ((k.val : ℤ) - 127) : ℝ) : EReal) := by
  obtain ⟨a, b, c⟩ := word_fields k
  generalize IntOp.shli .vector (BitVec.ofNat 32 k.val) 23#32 = w at a b c
  have : (2 : ℝ) ^ ((k.val : ℤ) - 127) = (2 : ℝ) ^ (23 : ℤ) * (2 : ℝ) ^ ((k.val : ℤ) - 127 - 23) := by
    rw [← zpow_add₀ (by norm_num)]; congr 1; ring
  rw [this]
  have e : Ideal.ofBits .f32 w = Ideal.ieee 8 23 w := rfl
  rw [e, Ideal.ieee, b, c, if_neg (by omega), if_neg (by omega), a]
  congr 1
  norm_num

theorem ofBits_inf : Ideal.ofBits .f32 0x7F800000#32 = ⊤ := by simp [Ideal.ofBits, Ideal.ieee]
theorem ofBits_neg_inf : Ideal.ofBits .f32 0xFF800000#32 = ⊥ := by simp [Ideal.ofBits, Ideal.ieee]
theorem ofBits_one : Ideal.ofBits .f32 0x3F800000#32 = ((1 : ℝ) : EReal) := by
  simp [Ideal.ofBits, Ideal.ieee, -EReal.coe_mul]; norm_num
theorem ofBits_126 : Ideal.ofBits .f32 0x42FC0000#32 = ((126 : ℝ) : EReal) := by
  simp [Ideal.ofBits, Ideal.ieee, -EReal.coe_mul]; norm_num
theorem ofBits_tiny : Ideal.ofBits .f32 0x00800000#32 = (((2 : ℝ) ^ (-126 : ℤ) : ℝ) : EReal) := by
  have := ofBits_pow 1 (by decide) (by decide)
  have e : IntOp.shli .vector (BitVec.ofNat 32 (1 : Fin 256).val) 23#32 = 0x00800000#32 := by decide +kernel
  rw [e] at this
  rw [this]
  norm_num

theorem shl_inf : IntOp.shli .vector (BitVec.ofNat 32 255) 23#32 = 0x7F800000#32 := by decide +kernel

/-- The word lane `k` compares with. -/
def lane (k : Fin 256) : BitVec 32 :=
  IntOp.shli .vector (Scalar.select (IntOp.cmpi .sgt (BitVec.ofNat 32 k.val) 252#32) (255#32) (BitVec.ofNat 32 k.val)) 23#32

theorem lane_lo : ∀ k : Fin 256, k.val ≤ 252 → lane k = IntOp.shli .vector (BitVec.ofNat 32 k.val) 23#32 := by
  decide +kernel

theorem lane_hi : ∀ k : Fin 256, 252 < k.val → lane k = 0x7F800000#32 := by decide +kernel

theorem sgt0 : ∀ k : Fin 256, IntOp.cmpi .sgt (BitVec.ofNat 32 k.val) 0#32 = BitVec.ofBool (decide (0 < k.val)) := by
  decide +kernel

/-- The count of lanes at or below `A`, as the kernel takes it. -/
def count (A : EReal) : BitVec 32 :=
  (Finset.univ : Finset (Fin 256)).fold IntOp.addi 0#32 fun k =>
    Scalar.select (IntOp.andi (IntOp.cmpi .sgt (BitVec.ofNat 32 k.val) 0#32)
      (BitVec.ofBool (decide (Ideal.ofBits .f32 (lane k) ≤ A)))) 1#32 0#32

theorem select_bool (p q : Bool) : Scalar.select (IntOp.andi (BitVec.ofBool p) (BitVec.ofBool q)) 1#32 0#32
    = (BitVec.ofBool (p && q)).setWidth 32 := by
  cases p <;> cases q <;> decide

theorem count_eq (A : EReal) :
    count A = BitVec.ofNat 32 (Finset.univ.filter fun k : Fin 256 => 0 < k.val ∧ Ideal.ofBits .f32 (lane k) ≤ A).card := by
  unfold count
  have h : ∀ k : Fin 256, Scalar.select (IntOp.andi (IntOp.cmpi .sgt (BitVec.ofNat 32 k.val) 0#32)
      (BitVec.ofBool (decide (Ideal.ofBits .f32 (lane k) ≤ A)))) 1#32 0#32
      = (BitVec.ofBool (decide (0 < k.val) && decide (Ideal.ofBits .f32 (lane k) ≤ A))).setWidth 32 := fun k => by
    rw [sgt0, select_bool]
  simp only [h]
  rw [IndicatorCount.fold_addi_setWidth_eq_card]
  congr 2
  ext k
  simp only [Finset.mem_filter, Finset.mem_univ, true_and]
  by_cases h1 : 0 < k.val <;> by_cases h2 : Ideal.ofBits .f32 (lane k) ≤ A <;> simp [h1, h2]

theorem card_le : ∀ T : Fin 253, (Finset.univ.filter fun k : Fin 256 => 0 < k.val ∧ k.val ≤ T.val).card = T.val := by
  decide +kernel

theorem card_pos : (Finset.univ.filter fun k : Fin 256 => 0 < k.val).card = 255 := by decide +kernel

/-- The exponent word of a count. -/
def expW (n : BitVec 32) : BitVec 32 :=
  Scalar.select (IntOp.ori (IntOp.cmpi .eq n 0#32) (IntOp.cmpi .eq n 255#32)) (0#32) (IntOp.subi n 126#32)

theorem expW_mid : ∀ T : Fin 253, 0 < T.val → IntOp.addi (expW (BitVec.ofNat 32 T.val)) 127#32 = BitVec.ofNat 32 (T.val + 1)
    ∧ IntOp.subi 127#32 (expW (BitVec.ofNat 32 T.val)) = BitVec.ofNat 32 (253 - T.val) := by decide +kernel

theorem expW_zero : IntOp.addi (expW (BitVec.ofNat 32 0)) 127#32 = BitVec.ofNat 32 127
    ∧ IntOp.subi 127#32 (expW (BitVec.ofNat 32 0)) = BitVec.ofNat 32 127 := by decide +kernel

theorem expW_top : IntOp.addi (expW (BitVec.ofNat 32 255)) 127#32 = BitVec.ofNat 32 127
    ∧ IntOp.subi 127#32 (expW (BitVec.ofNat 32 255)) = BitVec.ofNat 32 127 := by decide +kernel

/-- The exponent the reference reads off the logarithm. -/
def refE (A : EReal) : EReal :=
  Scalar.select (IntOp.ori (BitVec.ofBool (decide (A < Ideal.ofBits .f32 0x00800000#32)))
      (BitVec.ofBool (decide (A = Ideal.ofBits .f32 0x7F800000#32)))) (0 : EReal)
    (min (Ideal.liftRound Int.floor (Ideal.div (Ideal.log A) ((Real.log 2 : ℝ) : EReal)) + Ideal.ofBits .f32 0x3F800000#32)
      (Ideal.ofBits .f32 0x42FC0000#32))

theorem ori_bool (p q : Bool) (x y : EReal) :
    Scalar.select (IntOp.ori (BitVec.ofBool p) (BitVec.ofBool q)) x y = if (p || q) = true then x else y := by
  cases p <;> cases q <;> rfl

theorem exp2_int (e : ℤ) : Ideal.exp2 (((e : ℤ) : ℝ) : EReal) = (((2 : ℝ) ^ e : ℝ) : EReal) := by
  rw [Ideal.exp2_coe]
  congr 1
  exact Real.rpow_intCast 2 e

/-- The kernel's scale and its inverse are the powers of two of the reference's exponent. -/
theorem quant (A : EReal) :
    Ideal.ofBits .f32 (IntOp.shli .vector (IntOp.addi (expW (count A)) 127#32) 23#32) = Ideal.exp2 (refE A)
    ∧ Ideal.ofBits .f32 (IntOp.shli .vector (IntOp.subi 127#32 (expW (count A))) 23#32) = Ideal.exp2 (0 - refE A) := by
  have one : Ideal.ofBits .f32 (IntOp.shli .vector (BitVec.ofNat 32 127) 23#32) = 1 := by
    have := ofBits_pow 127 (by decide) (by decide)
    exact this.trans (by norm_num)
  have e0 : Ideal.exp2 (0 : EReal) = 1 := by
    have := exp2_int 0
    simpa using this
  have two : (0 : ℝ) < (2 : ℝ) ^ (-126 : ℤ) := by positivity
  rw [count_eq]
  by_cases hlo : A < (((2 : ℝ) ^ (-126 : ℤ) : ℝ) : EReal)
  · have hr : refE A = 0 := by
      unfold refE
      rw [ori_bool, if_pos (by rw [ofBits_tiny, decide_eq_true hlo]; rfl)]
    have hc : (Finset.univ.filter fun k : Fin 256 => 0 < k.val ∧ Ideal.ofBits .f32 (lane k) ≤ A) = ∅ := by
      refine Finset.filter_eq_empty_iff.2 fun k _ h => ?_
      refine absurd (lt_of_le_of_lt h.2 hlo) (not_lt.2 ?_)
      by_cases hk : k.val ≤ 252
      · rw [lane_lo k hk, ofBits_pow k h.1 (by omega), EReal.coe_le_coe_iff]
        exact zpow_le_zpow_right₀ (by norm_num) (by omega)
      · rw [lane_hi k (by omega), ofBits_inf]; exact le_top
    rw [hc, Finset.card_empty, expW_zero.1, expW_zero.2, hr, one, e0]
    refine ⟨rfl, ?_⟩
    rw [sub_zero, e0]
  · by_cases htop : A = ⊤
    · have hr : refE A = 0 := by
        unfold refE
        rw [ori_bool, if_pos (by rw [ofBits_inf, decide_eq_true htop, Bool.or_true])]
      have hc : (Finset.univ.filter fun k : Fin 256 => 0 < k.val ∧ Ideal.ofBits .f32 (lane k) ≤ A)
          = Finset.univ.filter fun k : Fin 256 => 0 < k.val := by
        refine Finset.filter_congr fun k _ => ?_
        rw [htop]; simp
      rw [hc, card_pos, expW_top.1, expW_top.2, hr, one, e0]
      refine ⟨rfl, ?_⟩
      rw [sub_zero, e0]
    · have hlo' := not_lt.1 hlo
      have hbot : A ≠ ⊥ := fun h => absurd (h ▸ hlo') (not_le.2 (EReal.bot_lt_coe _))
      obtain ⟨r, rfl⟩ : ∃ r : ℝ, A = (r : EReal) := ⟨A.toReal, (EReal.coe_toReal htop hbot).symm⟩
      have hr0 : (2 : ℝ) ^ (-126 : ℤ) ≤ r := EReal.coe_le_coe_iff.1 hlo'
      have hrp : 0 < r := lt_of_lt_of_le two hr0
      set f : ℤ := ⌊Real.log r / Real.log 2⌋ with hf
      have key : ∀ x : ℤ, (2 : ℝ) ^ x ≤ r ↔ x ≤ f := fun x => by
        rw [hf, Int.le_floor, le_div_iff₀ (Real.log_pos (by norm_num)), ← Real.log_zpow,
          Real.log_le_log_iff (by positivity) hrp]
      have hf0 : -126 ≤ f := (key _).1 hr0
      have hl2 : Real.log 2 ≠ 0 := (Real.log_pos (by norm_num)).ne'
      have hdiv : Ideal.div (Ideal.log (r : EReal)) ((Real.log 2 : ℝ) : EReal) = ((Real.log r / Real.log 2 : ℝ) : EReal) := by
        rw [Ideal.div_coe hl2]
        show (if r ≤ 0 then (⊥ : EReal) else (Real.log r : EReal)) * _ = _
        rw [if_neg (not_le.2 hrp), ← EReal.coe_mul]
        congr 1; ring
      have hE : refE (r : EReal) = (((min f 125 + 1 : ℤ) : ℝ) : EReal) := by
        unfold refE
        rw [ori_bool, if_neg (by rw [ofBits_inf, ofBits_tiny, decide_eq_false hlo, decide_eq_false htop]; decide), hdiv, ofBits_one, ofBits_126]
        show min (((⌊Real.log r / Real.log 2⌋ : ℝ) : EReal) + ((1 : ℝ) : EReal)) ((126 : ℝ) : EReal) = _
        rw [← hf, ← EReal.coe_add]
        rcases le_total f 125 with h | h
        · rw [min_eq_left h, min_eq_left (by rw [EReal.coe_le_coe_iff]; exact_mod_cast (by omega : f + 1 ≤ 126))]
          push_cast; rfl
        · rw [min_eq_right h, min_eq_right (by rw [EReal.coe_le_coe_iff]; exact_mod_cast (by omega : (126 : ℤ) ≤ f + 1))]
          norm_num
      obtain ⟨T, hT⟩ : ∃ T : ℕ, (T : ℤ) = min f 125 + 127 := ⟨(min f 125 + 127).toNat, by omega⟩
      have hT0 : 0 < T := by omega
      have hT1 : T < 253 := by omega
      have hc : (Finset.univ.filter fun k : Fin 256 => 0 < k.val ∧ Ideal.ofBits .f32 (lane k) ≤ (r : EReal))
          = Finset.univ.filter fun k : Fin 256 => 0 < k.val ∧ k.val ≤ (⟨T, hT1⟩ : Fin 253).val := by
        refine Finset.filter_congr fun k _ => and_congr_right fun h0 => ?_
        by_cases hk : k.val ≤ 252
        · rw [lane_lo k hk, ofBits_pow k h0 (by omega), EReal.coe_le_coe_iff, key]
          show _ ↔ k.val ≤ T
          omega
        · rw [lane_hi k (by omega), ofBits_inf]
          refine iff_of_false (fun h => htop (top_le_iff.1 h)) ?_
          show ¬ k.val ≤ T
          omega
      rw [hc, card_le ⟨T, hT1⟩, (expW_mid ⟨T, hT1⟩ hT0).1, (expW_mid ⟨T, hT1⟩ hT0).2, hE]
      have a := ofBits_pow ⟨T + 1, by omega⟩ (by show 0 < T + 1; omega) (by show T + 1 < 255; omega)
      have b := ofBits_pow ⟨253 - T, by omega⟩ (by show 0 < 253 - T; omega) (by show 253 - T < 255; omega)
      refine ⟨a.trans ?_, b.trans ?_⟩
      · rw [exp2_int]
        congr 2
        show ((T + 1 : ℕ) : ℤ) - 127 = _
        push_cast; omega
      · have : (0 : EReal) - (((min f 125 + 1 : ℤ) : ℝ) : EReal) = (((-(min f 125 + 1) : ℤ) : ℝ) : EReal) := by
          rw [zero_sub]; push_cast; rfl
        rw [this, exp2_int]
        congr 2
        show ((253 - T : ℕ) : ℤ) - 127 = _
        omega

/-! ## The softmax -/

/-- A maximum over a nonempty range is one of the values. -/
theorem fold_max_attained {n : ℕ} (f : Fin (n + 1) → EReal) :
    ∃ i, (Finset.univ : Finset (Fin (n + 1))).fold max ⊥ f = f i := by
  obtain ⟨i, _, hi⟩ := Finset.exists_max_image Finset.univ f ⟨0, Finset.mem_univ _⟩
  refine ⟨i, le_antisymm (Finset.fold_max_le _ |>.2 ⟨bot_le, fun j hj => hi j hj⟩) ?_⟩
  exact Finset.le_fold_max _ |>.2 (Or.inr ⟨i, Finset.mem_univ _, le_rfl⟩)

theorem le_fold {n : ℕ} (f : Fin n → EReal) (i : Fin n) : f i ≤ (Finset.univ : Finset (Fin n)).fold max ⊥ f :=
  Finset.le_fold_max _ |>.2 (Or.inr ⟨i, Finset.mem_univ _, le_rfl⟩)

theorem coe_sum {n : ℕ} (f : Fin n → ℝ) : ((∑ i, f i : ℝ) : EReal) = ∑ i, (f i : EReal) :=
  map_sum (⟨⟨((↑) : ℝ → EReal), EReal.coe_zero⟩, EReal.coe_add⟩ : ℝ →+ EReal) f Finset.univ

/-- Softmax of real scores in base two with the reciprocal taken first, against base e with a division. -/
theorem softmax {n : ℕ} (S V : Fin (n + 1) → EReal) (hS : ∀ i, ∃ r : ℝ, S i = (r : EReal)) (κ : ℝ) (hκ : 0 < κ) :
    (∑ i, (Ideal.exp2 ((S i - Finset.univ.fold max ⊥ S) * (((κ * (Real.log 2)⁻¹ : ℝ)) : EReal))
        * Ideal.div 1 (∑ j, Ideal.exp2 ((S j - Finset.univ.fold max ⊥ S) * (((κ * (Real.log 2)⁻¹ : ℝ)) : EReal)))) * V i)
      = ∑ i, Ideal.div (Ideal.exp (S i * (κ : EReal) - max ⊥ (Finset.univ.fold max ⊥ fun j => S j * (κ : EReal))))
          (∑ j, Ideal.exp (S j * (κ : EReal) - max ⊥ (Finset.univ.fold max ⊥ fun j => S j * (κ : EReal)))) * V i := by
  choose s hs using hS
  obtain ⟨i0, h0⟩ := fold_max_attained S
  have hM : (Finset.univ.fold max ⊥ fun j => S j * (κ : EReal)) = ((s i0 * κ : ℝ) : EReal) := by
    refine le_antisymm (Finset.fold_max_le _ |>.2 ⟨bot_le, fun j _ => ?_⟩) ?_
    · have := h0 ▸ le_fold S j
      rw [hs, hs, EReal.coe_le_coe_iff] at this
      rw [hs, ← EReal.coe_mul, EReal.coe_le_coe_iff]
      exact mul_le_mul_of_nonneg_right this hκ.le
    · have := le_fold (fun j => S j * (κ : EReal)) i0
      simp only [hs] at this ⊢
      rwa [← EReal.coe_mul] at this
  have hl2 : 0 < Real.log 2 := Real.log_pos (by norm_num)
  have he : ∀ i, Ideal.exp2 ((S i - Finset.univ.fold max ⊥ S) * (((κ * (Real.log 2)⁻¹ : ℝ)) : EReal))
      = ((Real.exp ((s i - s i0) * κ) : ℝ) : EReal) := fun i => by
    rw [h0, hs, hs, ← EReal.coe_sub, ← EReal.coe_mul, Ideal.exp2_coe]
    congr 1
    refine (Real.rpow_def_of_pos (by norm_num) _).trans ?_
    congr 1
    field_simp
  have he' : ∀ i, Ideal.exp (S i * (κ : EReal) - max ⊥ (Finset.univ.fold max ⊥ fun j => S j * (κ : EReal)))
      = ((Real.exp ((s i - s i0) * κ) : ℝ) : EReal) := fun i => by
    rw [hM, max_eq_right bot_le, hs, ← EReal.coe_mul, ← EReal.coe_sub]
    show ((Real.exp _ : ℝ) : EReal) = _
    congr 2; ring
  simp only [he, he']
  rw [← coe_sum]
  have hpos : (∑ i, Real.exp ((s i - s i0) * κ)) ≠ 0 :=
    (Finset.sum_pos (fun i _ => Real.exp_pos _) ⟨0, Finset.mem_univ _⟩).ne'
  simp only [Ideal.div_coe hpos, one_mul]

/-- A sum of products of reals is real. -/
theorem dot_real {n : ℕ} (a b : Fin n → EReal) (ha : ∀ i, ∃ r : ℝ, a i = (r : EReal)) (hb : ∀ i, ∃ r : ℝ, b i = (r : EReal)) :
    ∃ r : ℝ, (∑ i, a i * b i) = (r : EReal) := by
  choose x hx using ha
  choose y hy using hb
  refine ⟨∑ i, x i * y i, ?_⟩
  rw [coe_sum]
  exact Finset.sum_congr rfl fun i _ => by rw [hx, hy, EReal.coe_mul]

end Cert.Blk

end
-- ==== Proof.AttnIdx.lean ====
module

public import proofs.«01_k».proof.Proof.Blk
public import proofs.«01_k».proof.Proof.AttnMath
public import Idealize.ShloMosaic.Lib.Pointwise

@[expose] public section

set_option maxRecDepth 16384

noncomputable section

/-! The block functions of the attention kernel over the extended reals, read at an index. -/

namespace Cert.Blk

open Idealize.ShloMosaic
open scoped BigOperators

theorem dotT_at (q k : FVec Ideal SP .bf16) (i l : Fin 512) :
    dotT (F := Ideal) q k (ix2 i l) = ∑ d : Fin 512, q (ix3 0 i d) * k (ix3 0 l d) := by
  pointwise [dotT, flat, dimsT]

/-- Column `t` of chunk `j` as a key position. -/
def pos (j : Fin 8) (t : Fin 512) : Fin 4096 := ⟨j.val * 512 + t.val, by omega⟩

/-- The 32 lane slices of eight chunks, under a maximum: every entry is below. -/
theorem mx_le (q : FVec Ideal SP .bf16) (k : Fin 8 → FVec Ideal SP .bf16) (i : Fin 512) (y : EReal) :
    mx (F := Ideal) q k (ix2 i 0) ≤ y ↔ ∀ (j : Fin 8) (l : Fin 512), dotT (F := Ideal) q (k j) (ix2 i l) ≤ y := by
  pointwise [mx, lanes, fold4, start4]
  rw [Finset.fold_max_le]
  simp only [Finset.mem_univ, true_imp_iff, max_le_iff]
  constructor
  · rintro ⟨-, h⟩ j l
    have H : ∀ (j : Fin 8) (x : Fin 128), dotT (F := Ideal) q (k j) (ix2 i ⟨x.val, by omega⟩) ≤ y
        ∧ dotT (F := Ideal) q (k j) (ix2 i ⟨128 + x.val, by omega⟩) ≤ y
        ∧ dotT (F := Ideal) q (k j) (ix2 i ⟨256 + x.val, by omega⟩) ≤ y
        ∧ dotT (F := Ideal) q (k j) (ix2 i ⟨384 + x.val, by omega⟩) ≤ y := fun j x => by
      obtain ⟨⟨⟨⟨⟨⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩, h28⟩, h29⟩, h30⟩, h31⟩ := h x
      fin_cases j
      · exact ⟨h0, h1, h2, h3⟩
      · exact ⟨h4, h5, h6, h7⟩
      · exact ⟨h8, h9, h10, h11⟩
      · exact ⟨h12, h13, h14, h15⟩
      · exact ⟨h16, h17, h18, h19⟩
      · exact ⟨h20, h21, h22, h23⟩
      · exact ⟨h24, h25, h26, h27⟩
      · exact ⟨h28, h29, h30, h31⟩
    have hl : l.val = l.val % 128 ∨ l.val = 128 + l.val % 128 ∨ l.val = 256 + l.val % 128 ∨ l.val = 384 + l.val % 128 := by omega
    obtain ⟨a0, a1, a2, a3⟩ := H j ⟨l.val % 128, Nat.mod_lt _ (by omega)⟩
    rcases hl with h | h | h | h
    · exact (congrArg (fun l => dotT (F := Ideal) q (k j) (ix2 i l)) (Fin.ext h)).trans_le a0
    · exact (congrArg (fun l => dotT (F := Ideal) q (k j) (ix2 i l)) (Fin.ext h)).trans_le a1
    · exact (congrArg (fun l => dotT (F := Ideal) q (k j) (ix2 i l)) (Fin.ext h)).trans_le a2
    · exact (congrArg (fun l => dotT (F := Ideal) q (k j) (ix2 i l)) (Fin.ext h)).trans_le a3
  · intro h
    refine ⟨by rw [ofBits_neg_inf]; exact bot_le, fun x => ?_⟩
    simp only [h, and_self]

/-- A sum over 512 columns by 128-lane slices. -/
theorem sum_slices (f : Fin 512 → EReal) :
    ∑ x : Fin 128, (f ⟨x.val, by omega⟩ + f ⟨128 + x.val, by omega⟩ + f ⟨256 + x.val, by omega⟩ + f ⟨384 + x.val, by omega⟩)
      = ∑ l : Fin 512, f l := by
  rw [Fin.sum_univ_tiles 4 128 rfl f, Fin.sum_univ_four]
  simp only [Finset.sum_add_distrib]
  exact congrArg₂ (· + ·) (congrArg₂ (· + ·) (congrArg₂ (· + ·)
    (Finset.sum_congr rfl fun x _ => congrArg f (Fin.ext (by simp)))
    (Finset.sum_congr rfl fun x _ => congrArg f (Fin.ext (by simp))))
    (Finset.sum_congr rfl fun x _ => congrArg f (Fin.ext (by simp))))
    (Finset.sum_congr rfl fun x _ => congrArg f (Fin.ext (by simp)))

/-- One over the sum of the exponentials. -/
theorem rl_at (cst : EReal) (q : FVec Ideal SP .bf16) (k : Fin 8 → FVec Ideal SP .bf16) (i : Fin 512) :
    rl (F := Ideal) cst q k (ix2 i 0)
      = Ideal.div 1 (∑ j : Fin 8, ∑ l : Fin 512, exs (F := Ideal) cst q k j (ix2 i l)) := by
  rw [Fin.sum_univ_eight]
  simp only [← sum_slices, ← Finset.sum_add_distrib]
  pointwise [rl, lanes, fold4, start4]
  refine congrArg (Ideal.div 1) (Finset.sum_congr rfl fun x _ => ?_)
  simp only [add_assoc]

theorem exs_at (cst : EReal) (q : FVec Ideal SP .bf16) (k : Fin 8 → FVec Ideal SP .bf16) (j : Fin 8) (i l : Fin 512) :
    exs (F := Ideal) cst q k j (ix2 i l)
      = Ideal.exp2 ((dotT (F := Ideal) q (k j) (ix2 i l) - mx (F := Ideal) q k (ix2 i 0)) * cst) := by
  pointwise [exs, ex, flat, unflat, wide]
  rfl

theorem pvs_at (cst : EReal) (q : FVec Ideal SP .bf16) (k v : Fin 8 → FVec Ideal SP .bf16) (j : Fin 8) (i d : Fin 512) :
    pvs (F := Ideal) cst q k v j (ix2 i d)
      = ∑ l : Fin 512, (exs (F := Ideal) cst q k j (ix2 i l) * rl (F := Ideal) cst q k (ix2 i 0)) * v j (ix3 0 l d) := by
  pointwise [pvs, pv, flat, unflat, wide, dims]

theorem att_at (cst : EReal) (q : FVec Ideal SP .bf16) (k v : Fin 8 → FVec Ideal SP .bf16) (i d : Fin 512) :
    att (F := Ideal) cst q k v (ix2 i d) = ∑ j : Fin 8, pvs (F := Ideal) cst q k v j (ix2 i d) := by
  rw [Fin.sum_univ_eight]
  pointwise [att]

/-- The attention of one query row against key and value rows. -/
def attRow (cst : EReal) (s v : Fin 4096 → EReal) : EReal :=
  ∑ n, (Ideal.exp2 ((s n - Finset.univ.fold max ⊥ s) * cst)
    * Ideal.div 1 (∑ n, Ideal.exp2 ((s n - Finset.univ.fold max ⊥ s) * cst))) * v n

theorem sum_pos (f : Fin 4096 → EReal) : ∑ j : Fin 8, ∑ t : Fin 512, f (pos j t) = ∑ n, f n :=
  (Fin.sum_univ_tiles 8 512 rfl f).symm

/-- The attention output of a query row, over all the key positions at once. -/
theorem att_row (cst : EReal) (q : FVec Ideal SP .bf16) (k v : Fin 8 → FVec Ideal SP .bf16) (i d : Fin 512)
    (s w : Fin 4096 → EReal) (hs : ∀ j l, (∑ d : Fin 512, q (ix3 0 i d) * k j (ix3 0 l d)) = s (pos j l))
    (hw : ∀ j l, v j (ix3 0 l d) = w (pos j l)) :
    att (F := Ideal) cst q k v (ix2 i d) = attRow cst s w := by
  have hm : mx (F := Ideal) q k (ix2 i 0) = Finset.univ.fold max ⊥ s := by
    refine eq_of_forall_ge_iff fun y => ?_
    rw [mx_le, Finset.fold_max_le]
    simp only [dotT_at, hs, Finset.mem_univ, true_imp_iff, bot_le, true_and]
    refine ⟨fun h n => ?_, fun h j l => h _⟩
    have := h ⟨n.val / 512, by omega⟩ ⟨n.val % 512, by omega⟩
    have e : pos ⟨n.val / 512, by omega⟩ ⟨n.val % 512, by omega⟩ = n := Fin.ext (by simp only [pos]; omega)
    rwa [e] at this
  have he : ∀ j l, exs (F := Ideal) cst q k j (ix2 i l)
      = (fun n => Ideal.exp2 ((s n - Finset.univ.fold max ⊥ s) * cst)) (pos j l) := fun j l => by
    rw [exs_at, dotT_at, hs, hm]
  unfold attRow
  rw [att_at, ← sum_pos]
  refine Finset.sum_congr rfl fun j _ => ?_
  rw [pvs_at]
  refine Finset.sum_congr rfl fun l _ => ?_
  rw [rl_at]
  simp only [he, hw]
  rw [sum_pos fun n => Ideal.exp2 ((s n - Finset.univ.fold max ⊥ s) * cst)]

/-- The scaled largest magnitude of a row. -/
def amaxR (o : Fin 512 → EReal) : EReal :=
  Finset.univ.fold max ⊥ (fun x => max (o x) (-o x)) * Ideal.ofBits .f32 0x3B124925#32

theorem amax_at (o : FVec Ideal SM .f32) (i : Fin 512) :
    amax (F := Ideal) o (ix2 i 0) = amaxR fun d => o (ix2 i d) := by
  pointwise [amax]
  rw [ofBits_neg_inf]
  rfl

theorem cnt_at (a : FVec Ideal SC .f32) (i : Fin 512) : cnt (F := Ideal) a (ix2 i 0) = count (a (ix2 i 0)) := by
  pointwise [cnt, pows]
  rfl

theorem expo_at (n : IVec SC 32) (i : Fin 512) : expo n (ix2 i 0) = expW (n (ix2 i 0)) := by
  pointwise [expo]
  rfl

theorem scale_at (o : FVec Ideal SM .f32) (i : Fin 512) :
    scale (F := Ideal) o (ix2 i 0) = Ideal.exp2 (refE (amaxR fun d => o (ix2 i d))) := by
  pointwise [scale]
  rw [expo_at, cnt_at, amax_at]
  exact (quant _).1

theorem inv_at (o : FVec Ideal SM .f32) (i : Fin 512) :
    inv (F := Ideal) o (ix2 i 0) = Ideal.exp2 (0 - refE (amaxR fun d => o (ix2 i d))) := by
  pointwise [inv]
  rw [expo_at, cnt_at, amax_at]
  exact (quant _).2

/-- The codes of a row. -/
def codesR (o : Fin 512 → EReal) (d : Fin 512) : EReal :=
  min (Ideal.ofBits .f32 0x43E00000#32) (max (Ideal.ofBits .f32 0xC3E00000#32) (o d * Ideal.exp2 (0 - refE (amaxR o))))

theorem codes_at (o : FVec Ideal SM .f32) (i d : Fin 512) :
    codes (F := Ideal) o (ix2 i d) = codesR (fun d => o (ix2 i d)) d := by
  pointwise [codes, wide]
  rw [inv_at]
  rfl

/-- The projection of a row. -/
def projR (o : Fin 512 → EReal) (w : Fin 512 → EReal) (sc b : EReal) : EReal :=
  (∑ x, codesR o x * w x) * Ideal.exp2 (refE (amaxR o)) * sc + b

theorem proj_at (o : FVec Ideal SM .f32) (w : FVec Ideal SM .fp8e4m3) (sc b : FVec Ideal SR .f32) (i d : Fin 512) :
    proj (F := Ideal) o w sc b (ix2 i d)
      = projR (fun d => o (ix2 i d)) (fun x => w (ix2 x d)) (sc (ix2 0 d)) (b (ix2 0 d)) := by
  pointwise [proj, dims, wide]
  simp only [codes_at, scale_at]
  rfl

theorem eqW : ∀ x l : Fin 128, IntOp.cmpi .eq (BitVec.ofNat 32 x.val) (BitVec.ofNat 32 l.val) = BitVec.ofBool (decide (x = l)) := by
  decide +kernel

theorem rowPart_at (s : FVec Ideal SE1 .f32) (l : Fin 128) : rowPart (F := Ideal) s (ix2 0 l) = s (ix2 l 0) := by
  pointwise [rowPart]
  simp only [eqW]
  have : ∀ x : Fin 128, Scalar.select (BitVec.ofBool (decide (x = l))) (s (ix2 x 0)) (0 : EReal) = if x = l then s (ix2 x 0) else 0 := fun x => by
    by_cases h : x = l <;> simp [h, Scalar.select]
  simp only [this]
  exact (Finset.sum_ite_eq' _ _ _).trans (if_pos (Finset.mem_univ _))

theorem rowOf_at (s : FVec Ideal SC .f32) (l : Fin 512) : rowOf (F := Ideal) s (ix2 0 l) = s (ix2 l 0) := by
  pointwise [rowOf]
  by_cases h1 : l.val < 128
  · rw [dif_pos h1, rowPart_at]; pointwise
  · rw [dif_neg h1]
    by_cases h2 : l.val - 128 < 128
    · rw [dif_pos h2, rowPart_at]; pointwise; exact congrArg s (congrArg (fun a => ix2 a 0) (Fin.ext (by simp; omega)))
    · rw [dif_neg h2]
      by_cases h3 : l.val - 128 - 128 < 128
      · rw [dif_pos h3, rowPart_at]; pointwise; exact congrArg s (congrArg (fun a => ix2 a 0) (Fin.ext (by simp; omega)))
      · rw [dif_neg h3, rowPart_at]; pointwise; exact congrArg s (congrArg (fun a => ix2 a 0) (Fin.ext (by simp; omega)))

theorem resP_at (o : FVec Ideal SM .f32) (x : FVec Ideal SP .bf16) (w : FVec Ideal SM .fp8e4m3) (sc b : FVec Ideal SR .f32) (i d : Fin 512) :
    resP (F := Ideal) o x w sc b (ix3 0 i d) = x (ix3 0 i d) + proj (F := Ideal) o w sc b (ix2 i d) := by
  pointwise [resP, flat, unflat]

theorem projP_at (o : FVec Ideal SM .f32) (w : FVec Ideal SM .fp8e4m3) (sc b : FVec Ideal SR .f32) (i d : Fin 512) :
    projP (F := Ideal) o w sc b (ix3 0 i d) = proj (F := Ideal) o w sc b (ix2 i d) := by
  pointwise [projP, flat, unflat]

theorem codesP_at (o : FVec Ideal SM .f32) (i d : Fin 512) :
    codesP (F := Ideal) o (ix3 0 i d) = codes (F := Ideal) o (ix2 i d) := by
  pointwise [codesP, flat, unflat]

theorem half_at {e : EltTy} (X : Vec Ideal SQ e) (n : Fin 2) (i d : Fin 512) :
    half X n (ix3 0 i d) = X (ix3 0 ⟨512 * n.val + i.val, by omega⟩ d) := by
  unfold half
  pointwise

theorem chunk_at {e : EltTy} (X : Vec Ideal SK e) (j : Fin 8) (i d : Fin 512) :
    chunk X j (ix3 0 i d) = X (ix3 0 (pos j i) d) := by
  unfold chunk
  pointwise
  exact congrArg X (congrArg (fun a => ix3 0 a d) (Fin.ext (by simp only [pos]; omega)))

end Cert.Blk

end
-- ==== Proof.AttnIn.lean ====
module

public import proofs.«01_k».proof.Proof.AttnLaunch
public import proofs.«01_k».proof.Proof.AttnIdx
public import Idealize.ShloMosaic.Lib.Pointwise

@[expose] public section

set_option maxRecDepth 16384

noncomputable section

/-! The blocks of the attention call, read off its argument arrays. -/

namespace Cert.AttnIdeal.Gen

open Idealize.ShloMosaic Idealize.ShloMosaic.TcCoe Idealize.ShloMosaic.Tactic Idealize.SL.Sem

variable {F : FTy → Type} [FloatOps F] [Named F]
variable (m : (ℓ : Loc nD τ sig) → Buf (Elt F) ℓ)

theorem index0_0 : ∀ t : Fin cfg0.N, win0_0.index t = ![t.val / 4, t.val % 4, 0] := (by decide +kernel : ∀ t : Fin grid0.N, _)
theorem index0_1 : ∀ t : Fin cfg0.N, win0_1.index t = ![t.val / 4, 0, 0] := (by decide +kernel : ∀ t : Fin grid0.N, _)
theorem index0_2 : ∀ t : Fin cfg0.N, win0_2.index t = ![t.val / 4, 0, 0] := (by decide +kernel : ∀ t : Fin grid0.N, _)
theorem index0_3 : ∀ t : Fin cfg0.N, win0_3.index t = ![t.val / 4, t.val % 4, 0] := (by decide +kernel : ∀ t : Fin grid0.N, _)
theorem index0_4 : ∀ t : Fin cfg0.N, win0_4.index t = ![0, 0] := (by decide +kernel : ∀ t : Fin grid0.N, _)
theorem index0_5 : ∀ t : Fin cfg0.N, win0_5.index t = ![0, 0] := (by decide +kernel : ∀ t : Fin grid0.N, _)
theorem index0_6 : ∀ t : Fin cfg0.N, win0_6.index t = ![0, 0] := (by decide +kernel : ∀ t : Fin grid0.N, _)

theorem row_of (t : Fin cfg0.N) : t.val / 4 < 20 := by have : t.val < 80 := t.isLt; omega

theorem iblk0 (c : Dev nD) (t : Fin cfg0.N) (i : Fin 1024) (d : Fin 512) :
    (iblk m c 0 t : Vec F S1x1024x512 .bf16) (ix3 0 i d)
      = (m ((c : Thread nD τ).loc main_arg0) : Vec F S20x4096x512 .bf16)
          (ix3 ⟨t.val / 4, row_of t⟩ ⟨1024 * (t.val % 4) + i.val, by omega⟩ d) := by
  blk_point [iblk, V, index0_0 t]

theorem iblk1 (c : Dev nD) (t : Fin cfg0.N) (i : Fin 4096) (d : Fin 512) :
    (iblk m c 1 t : Vec F S1x4096x512 .bf16) (ix3 0 i d)
      = (m ((c : Thread nD τ).loc main_arg1) : Vec F S20x4096x512 .bf16) (ix3 ⟨t.val / 4, row_of t⟩ i d) := by
  blk_point [iblk, V, index0_1 t]

theorem iblk2 (c : Dev nD) (t : Fin cfg0.N) (i : Fin 4096) (d : Fin 512) :
    (iblk m c 2 t : Vec F S1x4096x512 .bf16) (ix3 0 i d)
      = (m ((c : Thread nD τ).loc main_arg2) : Vec F S20x4096x512 .bf16) (ix3 ⟨t.val / 4, row_of t⟩ i d) := by
  blk_point [iblk, V, index0_2 t]

theorem iblk3 (c : Dev nD) (t : Fin cfg0.N) (i : Fin 1024) (d : Fin 512) :
    (iblk m c 3 t : Vec F S1x1024x512 .bf16) (ix3 0 i d)
      = (m ((c : Thread nD τ).loc main_arg3) : Vec F S20x4096x512 .bf16)
          (ix3 ⟨t.val / 4, row_of t⟩ ⟨1024 * (t.val % 4) + i.val, by omega⟩ d) := by
  blk_point [iblk, V, index0_3 t]

theorem iblk4 (c : Dev nD) (t : Fin cfg0.N) (i : Fin 512) (d : Fin 512) :
    (iblk m c 4 t : Vec F S512x512 .fp8e4m3) (ix2 i d)
      = (m ((c : Thread nD τ).loc main_arg4) : Vec F S512x512 .fp8e4m3) (ix2 i d) := by
  blk_point [iblk, V, index0_4 t]

theorem iblk5 (c : Dev nD) (t : Fin cfg0.N) (d : Fin 512) :
    (iblk m c 5 t : Vec F S1x512 .f32) (ix2 0 d)
      = (m ((c : Thread nD τ).loc main_arg5) : Vec F S512 .f32) (ix1 d) := by
  blk_point [iblk, V, index0_5 t]

theorem iblk6 (c : Dev nD) (t : Fin cfg0.N) (d : Fin 512) :
    (iblk m c 6 t : Vec F S1x512 .f32) (ix2 0 d)
      = (m ((c : Thread nD τ).loc main_arg6) : Vec F S512 .f32) (ix1 d) := by
  blk_point [iblk, V, index0_6 t]

end Cert.AttnIdeal.Gen

end
-- ==== Proof.AttnVal.lean ====
module

public import proofs.«01_k».proof.Proof.AttnIn

@[expose] public section

set_option maxRecDepth 16384

noncomputable section

/-! The attention call's results over the extended reals, as functions of its argument arrays. -/

namespace Cert.AttnIdeal.Gen

open Idealize.ShloMosaic Idealize.ShloMosaic.TcCoe Idealize.ShloMosaic.Tactic Idealize.SL.Sem
open scoped BigOperators

variable (m : (ℓ : Loc nD τ sig) → Buf (Elt Ideal) ℓ)

/-- The attention output at query row `r` of image `b`. -/
def attA (q k v : FVec Ideal S20x4096x512 .bf16) (b : Fin 20) (r : Fin 4096) (d : Fin 512) : EReal :=
  Blk.attRow (((Real.sqrt 512)⁻¹ * (Real.log 2)⁻¹ : ℝ) : EReal)
    (fun n => ∑ d : Fin 512, q (ix3 b r d) * k (ix3 b n d)) (fun n => v (ix3 b n d))

/-- The projection at row `r` of image `b`. -/
def projA (q k v : FVec Ideal S20x4096x512 .bf16) (w : FVec Ideal S512x512 .fp8e4m3) (sc bi : FVec Ideal S512 .f32)
    (b : Fin 20) (r : Fin 4096) (d : Fin 512) : EReal :=
  Blk.projR (attA q k v b r) (fun x => w (ix2 x d)) (sc (ix1 d)) (bi (ix1 d))

/-- The residual sum at row `r` of image `b`. -/
def resA (q k v x : FVec Ideal S20x4096x512 .bf16) (w : FVec Ideal S512x512 .fp8e4m3) (sc bi : FVec Ideal S512 .f32)
    (b : Fin 20) (r : Fin 4096) (d : Fin 512) : EReal :=
  x (ix3 b r d) + projA q k v w sc bi b r d

theorem two_at {e : EltTy} (B : Fin 2 → Vec Ideal Blk.SP e) (x : Fin 1024) (d : Fin 512) :
    Blk.two B (ix3 0 x d) = B ⟨x.val / 512, by omega⟩ (ix3 0 ⟨x.val % 512, Nat.mod_lt _ (by omega)⟩ d) := by
  unfold Blk.two
  by_cases h : x.val < 512
  · refine (dif_pos h).trans ?_
    have e1 : (⟨x.val / 512, by omega⟩ : Fin 2) = 0 := Fin.ext (by show x.val / 512 = 0; omega)
    have e2 : (⟨x.val % 512, Nat.mod_lt _ (by omega)⟩ : Fin 512) = ⟨x.val, h⟩ := Fin.ext (by show x.val % 512 = x.val; omega)
    rw [e1, e2]; rfl
  · refine (dif_neg h).trans ?_
    have e1 : (⟨x.val / 512, by omega⟩ : Fin 2) = 1 := Fin.ext (by show x.val / 512 = 1; omega)
    have e2 : (⟨x.val % 512, Nat.mod_lt _ (by omega)⟩ : Fin 512) = ⟨x.val - 512, by omega⟩ :=
      Fin.ext (by show x.val % 512 = x.val - 512; omega)
    rw [e1, e2]; rfl

theorem pt_div (b : Fin 20) (r : Fin 4096) : (ptOf b r).val / 4 = b.val := by
  show (4 * b.val + r.val / 1024) / 4 = b.val; omega

theorem pt_mod (b : Fin 20) (r : Fin 4096) : (ptOf b r).val % 4 = r.val / 1024 := by
  show (4 * b.val + r.val / 1024) % 4 = r.val / 1024; omega

theorem att0_at (c : Dev nD) (b : Fin 20) (r : Fin 4096) (n : Fin 2) (i d : Fin 512) (hn : n.val = r.val % 1024 / 512)
    (hi : i.val = r.val % 512) :
    att0 m c (ptOf b r) n (ix2 i d) = attA (m ((c : Thread nD τ).loc main_arg0)) (m ((c : Thread nD τ).loc main_arg1))
      (m ((c : Thread nD τ).loc main_arg2)) b r d := by
  have eb : (⟨(ptOf b r).val / 4, row_of (ptOf b r)⟩ : Fin 20) = b := Fin.ext (pt_div b r)
  refine Blk.att_row _ _ _ _ i d _ _ (fun j l => Finset.sum_congr rfl fun x _ => ?_) fun j l => ?_
  · rw [Blk.half_at, Blk.chunk_at]
    refine congrArg₂ (· * ·) ((iblk0 m c _ _ x).trans ?_) ((iblk1 m c _ _ x).trans ?_)
    · exact congrArg₂ (fun a e => (m ((c : Thread nD τ).loc main_arg0) : Vec Ideal S20x4096x512 .bf16) (ix3 a e x)) eb
        (Fin.ext (by have := pt_mod b r; show 1024 * ((ptOf b r).val % 4) + (512 * n.val + i.val) = r.val; omega))
    · exact congrArg (fun a => (m ((c : Thread nD τ).loc main_arg1) : Vec Ideal S20x4096x512 .bf16) (ix3 a _ x)) eb
  · rw [Blk.chunk_at]
    refine (iblk2 m c _ _ d).trans ?_
    exact congrArg (fun a => (m ((c : Thread nD τ).loc main_arg2) : Vec Ideal S20x4096x512 .bf16) (ix3 a _ d)) eb

theorem proj_point (c : Dev nD) (b : Fin 20) (r : Fin 4096) (n : Fin 2) (i d : Fin 512) (hn : n.val = r.val % 1024 / 512)
    (hi : i.val = r.val % 512) :
    Blk.proj (F := Ideal) (att0 m c (ptOf b r) n) (iblk m c 4 (ptOf b r)) (iblk m c 5 (ptOf b r)) (iblk m c 6 (ptOf b r)) (ix2 i d)
      = projA (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6)) b r d := by
  refine (Blk.proj_at _ _ _ _ _ _).trans ?_
  have e : (fun d => att0 m c (ptOf b r) n (ix2 i d)) = attA (m ((c : Thread nD τ).loc main_arg0))
      (m ((c : Thread nD τ).loc main_arg1)) (m ((c : Thread nD τ).loc main_arg2)) b r :=
    funext fun d => att0_at m c b r n i d hn hi
  rw [e]
  have e4 : (fun x : Fin 512 => (iblk m c 4 (ptOf b r) : Vec Ideal S512x512 .fp8e4m3) (ix2 x d))
      = fun x => (m ((c : Thread nD τ).loc main_arg4) : Vec Ideal S512x512 .fp8e4m3) (ix2 x d) :=
    funext fun x => iblk4 m c _ x d
  exact (congrArg (fun f => Blk.projR _ f _ _) e4).trans
    (congrArg₂ (fun s t => Blk.projR _ _ s t) (iblk5 m c _ d) (iblk6 m c _ d))

theorem arr8_at (c : Dev nD) (b : Fin 20) (r : Fin 4096) (d : Fin 512) :
    (arr8 m c : Vec Ideal S20x4096x512 .bf16) (ix3 b r d)
      = projA (m ((c : Thread nD τ).loc main_arg0)) (m ((c : Thread nD τ).loc main_arg1)) (m ((c : Thread nD τ).loc main_arg2))
        (m ((c : Thread nD τ).loc main_arg4)) (m ((c : Thread nD τ).loc main_arg5)) (m ((c : Thread nD τ).loc main_arg6)) b r d := by
  refine (two_at (e := .bf16) (fun n => Blk.projP (att0 m c (ptOf b r) n) (iblk m c 4 (ptOf b r)) (iblk m c 5 (ptOf b r)) (iblk m c 6 (ptOf b r))) ⟨r.val % 1024, Nat.mod_lt _ (by omega)⟩ d).trans ?_
  refine (Blk.projP_at _ _ _ _ _ _).trans ?_
  exact proj_point m c b r _ _ d rfl (by show r.val % 1024 % 512 = r.val % 512; omega)

theorem arr7_at (c : Dev nD) (b : Fin 20) (r : Fin 4096) (d : Fin 512) :
    (arr7 m c : Vec Ideal S20x4096x512 .bf16) (ix3 b r d)
      = resA (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) b r d := by
  refine (two_at (e := .bf16) (fun n => Blk.resP (att0 m c (ptOf b r) n)
    (Blk.half (e := .bf16) (iblk m c 3 (ptOf b r)) n) (iblk m c 4 (ptOf b r)) (iblk m c 5 (ptOf b r)) (iblk m c 6 (ptOf b r))) ⟨r.val % 1024, Nat.mod_lt _ (by omega)⟩ d).trans ?_
  refine (Blk.resP_at _ _ _ _ _ _ _).trans ?_
  refine Ideal.add_congr ?_ (proj_point m c b r _ _ d rfl (by show r.val % 1024 % 512 = r.val % 512; omega))
  rw [Blk.half_at]
  refine (iblk3 m c _ _ d).trans ?_
  exact congrArg₂ (fun a e => (m ((c : Thread nD τ).loc main_arg3) : Vec Ideal S20x4096x512 .bf16) (ix3 a e d))
    (Fin.ext (pt_div b r)) (Fin.ext (by
      have := pt_mod b r
      show 1024 * ((ptOf b r).val % 4) + (512 * (r.val % 1024 / 512) + r.val % 1024 % 512) = r.val; omega))

theorem arr9_at (c : Dev nD) (b : Fin 20) (r : Fin 4096) (d : Fin 512) :
    (arr9 m c : Vec Ideal S20x4096x512 .fp8e4m3) (ix3 b r d)
      = Blk.codesR (attA (m ((c : Thread nD τ).loc main_arg0)) (m ((c : Thread nD τ).loc main_arg1))
          (m ((c : Thread nD τ).loc main_arg2)) b r) d := by
  refine (two_at (e := .fp8e4m3) (fun n => Blk.codesP (att0 m c (ptOf b r) n)) ⟨r.val % 1024, Nat.mod_lt _ (by omega)⟩ d).trans ?_
  refine (Blk.codesP_at _ _ _).trans ((Blk.codes_at _ _ _).trans ?_)
  exact congrArg (fun f => Blk.codesR f d) (funext fun d =>
    att0_at m c b r _ _ d rfl (by show r.val % 1024 % 512 = r.val % 512; omega))

theorem arr10_at (c : Dev nD) (b : Fin 20) (r : Fin 4096) :
    (arr10 m c : Vec Ideal S20x4096 .f32) (ix2 b r)
      = Ideal.exp2 (Blk.refE (Blk.amaxR (attA (m ((c : Thread nD τ).loc main_arg0)) (m ((c : Thread nD τ).loc main_arg1))
          (m ((c : Thread nD τ).loc main_arg2)) b r))) := by
  refine (Blk.rowOf_at _ ⟨r.val % 512, Nat.mod_lt _ (by omega)⟩).trans ((Blk.scale_at _ _).trans ?_)
  exact congrArg (fun f => Ideal.exp2 (Blk.refE (Blk.amaxR f))) (funext fun d => att0_at m c b r _ _ d rfl rfl)

end Cert.AttnIdeal.Gen

end
-- ==== Proof.RefIdx.lean ====
module

public import proofs.«01_k».proof.Proof.Gen.RefAttnIdeal.Value
public import proofs.«01_k».proof.Proof.AttnIdx
public import Idealize.ShloMosaic.Lib.Pointwise

@[expose] public section

set_option maxRecDepth 16384

noncomputable section

/-! The reference's payloads over the extended reals, read at an index. -/

namespace Cert.RefAttnIdeal.Gen

open Idealize.ShloMosaic
open scoped BigOperators

/-- The scores. -/
def scores (q k : FVec Ideal S20x4096x512 .bf16) : FVec Ideal S20x4096x4096 .f32 :=
  mulf (matmul dot_S20x4096x512_S20x4096x512_S20x4096x4096_2_2_1_1_0_0 none q k (constant S20x4096x4096 .f32 0x00000000#32))
    (broadcast S20x4096x4096 (Named.named κ "score" 0x3D3504F3#32))

/-- The exponentials below the row maximum. -/
def exps (s : FVec Ideal S20x4096x4096 .f32) : FVec Ideal S20x4096x4096 .f32 :=
  exp (subf s (broadcastTo S20x4096x4096 (shapeCast S20x4096x1 (maximumf (broadcast S20x4096 (Scalar.ofBits .f32 0xFF800000#32))
    (multiReduction .maximumf [2] S20x4096 s 0xFF800000#32 reduces_S20x4096x4096_S20x4096 (.inl rfl) rfl))
    shapeCasts_S20x4096_S20x4096x1) broadcasts_S20x4096x1_S20x4096x4096))

/-- The exponentials over their row sum. -/
def probs (e : FVec Ideal S20x4096x4096 .f32) : FVec Ideal S20x4096x4096 .bf16 :=
  truncf .bf16 (divf e (broadcastTo S20x4096x4096 (shapeCast S20x4096x1
    (multiReduction .add [2] S20x4096 e 0x00000000#32 reduces_S20x4096x4096_S20x4096 (.inl rfl) rfl)
    shapeCasts_S20x4096_S20x4096x1) broadcasts_S20x4096x1_S20x4096x4096)) bitsLt_bf16_f32

/-- The scaled row maximum of the magnitudes. -/
def amaxT (o : FVec Ideal S20x4096x512 .f32) : FVec Ideal S20x4096x1 .f32 :=
  mulf (shapeCast S20x4096x1 (multiReduction .maximumf [2] S20x4096 (absf o) 0xFF800000#32 reduces_S20x4096x512_S20x4096 (.inl rfl) rfl)
    shapeCasts_S20x4096_S20x4096x1) (broadcast S20x4096x1 (Scalar.ofBits .f32 0x3B124925#32))

theorem pay1_eq (q k v : FVec Ideal S20x4096x512 .bf16) : k0_pay1 (F := Ideal) q k v
    = matmul dot_S20x4096x4096_S20x4096x512_S20x4096x512_2_1_1_2_0_0 none (probs (exps (scores q k))) v
      (constant S20x4096x512 .f32 0x00000000#32) := rfl

theorem pay2_eq (q k v : FVec Ideal S20x4096x512 .bf16) : k0_pay2 (F := Ideal) q k v = amaxT (k0_pay1 (F := Ideal) q k v) := rfl

theorem scores_at (q k : FVec Ideal S20x4096x512 .bf16) (b : Fin 20) (i l : Fin 4096) :
    scores q k (ix3 b i l) = (∑ d : Fin 512, q (ix3 b i d) * k (ix3 b l d)) * (((Real.sqrt 512)⁻¹ : ℝ) : EReal) := by
  pointwise [scores]
  rfl

theorem maxr_at (s : FVec Ideal S20x4096x4096 .f32) (b : Fin 20) (i : Fin 4096) :
    multiReduction .maximumf [2] S20x4096 s 0xFF800000#32 reduces_S20x4096x4096_S20x4096 (.inl rfl) rfl (ix2 b i)
      = (Finset.univ : Finset (Fin 4096)).fold max ⊥ fun l => s (ix3 b i l) := by
  refine Eq.trans ?_ (congrArg (fun z => (Finset.univ : Finset (Fin 4096)).fold max z fun l => s (ix3 b i l)) Cert.Blk.ofBits_neg_inf)
  pointwise

theorem maxc_at (s : FVec Ideal S20x4096x512 .f32) (b : Fin 20) (i : Fin 4096) :
    multiReduction .maximumf [2] S20x4096 s 0xFF800000#32 reduces_S20x4096x512_S20x4096 (.inl rfl) rfl (ix2 b i)
      = (Finset.univ : Finset (Fin 512)).fold max ⊥ fun l => s (ix3 b i l) := by
  refine Eq.trans ?_ (congrArg (fun z => (Finset.univ : Finset (Fin 512)).fold max z fun l => s (ix3 b i l)) Cert.Blk.ofBits_neg_inf)
  pointwise

theorem exp_sub_at (s : FVec Ideal S20x4096x4096 .f32) (u : FVec Ideal S20x4096 .f32) (b : Fin 20) (i l : Fin 4096) :
    exp (subf s (broadcastTo S20x4096x4096 (shapeCast S20x4096x1 u shapeCasts_S20x4096_S20x4096x1)
      broadcasts_S20x4096x1_S20x4096x4096)) (ix3 b i l) = Ideal.exp (s (ix3 b i l) - u (ix2 b i)) := by
  pointwise

theorem max_at (u : FVec Ideal S20x4096 .f32) (b : Fin 20) (i : Fin 4096) :
    maximumf (broadcast S20x4096 (Scalar.ofBits .f32 0xFF800000#32)) u (ix2 b i) = max ⊥ (u (ix2 b i)) := by
  rw [← Cert.Blk.ofBits_neg_inf]
  rfl

theorem exps_at (s : FVec Ideal S20x4096x4096 .f32) (b : Fin 20) (i l : Fin 4096) :
    exps s (ix3 b i l) = Ideal.exp (s (ix3 b i l) - max ⊥ (Finset.univ.fold max ⊥ fun l => s (ix3 b i l))) := by
  unfold exps
  rw [exp_sub_at, max_at, maxr_at]

theorem probs_at (e : FVec Ideal S20x4096x4096 .f32) (b : Fin 20) (i l : Fin 4096) :
    probs e (ix3 b i l) = Ideal.div (e (ix3 b i l)) (∑ l, e (ix3 b i l)) := by
  pointwise [probs]

theorem mm_at (p : FVec Ideal S20x4096x4096 .bf16) (v : FVec Ideal S20x4096x512 .bf16) (b : Fin 20) (i : Fin 4096) (d : Fin 512) :
    matmul dot_S20x4096x4096_S20x4096x512_S20x4096x512_2_1_1_2_0_0 none p v (constant S20x4096x512 .f32 0x00000000#32) (ix3 b i d)
      = ∑ l : Fin 4096, p (ix3 b i l) * v (ix3 b l d) := by
  pointwise

theorem col_mul_at (u : FVec Ideal S20x4096 .f32) (z : EReal) (b : Fin 20) (i : Fin 4096) :
    (mulf (shapeCast S20x4096x1 u shapeCasts_S20x4096_S20x4096x1) (broadcast S20x4096x1 z) : FVec Ideal S20x4096x1 .f32) (ix3 b i 0)
      = u (ix2 b i) * z := by
  pointwise

theorem amaxT_at (o : FVec Ideal S20x4096x512 .f32) (b : Fin 20) (i : Fin 4096) :
    amaxT o (ix3 b i 0) = Cert.Blk.amaxR fun d => o (ix3 b i d) :=
  (col_mul_at _ _ b i).trans (congrArg (· * Ideal.ofBits .f32 0x3B124925#32) (maxc_at (absf o) b i))

/-- The reference's attention output of finite queries and keys. -/
theorem pay1_at (q k v : FVec Ideal S20x4096x512 .bf16) (hq : ∀ x, ∃ r : ℝ, q x = (r : EReal)) (hk : ∀ x, ∃ r : ℝ, k x = (r : EReal))
    (b : Fin 20) (i : Fin 4096) (d : Fin 512) :
    k0_pay1 (F := Ideal) q k v (ix3 b i d) = Cert.Blk.attRow (((Real.sqrt 512)⁻¹ * (Real.log 2)⁻¹ : ℝ) : EReal)
      (fun n => ∑ d : Fin 512, q (ix3 b i d) * k (ix3 b n d)) (fun n => v (ix3 b n d)) := by
  rw [pay1_eq, mm_at]
  simp only [probs_at, exps_at, scores_at]
  exact (Cert.Blk.softmax (n := 4095) (fun n => ∑ d : Fin 512, q (ix3 b i d) * k (ix3 b n d)) (fun n => v (ix3 b n d))
    (fun n => Cert.Blk.dot_real _ _ (fun _ => hq _) fun _ => hk _) _ (inv_pos.2 (Real.sqrt_pos.2 (by norm_num)))).symm

/-- The select on the exponent over any scaled maxima. -/
theorem exp_at (a : FVec Ideal S20x4096x1 .f32) (b : Fin 20) (i : Fin 4096) :
    k0_pay5 (F := Ideal) (ori (cmpf .olt a (broadcast S20x4096x1 (Scalar.ofBits .f32 0x00800000#32)))
        (cmpf .oeq a (broadcast S20x4096x1 (Scalar.ofBits .f32 0x7F800000#32))))
      (minimumf (addf (floor (divf (log a) (broadcast S20x4096x1 (Named.named κ "ln2" 0x3F317218#32))))
        (broadcast S20x4096x1 (Scalar.ofBits .f32 0x3F800000#32))) (broadcast S20x4096x1 (Scalar.ofBits .f32 0x42FC0000#32)))
      (Scalar.ofBits .f32 0x00000000#32) (ix3 b i 0) = Cert.Blk.refE (a (ix3 b i 0)) := by
  pointwise [k0_pay5]
  unfold Cert.Blk.refE
  rw [Cert.Blk.ofBits_one]
  rfl

theorem pay5_at (q k v : FVec Ideal S20x4096x512 .bf16) (b : Fin 20) (i : Fin 4096) :
    k0_pay5 (F := Ideal) (k0_pay3 (F := Ideal) q k v) (k0_pay4 (F := Ideal) q k v) (Scalar.ofBits .f32 0x00000000#32) (ix3 b i 0)
      = Cert.Blk.refE (Cert.Blk.amaxR fun d => k0_pay1 (F := Ideal) q k v (ix3 b i d)) :=
  (exp_at (k0_pay2 (F := Ideal) q k v) b i).trans (by rw [pay2_eq, amaxT_at])

theorem pay6_at (o : FVec Ideal S20x4096x512 .f32) (v28 : IVec S20x4096x1 1) (v36 : FVec Ideal S20x4096x1 .f32) (z : EReal)
    (b : Fin 20) (i : Fin 4096) (d : Fin 512)
    (he : k0_pay5 (F := Ideal) v28 v36 z (ix3 b i 0) = Cert.Blk.refE (Cert.Blk.amaxR fun d => o (ix3 b i d))) :
    k0_pay6 (F := Ideal) o v28 v36 z (ix3 b i d) = Cert.Blk.codesR (fun d => o (ix3 b i d)) d := by
  pointwise [k0_pay6]
  rw [he]
  rfl

theorem pay7_at (v28 : IVec S20x4096x1 1) (v36 : FVec Ideal S20x4096x1 .f32) (z : EReal) (b : Fin 20) (i : Fin 4096) :
    k0_pay7 (F := Ideal) v28 v36 z (ix3 b i 0) = Ideal.exp2 (k0_pay5 (F := Ideal) v28 v36 z (ix3 b i 0)) := by
  pointwise [k0_pay7]
  rfl

theorem pay8_at (o : FVec Ideal S20x4096x512 .f32) (v28 : IVec S20x4096x1 1) (v36 : FVec Ideal S20x4096x1 .f32) (z : EReal)
    (w : FVec Ideal S512x512 .fp8e4m3) (sc bi : FVec Ideal S512 .f32) (b : Fin 20) (i : Fin 4096) (d : Fin 512)
    (he : k0_pay5 (F := Ideal) v28 v36 z (ix3 b i 0) = Cert.Blk.refE (Cert.Blk.amaxR fun d => o (ix3 b i d))) :
    k0_pay8 (F := Ideal) o v28 v36 z w sc bi (ix3 b i d)
      = Cert.Blk.projR (fun d => o (ix3 b i d)) (fun x => w (ix2 x d)) (sc (ix1 d)) (bi (ix1 d)) := by
  pointwise [k0_pay8]
  rw [pay7_at, he]
  simp only [pay6_at o v28 v36 z b i _ he]
  rfl

theorem pay9_at (v18 : FVec Ideal S20x4096x512 .f32) (v28 : IVec S20x4096x1 1) (v36 : FVec Ideal S20x4096x1 .f32) (z : EReal)
    (w : FVec Ideal S512x512 .fp8e4m3) (sc bi : FVec Ideal S512 .f32) (x : FVec Ideal S20x4096x512 .bf16)
    (b : Fin 20) (i : Fin 4096) (d : Fin 512) :
    k0_pay9 (F := Ideal) v18 v28 v36 z w sc bi x (ix3 b i d)
      = x (ix3 b i d) + k0_pay8 (F := Ideal) v18 v28 v36 z w sc bi (ix3 b i d) := by
  pointwise [k0_pay9]

theorem pay10_at (v18 : FVec Ideal S20x4096x512 .f32) (v28 : IVec S20x4096x1 1) (v36 : FVec Ideal S20x4096x1 .f32) (z : EReal)
    (w : FVec Ideal S512x512 .fp8e4m3) (sc bi : FVec Ideal S512 .f32) (b : Fin 20) (i : Fin 4096) (d : Fin 512) :
    k0_pay10 (F := Ideal) v18 v28 v36 z w sc bi (ix3 b i d) = k0_pay8 (F := Ideal) v18 v28 v36 z w sc bi (ix3 b i d) := by
  pointwise [k0_pay10]

theorem pay11_at (v28 : IVec S20x4096x1 1) (v36 : FVec Ideal S20x4096x1 .f32) (z : EReal) (b : Fin 20) (i : Fin 4096) :
    k0_pay11 (F := Ideal) v28 v36 z (ix2 b i) = k0_pay7 (F := Ideal) v28 v36 z (ix3 b i 0) := by
  pointwise [k0_pay11]

end Cert.RefAttnIdeal.Gen

end
-- ==== Proof.AttnEq.lean ====
module

public import proofs.«01_k».proof.Proof.AttnVal
public import proofs.«01_k».proof.Proof.RefIdx
public import proofs.«01_k».proof.Proof.Gen.Pre_finite_qk
public import proofs.«01_k».proof.Defs

@[expose] public section

set_option maxRecDepth 16384

noncomputable section

/-! The call's results and the reference's, equal at every index. -/

namespace Cert.AttnEq

open Idealize.ShloMosaic Idealize.ShloMosaic.TcCoe Idealize.SL.Sem
open Cert.RefAttnIdeal Cert.RefAttnIdeal.Gen
open scoped BigOperators

section Reference

variable (q k v x : FVec Ideal S20x4096x512 .bf16) (w : FVec Ideal S512x512 .fp8e4m3) (sc bi : FVec Ideal S512 .f32)

theorem ld_all (X : FVec Ideal S20x4096x512 .bf16) : (View.ld (Val := Elt Ideal) (e' := .bf16) X r0_0 : FVec Ideal S20x4096x512 .bf16) = X :=
  View.ld_unit_zero (Val := Elt Ideal) (S := S20x4096x512) (e := .bf16) (funext fun a => by fin_cases a <;> rfl) _ X

theorem pay12_eq : k0_pay12 (F := Ideal) q k v x w sc bi = k0_pay1 (F := Ideal) q k v := by
  unfold k0_pay12
  rw [ld_all, ld_all, ld_all]

theorem pay13_eq : k0_pay13 (F := Ideal) q k v x w sc bi = k0_pay3 (F := Ideal) q k v := by
  unfold k0_pay13
  rw [ld_all, ld_all, ld_all]

theorem pay14_eq : k0_pay14 (F := Ideal) q k v x w sc bi = k0_pay4 (F := Ideal) q k v := by
  unfold k0_pay14
  rw [ld_all, ld_all, ld_all]

variable (hq : ∀ x, ∃ r : ℝ, q x = (r : EReal)) (hk : ∀ x, ∃ r : ℝ, k x = (r : EReal))
include hq hk

theorem row_eq (b : Fin 20) (r : Fin 4096) :
    (fun d : Fin 512 => k0_pay1 (F := Ideal) q k v (ix3 b r d)) = Cert.AttnIdeal.Gen.attA q k v b r :=
  funext fun d => pay1_at q k v hq hk b r d

theorem G8_at (b : Fin 20) (r : Fin 4096) (d : Fin 512) :
    k0_pay8 (F := Ideal) (k0_pay1 (F := Ideal) q k v) (k0_pay3 (F := Ideal) q k v) (k0_pay4 (F := Ideal) q k v)
      (Scalar.ofBits .f32 0x00000000#32) w sc bi (ix3 b r d) = Cert.AttnIdeal.Gen.projA q k v w sc bi b r d := by
  refine (pay8_at _ _ _ _ w sc bi b r d (pay5_at q k v b r)).trans ?_
  rw [row_eq q k v hq hk]
  rfl

theorem ref7 : Value.G7 (F := Ideal) q k v x w sc bi
    = fun j => Cert.AttnIdeal.Gen.resA q k v x w sc bi (j 0) (j 1) (j 2) := by
  funext j
  obtain ⟨b, r, d, rfl⟩ : ∃ b r d, j = ix3 b r d := ⟨j 0, j 1, j 2, eq_ix3 j⟩
  unfold Value.G7
  rw [pay12_eq, pay13_eq, pay14_eq]
  refine (pay9_at _ _ _ _ w sc bi x b r d).trans ?_
  rw [G8_at q k v w sc bi hq hk]
  rfl

theorem ref8 : Value.G8 (F := Ideal) q k v x w sc bi
    = fun j => Cert.AttnIdeal.Gen.projA q k v w sc bi (j 0) (j 1) (j 2) := by
  funext j
  obtain ⟨b, r, d, rfl⟩ : ∃ b r d, j = ix3 b r d := ⟨j 0, j 1, j 2, eq_ix3 j⟩
  unfold Value.G8
  rw [pay12_eq, pay13_eq, pay14_eq]
  refine (pay10_at _ _ _ _ w sc bi b r d).trans ?_
  rw [G8_at q k v w sc bi hq hk]
  rfl

theorem ref9 : Value.G9 (F := Ideal) q k v x w sc bi
    = fun j => Cert.Blk.codesR (Cert.AttnIdeal.Gen.attA q k v (j 0) (j 1)) (j 2) := by
  funext j
  obtain ⟨b, r, d, rfl⟩ : ∃ b r d, j = ix3 b r d := ⟨j 0, j 1, j 2, eq_ix3 j⟩
  unfold Value.G9
  rw [pay12_eq, pay13_eq, pay14_eq]
  refine (pay6_at _ _ _ _ b r d (pay5_at q k v b r)).trans ?_
  rw [row_eq q k v hq hk]
  rfl

theorem ref10 : Value.G10 (F := Ideal) q k v x w sc bi
    = fun j => Ideal.exp2 (Cert.Blk.refE (Cert.Blk.amaxR (Cert.AttnIdeal.Gen.attA q k v (j 0) (j 1)))) := by
  funext j
  obtain ⟨b, r, rfl⟩ : ∃ b r, j = ix2 b r := ⟨j 0, j 1, eq_ix2 j⟩
  unfold Value.G10
  rw [pay13_eq, pay14_eq]
  refine (pay11_at _ _ _ b r).trans ((pay7_at _ _ _ b r).trans ?_)
  rw [pay5_at, row_eq q k v hq hk]
  rfl

end Reference

/-- A magnitude below infinity is a real's. -/
theorem real_of_abs (a : EReal) (h : max a (-a) < ⊤) : ∃ r : ℝ, a = (r : EReal) := by
  refine ⟨a.toReal, (EReal.coe_toReal ?_ ?_).symm⟩
  · rintro rfl; simp at h
  · rintro rfl; simp at h

theorem ofBits_bf16_inf : Ideal.ofBits .bf16 0x7F80#16 = ⊤ := by simp [Ideal.ofBits, Ideal.ieee]

variable (m : (ℓ : Loc Cert.AttnIdeal.nD Cert.AttnIdeal.τ Cert.AttnIdeal.sig) → Buf (Elt Ideal) ℓ)

/-- The precondition, read: both arrays hold reals. -/
theorem finite (a0 a1 a2 a3 : FVec Ideal S20x4096x512 .bf16) (a4 : FVec Ideal S512x512 .fp8e4m3) (a5 a6 : FVec Ideal S512 .f32)
    (h : Cert.Pre_finite_qk.fn (F := Ideal) a0 a1 a2 a3 a4 a5 a6 = fun _ => 1#1) :
    (∀ x, ∃ r : ℝ, a0 x = (r : EReal)) ∧ ∀ x, ∃ r : ℝ, a1 x = (r : EReal) := by
  have key : ∀ x, (max (a0 x) (-(a0 x)) < ⊤) ∧ max (a1 x) (-(a1 x)) < ⊤ := by
    intro x
    have e := congrFun h x
    have e' : IntOp.andi (BitVec.ofBool (decide (max (a0 x) (-(a0 x)) < Ideal.ofBits .bf16 0x7F80#16)))
        (BitVec.ofBool (decide (max (a1 x) (-(a1 x)) < Ideal.ofBits .bf16 0x7F80#16))) = 1#1 := e
    rw [ofBits_bf16_inf] at e'
    by_cases h0 : max (a0 x) (-(a0 x)) < ⊤ <;> by_cases h1 : max (a1 x) (-(a1 x)) < ⊤ <;>
      simp only [h0, h1, decide_true, decide_false, and_self, and_true, true_and] at e' ⊢ <;> revert e' <;> decide
  exact ⟨fun x => real_of_abs _ (key x).1, fun x => real_of_abs _ (key x).2⟩

theorem arr7_eq (c : Dev Cert.AttnIdeal.nD) : (Cert.AttnIdeal.Gen.arr7 m c : Vec Ideal S20x4096x512 .bf16)
    = fun j => Cert.AttnIdeal.Gen.resA (m ((c.tc : Thread Cert.AttnIdeal.nD Cert.AttnIdeal.τ).loc Cert.AttnIdeal.main_arg0)) (m ((c.tc : Thread Cert.AttnIdeal.nD Cert.AttnIdeal.τ).loc Cert.AttnIdeal.main_arg1))
      (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))
      (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (j 0) (j 1) (j 2) := by
  funext j
  obtain ⟨b, r, d, rfl⟩ : ∃ b r d, j = ix3 b r d := ⟨j 0, j 1, j 2, eq_ix3 j⟩
  exact Cert.AttnIdeal.Gen.arr7_at m c b r d

theorem arr8_eq (c : Dev Cert.AttnIdeal.nD) : (Cert.AttnIdeal.Gen.arr8 m c : Vec Ideal S20x4096x512 .bf16)
    = fun j => Cert.AttnIdeal.Gen.projA (m ((c.tc : Thread Cert.AttnIdeal.nD Cert.AttnIdeal.τ).loc Cert.AttnIdeal.main_arg0)) (m ((c.tc : Thread Cert.AttnIdeal.nD Cert.AttnIdeal.τ).loc Cert.AttnIdeal.main_arg1))
      (m ((c.tc : Thread Cert.AttnIdeal.nD Cert.AttnIdeal.τ).loc Cert.AttnIdeal.main_arg2)) (m ((c.tc : Thread Cert.AttnIdeal.nD Cert.AttnIdeal.τ).loc Cert.AttnIdeal.main_arg4))
      (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (j 0) (j 1) (j 2) := by
  funext j
  obtain ⟨b, r, d, rfl⟩ : ∃ b r d, j = ix3 b r d := ⟨j 0, j 1, j 2, eq_ix3 j⟩
  exact Cert.AttnIdeal.Gen.arr8_at m c b r d

theorem arr9_eq (c : Dev Cert.AttnIdeal.nD) : (Cert.AttnIdeal.Gen.arr9 m c : Vec Ideal S20x4096x512 .fp8e4m3)
    = fun j => Cert.Blk.codesR (Cert.AttnIdeal.Gen.attA (m ((c.tc : Thread Cert.AttnIdeal.nD Cert.AttnIdeal.τ).loc Cert.AttnIdeal.main_arg0))
      (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (j 0) (j 1)) (j 2) := by
  funext j
  obtain ⟨b, r, d, rfl⟩ : ∃ b r d, j = ix3 b r d := ⟨j 0, j 1, j 2, eq_ix3 j⟩
  exact Cert.AttnIdeal.Gen.arr9_at m c b r d

theorem arr10_eq (c : Dev Cert.AttnIdeal.nD) : (Cert.AttnIdeal.Gen.arr10 m c : Vec Ideal S20x4096 .f32)
    = fun j => Ideal.exp2 (Cert.Blk.refE (Cert.Blk.amaxR (Cert.AttnIdeal.Gen.attA (m ((c.tc : Thread Cert.AttnIdeal.nD Cert.AttnIdeal.τ).loc Cert.AttnIdeal.main_arg0))
      (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (j 0) (j 1)))) := by
  funext j
  obtain ⟨b, r, rfl⟩ : ∃ b r, j = ix2 b r := ⟨j 0, j 1, eq_ix2 j⟩
  exact Cert.AttnIdeal.Gen.arr10_at m c b r

end Cert.AttnEq

end
-- ==== Proof.QkvFrame.lean ====
module

public import proofs.«01_k».proof.Proof.Gen.Qkv.Launch
public import proofs.«01_k».proof.Proof.Gen.Qkv.Points
public import proofs.«01_k».proof.Proof.Gen.Qkv.Skeleton
public import proofs.«01_k».proof.Proof.Gen.Qkv.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the kernel is entered: after the host's reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- The argument arrays after a run whose arrays start as the kernel finds them. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

abbrev ms0_0 (t : Fin cfg0.N) : Memref sig .tc .vmem S1x4096x512 .bf16 := win0_0.stage (cfg0.slots t 0)
abbrev ms0_1 (t : Fin cfg0.N) : Memref sig .tc .vmem S1x512 .f32 := win0_1.stage (cfg0.slots t 1)
abbrev ms0_2 (t : Fin cfg0.N) : Memref sig .tc .vmem S1x512 .f32 := win0_2.stage (cfg0.slots t 2)
abbrev ms0_3 (t : Fin cfg0.N) : Memref sig .tc .vmem S512x512 .fp8e4m3 := win0_3.stage (cfg0.slots t 3)
abbrev ms0_4 (t : Fin cfg0.N) : Memref sig .tc .vmem S512x512 .fp8e4m3 := win0_4.stage (cfg0.slots t 4)
abbrev ms0_5 (t : Fin cfg0.N) : Memref sig .tc .vmem S512x512 .fp8e4m3 := win0_5.stage (cfg0.slots t 5)
abbrev ms0_6 (t : Fin cfg0.N) : Memref sig .tc .vmem S1x512 .f32 := win0_6.stage (cfg0.slots t 6)
abbrev ms0_7 (t : Fin cfg0.N) : Memref sig .tc .vmem S1x512 .f32 := win0_7.stage (cfg0.slots t 7)
abbrev ms0_8 (t : Fin cfg0.N) : Memref sig .tc .vmem S1x512 .f32 := win0_8.stage (cfg0.slots t 8)
abbrev ms0_9 (t : Fin cfg0.N) : Memref sig .tc .vmem S1x512 .f32 := win0_9.stage (cfg0.slots t 9)
abbrev ms0_10 (t : Fin cfg0.N) : Memref sig .tc .vmem S1x512 .f32 := win0_10.stage (cfg0.slots t 10)
abbrev ms0_11 (t : Fin cfg0.N) : Memref sig .tc .vmem S1x4096x512 .fp8e4m3 := win0_11.stage (cfg0.slots t 11)
abbrev ms0_12 (t : Fin cfg0.N) : Memref sig .tc .vmem S20x4096 .f32 := win0_12.stage (cfg0.slots t 12)
abbrev ms0_13 (t : Fin cfg0.N) : Memref sig .tc .vmem S1x4096x512 .bf16 := win0_13.stage (cfg0.slots t 13)
abbrev ms0_14 (t : Fin cfg0.N) : Memref sig .tc .vmem S1x4096x512 .bf16 := win0_14.stage (cfg0.slots t 14)
abbrev ms0_15 (t : Fin cfg0.N) : Memref sig .tc .vmem S1x4096x512 .bf16 := win0_15.stage (cfg0.slots t 15)

theorem PhiA0_eq (c : Dev nD) :
    (Pipeline.ΦA spec0 c : sProp 𝕄) = iprop(BI.emp ∗ (∃ r, prngReg c r)) := by
  unfold Pipeline.ΦA; rw [scopedRest0_eq]

set_option maxHeartbeats 8000000 in
/-- One grid point runs, and leaves its eleven input blocks as it found them. -/
theorem kernelRun0_A (c : Dev nD) (i : grid0.Coords) (arg1 : Memref sig .tc .vmem S1x4096x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .fp8e4m3) (harg4 : arg4.IsWhole) (arg5 : Memref sig .tc .vmem S512x512 .fp8e4m3) (harg5 : arg5.IsWhole) (arg6 : Memref sig .tc .vmem S512x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x4096x512 .fp8e4m3) (harg12 : arg12.IsWhole) (arg13 : Memref sig .tc .vmem S20x4096 .f32) (harg13 : arg13.IsWhole) (arg14 : Memref sig .tc .vmem S1x4096x512 .bf16) (harg14 : arg14.IsWhole) (arg15 : Memref sig .tc .vmem S1x4096x512 .bf16) (harg15 : arg15.IsWhole) (arg16 : Memref sig .tc .vmem S1x4096x512 .bf16) (harg16 : arg16.IsWhole)
    (x0 : Vec F S1x4096x512 .bf16) (x1 : Vec F S1x512 .f32) (x2 : Vec F S1x512 .f32) (x3 : Vec F S512x512 .fp8e4m3) (x4 : Vec F S512x512 .fp8e4m3) (x5 : Vec F S512x512 .fp8e4m3) (x6 : Vec F S1x512 .f32) (x7 : Vec F S1x512 .f32) (x8 : Vec F S1x512 .f32) (x9 : Vec F S1x512 .f32) (x10 : Vec F S1x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_gn_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_gn_qkv_eq_skeleton]; unfold cc0_gn_qkv_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

def forgets0 : Fin 16 → Bool := fun w => w.val == 11 || w.val == 12 || w.val == 13 || w.val == 14 || w.val == 15

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun0_A c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  unchanged_of m ρ (fun c => (dats m 0 c).toRForget forgets0) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Qkv.Gen

end
-- ==== Proof.QkvRun.lean ====
module

public import proofs.«01_k».proof.Proof.Gen.QkvIdeal.Launch
public import proofs.«01_k».proof.Proof.Gen.QkvIdeal.Points
public import proofs.«01_k».proof.Proof.Gen.QkvIdeal.Skeleton
public import proofs.«01_k».proof.Proof.Gen.QkvIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.Blk
public import Idealize.ShloMosaic.Lib.WholeRead
public import Idealize.ShloMosaic.Lib.WritesUnit

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Rows `256 k` to `256 k + 256` of an image. -/
def slab (x : Vec F S1x4096x512 .bf16) (k : ℕ) : Vec F S1x256x512 .bf16 := fun j =>
  x (ix3 0 ⟨(256 * k + (j 1).val) % 4096, Nat.mod_lt _ (by decide)⟩ (j 2))

/-- Sixteen slabs of 256 rows one under the other. -/
def rows {e : EltTy} (B : ℕ → Vec F S1x256x512 e) : Vec F S1x4096x512 e := fun j =>
  B ((j 1).val / 256) (ix3 0 ⟨(j 1).val % 256, Nat.mod_lt _ (by decide)⟩ (j 2))

/-- An array of scales with row `a` replaced by sixteen runs of 256. -/
def putRow (d : Vec F S20x4096 .f32) (a : ℕ) (B : ℕ → Vec F S1x256 .f32) : Vec F S20x4096 .f32 := fun j =>
  if (j 0).val = a then B ((j 1).val / 256) (ix2 0 ⟨(j 1).val % 256, Nat.mod_lt _ (by decide)⟩) else d j

/-- The sums over the first `k` slabs, row by row of eight. -/
def acc1 (x : Vec F S1x4096x512 .bf16) : ℕ → FVec F S8x512 .f32
  | 0 => k0_pay15
  | k + 1 => k0_pay16 (acc1 x k) (slab x k)

/-- The group means. -/
def mean (x : Vec F S1x4096x512 .bf16) : FVec F S1x512 .f32 :=
  k0_pay22 (k0_pay17 (acc1 x 16)) (k0_pay18 (acc1 x 16)) (k0_pay19 (acc1 x 16)) k0_pay20 k0_pay21

/-- The sums of the squared distances from the mean over the first `k` slabs. -/
def acc2 (x : Vec F S1x4096x512 .bf16) : ℕ → FVec F S8x512 .f32
  | 0 => k0_pay15
  | k + 1 => k0_pay23 (k0_pay17 (acc1 x 16)) (k0_pay18 (acc1 x 16)) (k0_pay19 (acc1 x 16)) k0_pay20 k0_pay21 (acc2 x k) (slab x k)

/-- The lane numbers. -/
abbrev lanes : IVec S8x512 32 := iota .tc S8x512 32 [1] iota_S8x512_d1_w32

/-- One over the group deviations. -/
def rstd (x : Vec F S1x4096x512 .bf16) : FVec F S1x512 .f32 :=
  k0_pay1 lanes (k0_pay24 (acc2 x 16)) (k0_pay25 (acc2 x 16)) (k0_pay26 (acc2 x 16)) 8#32

/-- The normalised rows of slab `k`. -/
def hN (x : Vec F S1x4096x512 .bf16) (g b : Vec F S1x512 .f32) (k : ℕ) : FVec F S256x512 .f32 :=
  k0_pay3 (mean x) (rstd x) (slab x k) g b

/-- How many powers of two lie at or below each row's scaled maximum. -/
def eN (x : Vec F S1x4096x512 .bf16) (g b : Vec F S1x512 .f32) (k : ℕ) : IVec S256x1 32 :=
  k0_pay4 (mean x) (rstd x) (slab x k) g b

/-- The codes of slab `k`. -/
def codesN (x : Vec F S1x4096x512 .bf16) (g b : Vec F S1x512 .f32) (k : ℕ) : Vec F S1x256x512 .fp8e4m3 :=
  k0_pay8 (hN x g b k) (eN x g b k) 0#32

/-- The scales of slab `k`. -/
def scaleN (x : Vec F S1x4096x512 .bf16) (g b : Vec F S1x512 .f32) (k : ℕ) : Vec F S1x256 .f32 :=
  k0_pay12 (k0_pay10 (eN x g b k) 0#32) (k0_pay11 (eN x g b k) 0#32)

/-- Slab `k` of a projection with a bias, in the two spellings of the body. -/
def projQ (x : Vec F S1x4096x512 .bf16) (g b : Vec F S1x512 .f32) (w : Vec F S512x512 .fp8e4m3) (s c : Vec F S1x512 .f32) (k : ℕ) :
    Vec F S1x256x512 .bf16 :=
  k0_pay13 (k0_pay6 (eN x g b k) 0#32) (k0_pay7 (hN x g b k) (eN x g b k) 0#32) w s c

def projK (x : Vec F S1x4096x512 .bf16) (g b : Vec F S1x512 .f32) (w : Vec F S512x512 .fp8e4m3) (s : Vec F S1x512 .f32) (k : ℕ) :
    Vec F S1x256x512 .bf16 :=
  k0_pay14 (k0_pay6 (eN x g b k) 0#32) (k0_pay7 (hN x g b k) (eN x g b k) 0#32) w s

def projV (x : Vec F S1x4096x512 .bf16) (g b : Vec F S1x512 .f32) (w : Vec F S512x512 .fp8e4m3) (s c : Vec F S1x512 .f32) (k : ℕ) :
    Vec F S1x256x512 .bf16 :=
  k0_pay2 (k0_pay6 (eN x g b k) 0#32) (k0_pay7 (hN x g b k) (eN x g b k) 0#32) w (constant S256x512 .f32 0x00000000#32) s c

theorem trips1 : k0_t1_loop.trips = 16 := by decide +kernel
theorem trips2 : k0_t2_loop.trips = 16 := by decide +kernel
theorem trips3 : k0_t3_loop.trips = 16 := by decide +kernel

theorem ld_slab (x : Vec F S1x4096x512 .bf16) (k : ℕ) (hk : k < 16) (o : Fin 3 → ℕ) (ho : o = ![0, 256 * k, 0]) (h) :
    View.ld x (Rect.unit (s := S1x4096x512) o ![1, 256, 512] h) = slab x k := by
  subst ho
  funext j
  show x _ = x _
  congr 1
  have h0 : (j 0).val < 1 := (j 0).isLt
  have h1 : (j 1).val < 256 := (j 1).isLt
  funext a; apply Fin.ext; fin_cases a
  · show 0 + 1 * (j 0).val = 0; omega
  · show 256 * k + 1 * (j 1).val = (256 * k + (j 1).val) % 4096; omega
  · show 0 + 1 * (j 2).val = (j 2).val; omega

/-- Reading back sixteen stores of 256 rows. -/
theorem read_rows {sp : Space} {e : EltTy} (v : View sig .tc sp S1x4096x512 e) (f : v.ty.Contents (Elt F)) (L : ℕ → List (View.Piece (Elt F) S1x4096x512 e))
    (B : ℕ → Vec F S1x256x512 e)
    (hs : ∀ k, k < 16 → ∃ o h, o = ![0, 256 * k, 0] ∧ L (k + 1) = ⟨Rect.unit (s := S1x4096x512) o ![1, 256, 512] h, B k⟩ :: L k) :
    v.read (Elt F) (v.writes (Elt F) f (L 16)) = rows B := by
  have key : ∀ k, k ≤ 16 → ∀ j : S1x4096x512.Idx, (j 1).val < 256 * k → v.read (Elt F) (v.writes (Elt F) f (L k)) j = rows B j := by
    intro k
    induction k with
    | zero => intro _ j hj; omega
    | succ k ih =>
      intro hk j hj
      obtain ⟨o, h, ho, hL⟩ := hs k (by omega)
      rw [hL]
      have h0 : (j 0).val < 1 := (j 0).isLt
      by_cases hlt : (j 1).val < 256 * k
      · rw [View.read_writes_cons_unit_of_not_mem v f h _ _ j ho 1 (Or.inl (by show (j 1).val < 256 * k; omega))]
        exact ih (by omega) j hlt
      · rw [View.read_writes_cons_unit_of_mem v f h _ _ j (ix3 0 ⟨(j 1).val % 256, Nat.mod_lt _ (by omega)⟩ (j 2)) ho (by
            intro a; fin_cases a
            · show (j 0).val = 0 + 0; omega
            · show (j 1).val = 256 * k + (j 1).val % 256; omega
            · show (j 2).val = 0 + (j 2).val; omega)]
        unfold rows
        rw [show (j 1).val / 256 = k by omega]
  funext j
  exact key 16 (le_refl _) j (by have := (j 1).isLt; change _ < 4096 at this; omega)

/-- Reading back sixteen stores of 256 columns into one row. -/
theorem read_putRow {sp : Space} (v : View sig .tc sp S20x4096 .f32) (f : v.ty.Contents (Elt F)) (L : ℕ → List (View.Piece (Elt F) S20x4096 .f32))
    (B : ℕ → Vec F S1x256 .f32) (a : ℕ) (d : Vec F S20x4096 .f32) (hd : v.read (Elt F) f = d) (hz : L 0 = [])
    (hs : ∀ k, k < 16 → ∃ o h, o = ![a, 256 * k] ∧ L (k + 1) = ⟨Rect.unit (s := S20x4096) o ![1, 256] h, B k⟩ :: L k) :
    v.read (Elt F) (v.writes (Elt F) f (L 16)) = putRow d a B := by
  subst hd
  have key : ∀ k, k ≤ 16 → ∀ j : S20x4096.Idx, v.read (Elt F) (v.writes (Elt F) f (L k)) j
      = if (j 1).val < 256 * k then putRow (v.read (Elt F) f) a B j else v.read (Elt F) f j := by
    intro k
    induction k with
    | zero => intro _ j; rw [hz, if_neg (by omega)]; rfl
    | succ k ih =>
      intro hk j
      obtain ⟨o, h, ho, hL⟩ := hs k (by omega)
      rw [hL]
      by_cases ha : (j 0).val = a
      · by_cases hlt : (j 1).val < 256 * k
        · rw [View.read_writes_cons_unit_of_not_mem v f h _ _ j ho 1 (Or.inl (by show (j 1).val < 256 * k; omega)), ih (by omega), if_pos hlt, if_pos (by omega)]
        · by_cases hge : (j 1).val < 256 * (k + 1)
          · rw [View.read_writes_cons_unit_of_mem v f h _ _ j (ix2 0 ⟨(j 1).val % 256, Nat.mod_lt _ (by omega)⟩) ho (by
                intro b; fin_cases b
                · show (j 0).val = a + 0; omega
                · show (j 1).val = 256 * k + (j 1).val % 256; omega), if_pos hge]
            unfold putRow
            rw [if_pos ha, show (j 1).val / 256 = k by omega]
          · rw [View.read_writes_cons_unit_of_not_mem v f h _ _ j ho 1 (Or.inr (by show 256 * k + 256 ≤ (j 1).val; omega)), ih (by omega), if_neg hlt, if_neg hge]
      · rw [View.read_writes_cons_unit_of_not_mem v f h _ _ j ho 0 (by show (j 0).val < a ∨ a + 1 ≤ (j 0).val; omega), ih (by omega)]
        have hp : putRow (v.read (Elt F) f) a B j = v.read (Elt F) f j := by unfold putRow; rw [if_neg ha]
        rw [hp, ite_self, ite_self]
  funext j
  rw [key 16 (le_refl _) j, if_pos (by have := (j 1).isLt; change _ < 4096 at this; omega)]

theorem st1_eq (𝒱 : Variants) (c : Dev nD) (bd : Option 𝒱.V) (i : grid0.Coords) (arg1 : Memref sig .tc .vmem S1x4096x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .fp8e4m3) (harg4 : arg4.IsWhole) (arg5 : Memref sig .tc .vmem S512x512 .fp8e4m3) (harg5 : arg5.IsWhole) (arg6 : Memref sig .tc .vmem S512x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x4096x512 .fp8e4m3) (harg12 : arg12.IsWhole) (arg13 : Memref sig .tc .vmem S20x4096 .f32) (harg13 : arg13.IsWhole) (arg14 : Memref sig .tc .vmem S1x4096x512 .bf16) (harg14 : arg14.IsWhole) (arg15 : Memref sig .tc .vmem S1x4096x512 .bf16) (harg15 : arg15.IsWhole) (arg16 : Memref sig .tc .vmem S1x4096x512 .bf16) (harg16 : arg16.IsWhole) (x0 : Vec F S1x4096x512 .bf16) :
    ∀ k, k ≤ 16 → st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x0) k0_pay15 k = acc1 x0 k := by
  intro k
  induction k with
  | zero => intro _; rfl
  | succ k ih =>
    intro hk
    have hk' : k < k0_t1_loop.trips := by rw [trips1]; omega
    have e : tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x0) ⟨k, hk'⟩ (acc1 x0 k) = k0_pay16 (acc1 x0 k) (slab x0 k) := by
      unfold tripR_k0_t1
      delta trip_k0_t1
      dsimp only
      rw [Blk.readAt_ld, ld_slab x0 k (by omega) _ (k0_off1_eq _)]
    exact (st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x0) k0_pay15 ⟨k, hk'⟩).trans ((congrArg _ (ih (by omega))).trans e)

theorem st2_eq (𝒱 : Variants) (c : Dev nD) (bd : Option 𝒱.V) (i : grid0.Coords) (arg1 : Memref sig .tc .vmem S1x4096x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .fp8e4m3) (harg4 : arg4.IsWhole) (arg5 : Memref sig .tc .vmem S512x512 .fp8e4m3) (harg5 : arg5.IsWhole) (arg6 : Memref sig .tc .vmem S512x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x4096x512 .fp8e4m3) (harg12 : arg12.IsWhole) (arg13 : Memref sig .tc .vmem S20x4096 .f32) (harg13 : arg13.IsWhole) (arg14 : Memref sig .tc .vmem S1x4096x512 .bf16) (harg14 : arg14.IsWhole) (arg15 : Memref sig .tc .vmem S1x4096x512 .bf16) (harg15 : arg15.IsWhole) (arg16 : Memref sig .tc .vmem S1x4096x512 .bf16) (harg16 : arg16.IsWhole) (v0 : FVec F S8x512 .f32) (x0 : Vec F S1x4096x512 .bf16) :
    ∀ k, k ≤ 16 → st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 (k0_pay17 (acc1 x0 16)) (k0_pay18 (acc1 x0 16)) (k0_pay19 (acc1 x0 16)) k0_pay20 k0_pay21 (harg1.unread x0) k0_pay15 k = acc2 x0 k := by
  intro k
  induction k with
  | zero => intro _; rfl
  | succ k ih =>
    intro hk
    have hk' : k < k0_t2_loop.trips := by rw [trips2]; omega
    have e : tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 (k0_pay17 (acc1 x0 16)) (k0_pay18 (acc1 x0 16)) (k0_pay19 (acc1 x0 16)) k0_pay20 k0_pay21 (harg1.unread x0) ⟨k, hk'⟩ (acc2 x0 k)
        = k0_pay23 (k0_pay17 (acc1 x0 16)) (k0_pay18 (acc1 x0 16)) (k0_pay19 (acc1 x0 16)) k0_pay20 k0_pay21 (acc2 x0 k) (slab x0 k) := by
      unfold tripR_k0_t2
      delta trip_k0_t2
      dsimp only
      rw [Blk.readAt_ld, ld_slab x0 k (by omega) _ (k0_off2_eq _)]
    exact (st_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v0 (k0_pay17 (acc1 x0 16)) (k0_pay18 (acc1 x0 16)) (k0_pay19 (acc1 x0 16)) k0_pay20 k0_pay21 (harg1.unread x0) k0_pay15 ⟨k, hk'⟩).trans ((congrArg _ (ih (by omega))).trans e)

theorem trip3_12 (𝒱 : Variants) (c : Dev nD) (bd : Option 𝒱.V) (i : grid0.Coords) (arg1 : Memref sig .tc .vmem S1x4096x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .fp8e4m3) (harg4 : arg4.IsWhole) (arg5 : Memref sig .tc .vmem S512x512 .fp8e4m3) (harg5 : arg5.IsWhole) (arg6 : Memref sig .tc .vmem S512x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x4096x512 .fp8e4m3) (harg12 : arg12.IsWhole) (arg13 : Memref sig .tc .vmem S20x4096 .f32) (harg13 : arg13.IsWhole) (arg14 : Memref sig .tc .vmem S1x4096x512 .bf16) (harg14 : arg14.IsWhole) (arg15 : Memref sig .tc .vmem S1x4096x512 .bf16) (harg15 : arg15.IsWhole) (arg16 : Memref sig .tc .vmem S1x4096x512 .bf16) (harg16 : arg16.IsWhole) (arg0 : BitVec 32) (x0 : Vec F S1x4096x512 .bf16) (x1 : Vec F S1x512 .f32) (x2 : Vec F S1x512 .f32) (x3 : Vec F S512x512 .fp8e4m3) (x4 : Vec F S512x512 .fp8e4m3) (x5 : Vec F S512x512 .fp8e4m3) (x6 : Vec F S1x512 .f32) (x7 : Vec F S1x512 .f32) (x8 : Vec F S1x512 .f32) (x9 : Vec F S1x512 .f32) (x10 : Vec F S1x512 .f32) (k : Fin k0_t3_loop.trips) :
    (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 (mean x0) lanes (k0_pay24 (acc2 x0 16)) (k0_pay25 (acc2 x0 16)) (k0_pay26 (acc2 x0 16)) 8#32 (harg1.unread x0) (harg2.unread x1) (harg3.unread x2) (harg4.unread x3) (harg5.unread x4) (harg6.unread x5) (harg7.unread x6) (harg8.unread x7) (harg9.unread x8) (harg10.unread x9) (harg11.unread x10) k).1 = [⟨Rect.unit (s := S1x4096x512) (k0_off3 k) ![1, 256, 512] (k0_off3_inb k), codesN x0 x1 x2 k.val⟩] := by
  have hk : k.val < 16 := trips3 ▸ k.isLt
  unfold tripL_k0_t3
  delta trip_k0_t3
  dsimp only
  delta trip_k0_t3.sl.r trip_k0_t3.sl.r_1 trip_k0_t3.sl.r_2 trip_k0_t3.sl.r_3 trip_k0_t3.sl.r_4 trip_k0_t3.sl.r_5 trip_k0_t3.sl.r_6 trip_k0_t3.sl.cst_83
  simp only [Blk.readAt_ld, ld_slab x0 k.val hk _ (k0_off3_eq k)]
  rw [View.ld_unit_zero (S := S1x512) Blk.zero2 _ x1, View.ld_unit_zero (S := S1x512) Blk.zero2 _ x2]
  rfl

theorem trip3_13 (𝒱 : Variants) (c : Dev nD) (bd : Option 𝒱.V) (i : grid0.Coords) (arg1 : Memref sig .tc .vmem S1x4096x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .fp8e4m3) (harg4 : arg4.IsWhole) (arg5 : Memref sig .tc .vmem S512x512 .fp8e4m3) (harg5 : arg5.IsWhole) (arg6 : Memref sig .tc .vmem S512x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x4096x512 .fp8e4m3) (harg12 : arg12.IsWhole) (arg13 : Memref sig .tc .vmem S20x4096 .f32) (harg13 : arg13.IsWhole) (arg14 : Memref sig .tc .vmem S1x4096x512 .bf16) (harg14 : arg14.IsWhole) (arg15 : Memref sig .tc .vmem S1x4096x512 .bf16) (harg15 : arg15.IsWhole) (arg16 : Memref sig .tc .vmem S1x4096x512 .bf16) (harg16 : arg16.IsWhole) (arg0 : BitVec 32) (x0 : Vec F S1x4096x512 .bf16) (x1 : Vec F S1x512 .f32) (x2 : Vec F S1x512 .f32) (x3 : Vec F S512x512 .fp8e4m3) (x4 : Vec F S512x512 .fp8e4m3) (x5 : Vec F S512x512 .fp8e4m3) (x6 : Vec F S1x512 .f32) (x7 : Vec F S1x512 .f32) (x8 : Vec F S1x512 .f32) (x9 : Vec F S1x512 .f32) (x10 : Vec F S1x512 .f32) (k : Fin k0_t3_loop.trips) :
    (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 (mean x0) lanes (k0_pay24 (acc2 x0 16)) (k0_pay25 (acc2 x0 16)) (k0_pay26 (acc2 x0 16)) 8#32 (harg1.unread x0) (harg2.unread x1) (harg3.unread x2) (harg4.unread x3) (harg5.unread x4) (harg6.unread x5) (harg7.unread x6) (harg8.unread x7) (harg9.unread x8) (harg10.unread x9) (harg11.unread x10) k).2.1 = [⟨Rect.unit (s := S20x4096) (k0_off4 i k) ![1, 256] (k0_off4_inb i k), scaleN x0 x1 x2 k.val⟩] := by
  have hk : k.val < 16 := trips3 ▸ k.isLt
  unfold tripL_k0_t3
  delta trip_k0_t3
  dsimp only
  delta trip_k0_t3.sl.r trip_k0_t3.sl.r_1 trip_k0_t3.sl.r_2 trip_k0_t3.sl.r_3 trip_k0_t3.sl.r_4 trip_k0_t3.sl.r_5 trip_k0_t3.sl.r_6 trip_k0_t3.sl.cst_83
  simp only [Blk.readAt_ld, ld_slab x0 k.val hk _ (k0_off3_eq k)]
  rw [View.ld_unit_zero (S := S1x512) Blk.zero2 _ x1, View.ld_unit_zero (S := S1x512) Blk.zero2 _ x2]
  rfl

theorem trip3_14 (𝒱 : Variants) (c : Dev nD) (bd : Option 𝒱.V) (i : grid0.Coords) (arg1 : Memref sig .tc .vmem S1x4096x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .fp8e4m3) (harg4 : arg4.IsWhole) (arg5 : Memref sig .tc .vmem S512x512 .fp8e4m3) (harg5 : arg5.IsWhole) (arg6 : Memref sig .tc .vmem S512x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x4096x512 .fp8e4m3) (harg12 : arg12.IsWhole) (arg13 : Memref sig .tc .vmem S20x4096 .f32) (harg13 : arg13.IsWhole) (arg14 : Memref sig .tc .vmem S1x4096x512 .bf16) (harg14 : arg14.IsWhole) (arg15 : Memref sig .tc .vmem S1x4096x512 .bf16) (harg15 : arg15.IsWhole) (arg16 : Memref sig .tc .vmem S1x4096x512 .bf16) (harg16 : arg16.IsWhole) (arg0 : BitVec 32) (x0 : Vec F S1x4096x512 .bf16) (x1 : Vec F S1x512 .f32) (x2 : Vec F S1x512 .f32) (x3 : Vec F S512x512 .fp8e4m3) (x4 : Vec F S512x512 .fp8e4m3) (x5 : Vec F S512x512 .fp8e4m3) (x6 : Vec F S1x512 .f32) (x7 : Vec F S1x512 .f32) (x8 : Vec F S1x512 .f32) (x9 : Vec F S1x512 .f32) (x10 : Vec F S1x512 .f32) (k : Fin k0_t3_loop.trips) :
    (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 (mean x0) lanes (k0_pay24 (acc2 x0 16)) (k0_pay25 (acc2 x0 16)) (k0_pay26 (acc2 x0 16)) 8#32 (harg1.unread x0) (harg2.unread x1) (harg3.unread x2) (harg4.unread x3) (harg5.unread x4) (harg6.unread x5) (harg7.unread x6) (harg8.unread x7) (harg9.unread x8) (harg10.unread x9) (harg11.unread x10) k).2.2.1 = [⟨Rect.unit (s := S1x4096x512) (k0_off3 k) ![1, 256, 512] (k0_off3_inb k), projQ x0 x1 x2 x3 x6 x9 k.val⟩] := by
  have hk : k.val < 16 := trips3 ▸ k.isLt
  unfold tripL_k0_t3
  delta trip_k0_t3
  dsimp only
  delta trip_k0_t3.sl.r trip_k0_t3.sl.r_1 trip_k0_t3.sl.r_2 trip_k0_t3.sl.r_3 trip_k0_t3.sl.r_4 trip_k0_t3.sl.r_5 trip_k0_t3.sl.r_6 trip_k0_t3.sl.cst_83
  simp only [Blk.readAt_ld, ld_slab x0 k.val hk _ (k0_off3_eq k)]
  rw [View.ld_unit_zero (S := S1x512) Blk.zero2 _ x1, View.ld_unit_zero (S := S1x512) Blk.zero2 _ x2, View.ld_unit_zero (S := S512x512) Blk.zero2 _ x3, View.ld_unit_zero (S := S1x512) Blk.zero2 _ x6, View.ld_unit_zero (S := S1x512) Blk.zero2 _ x9]
  rfl

theorem trip3_15 (𝒱 : Variants) (c : Dev nD) (bd : Option 𝒱.V) (i : grid0.Coords) (arg1 : Memref sig .tc .vmem S1x4096x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .fp8e4m3) (harg4 : arg4.IsWhole) (arg5 : Memref sig .tc .vmem S512x512 .fp8e4m3) (harg5 : arg5.IsWhole) (arg6 : Memref sig .tc .vmem S512x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x4096x512 .fp8e4m3) (harg12 : arg12.IsWhole) (arg13 : Memref sig .tc .vmem S20x4096 .f32) (harg13 : arg13.IsWhole) (arg14 : Memref sig .tc .vmem S1x4096x512 .bf16) (harg14 : arg14.IsWhole) (arg15 : Memref sig .tc .vmem S1x4096x512 .bf16) (harg15 : arg15.IsWhole) (arg16 : Memref sig .tc .vmem S1x4096x512 .bf16) (harg16 : arg16.IsWhole) (arg0 : BitVec 32) (x0 : Vec F S1x4096x512 .bf16) (x1 : Vec F S1x512 .f32) (x2 : Vec F S1x512 .f32) (x3 : Vec F S512x512 .fp8e4m3) (x4 : Vec F S512x512 .fp8e4m3) (x5 : Vec F S512x512 .fp8e4m3) (x6 : Vec F S1x512 .f32) (x7 : Vec F S1x512 .f32) (x8 : Vec F S1x512 .f32) (x9 : Vec F S1x512 .f32) (x10 : Vec F S1x512 .f32) (k : Fin k0_t3_loop.trips) :
    (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 (mean x0) lanes (k0_pay24 (acc2 x0 16)) (k0_pay25 (acc2 x0 16)) (k0_pay26 (acc2 x0 16)) 8#32 (harg1.unread x0) (harg2.unread x1) (harg3.unread x2) (harg4.unread x3) (harg5.unread x4) (harg6.unread x5) (harg7.unread x6) (harg8.unread x7) (harg9.unread x8) (harg10.unread x9) (harg11.unread x10) k).2.2.2.1 = [⟨Rect.unit (s := S1x4096x512) (k0_off3 k) ![1, 256, 512] (k0_off3_inb k), projK x0 x1 x2 x4 x7 k.val⟩] := by
  have hk : k.val < 16 := trips3 ▸ k.isLt
  unfold tripL_k0_t3
  delta trip_k0_t3
  dsimp only
  delta trip_k0_t3.sl.r trip_k0_t3.sl.r_1 trip_k0_t3.sl.r_2 trip_k0_t3.sl.r_3 trip_k0_t3.sl.r_4 trip_k0_t3.sl.r_5 trip_k0_t3.sl.r_6 trip_k0_t3.sl.cst_83
  simp only [Blk.readAt_ld, ld_slab x0 k.val hk _ (k0_off3_eq k)]
  rw [View.ld_unit_zero (S := S1x512) Blk.zero2 _ x1, View.ld_unit_zero (S := S1x512) Blk.zero2 _ x2, View.ld_unit_zero (S := S512x512) Blk.zero2 _ x4, View.ld_unit_zero (S := S1x512) Blk.zero2 _ x7]
  rfl

theorem trip3_16 (𝒱 : Variants) (c : Dev nD) (bd : Option 𝒱.V) (i : grid0.Coords) (arg1 : Memref sig .tc .vmem S1x4096x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .fp8e4m3) (harg4 : arg4.IsWhole) (arg5 : Memref sig .tc .vmem S512x512 .fp8e4m3) (harg5 : arg5.IsWhole) (arg6 : Memref sig .tc .vmem S512x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x4096x512 .fp8e4m3) (harg12 : arg12.IsWhole) (arg13 : Memref sig .tc .vmem S20x4096 .f32) (harg13 : arg13.IsWhole) (arg14 : Memref sig .tc .vmem S1x4096x512 .bf16) (harg14 : arg14.IsWhole) (arg15 : Memref sig .tc .vmem S1x4096x512 .bf16) (harg15 : arg15.IsWhole) (arg16 : Memref sig .tc .vmem S1x4096x512 .bf16) (harg16 : arg16.IsWhole) (arg0 : BitVec 32) (x0 : Vec F S1x4096x512 .bf16) (x1 : Vec F S1x512 .f32) (x2 : Vec F S1x512 .f32) (x3 : Vec F S512x512 .fp8e4m3) (x4 : Vec F S512x512 .fp8e4m3) (x5 : Vec F S512x512 .fp8e4m3) (x6 : Vec F S1x512 .f32) (x7 : Vec F S1x512 .f32) (x8 : Vec F S1x512 .f32) (x9 : Vec F S1x512 .f32) (x10 : Vec F S1x512 .f32) (k : Fin k0_t3_loop.trips) :
    (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 (mean x0) lanes (k0_pay24 (acc2 x0 16)) (k0_pay25 (acc2 x0 16)) (k0_pay26 (acc2 x0 16)) 8#32 (harg1.unread x0) (harg2.unread x1) (harg3.unread x2) (harg4.unread x3) (harg5.unread x4) (harg6.unread x5) (harg7.unread x6) (harg8.unread x7) (harg9.unread x8) (harg10.unread x9) (harg11.unread x10) k).2.2.2.2 = [⟨Rect.unit (s := S1x4096x512) (k0_off3 k) ![1, 256, 512] (k0_off3_inb k), projV x0 x1 x2 x5 x8 x10 k.val⟩] := by
  have hk : k.val < 16 := trips3 ▸ k.isLt
  unfold tripL_k0_t3
  delta trip_k0_t3
  dsimp only
  delta trip_k0_t3.sl.r trip_k0_t3.sl.r_1 trip_k0_t3.sl.r_2 trip_k0_t3.sl.r_3 trip_k0_t3.sl.r_4 trip_k0_t3.sl.r_5 trip_k0_t3.sl.r_6 trip_k0_t3.sl.cst_83
  simp only [Blk.readAt_ld, ld_slab x0 k.val hk _ (k0_off3_eq k)]
  rw [View.ld_unit_zero (S := S1x512) Blk.zero2 _ x1, View.ld_unit_zero (S := S1x512) Blk.zero2 _ x2, View.ld_unit_zero (S := S512x512) Blk.zero2 _ x5, View.ld_unit_zero (S := S1x512) Blk.zero2 _ x8, View.ld_unit_zero (S := S1x512) Blk.zero2 _ x10]
  rfl

theorem pb3_succ (𝒱 : Variants) (c : Dev nD) (bd : Option 𝒱.V) (i : grid0.Coords) (arg1 : Memref sig .tc .vmem S1x4096x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .fp8e4m3) (harg4 : arg4.IsWhole) (arg5 : Memref sig .tc .vmem S512x512 .fp8e4m3) (harg5 : arg5.IsWhole) (arg6 : Memref sig .tc .vmem S512x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x4096x512 .fp8e4m3) (harg12 : arg12.IsWhole) (arg13 : Memref sig .tc .vmem S20x4096 .f32) (harg13 : arg13.IsWhole) (arg14 : Memref sig .tc .vmem S1x4096x512 .bf16) (harg14 : arg14.IsWhole) (arg15 : Memref sig .tc .vmem S1x4096x512 .bf16) (harg15 : arg15.IsWhole) (arg16 : Memref sig .tc .vmem S1x4096x512 .bf16) (harg16 : arg16.IsWhole) (arg0 : BitVec 32) (x0 : Vec F S1x4096x512 .bf16) (x1 : Vec F S1x512 .f32) (x2 : Vec F S1x512 .f32) (x3 : Vec F S512x512 .fp8e4m3) (x4 : Vec F S512x512 .fp8e4m3) (x5 : Vec F S512x512 .fp8e4m3) (x6 : Vec F S1x512 .f32) (x7 : Vec F S1x512 .f32) (x8 : Vec F S1x512 .f32) (x9 : Vec F S1x512 .f32) (x10 : Vec F S1x512 .f32) (k : ℕ) (hk : k < 16) :
    let T := pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 (mean x0) lanes (k0_pay24 (acc2 x0 16)) (k0_pay25 (acc2 x0 16)) (k0_pay26 (acc2 x0 16)) 8#32 (harg1.unread x0) (harg2.unread x1) (harg3.unread x2) (harg4.unread x3) (harg5.unread x4) (harg6.unread x5) (harg7.unread x6) (harg8.unread x7) (harg9.unread x8) (harg10.unread x9) (harg11.unread x10)
    let q : Fin k0_t3_loop.trips := ⟨k, by rw [trips3]; exact hk⟩
    (T (k + 1)).1 = ⟨Rect.unit (s := S1x4096x512) (k0_off3 q) ![1, 256, 512] (k0_off3_inb q), codesN x0 x1 x2 k⟩ :: (T k).1
    ∧ (T (k + 1)).2.1 = ⟨Rect.unit (s := S20x4096) (k0_off4 i q) ![1, 256] (k0_off4_inb i q), scaleN x0 x1 x2 k⟩ :: (T k).2.1
    ∧ (T (k + 1)).2.2.1 = ⟨Rect.unit (s := S1x4096x512) (k0_off3 q) ![1, 256, 512] (k0_off3_inb q), projQ x0 x1 x2 x3 x6 x9 k⟩ :: (T k).2.2.1
    ∧ (T (k + 1)).2.2.2.1 = ⟨Rect.unit (s := S1x4096x512) (k0_off3 q) ![1, 256, 512] (k0_off3_inb q), projK x0 x1 x2 x4 x7 k⟩ :: (T k).2.2.2.1
    ∧ (T (k + 1)).2.2.2.2 = ⟨Rect.unit (s := S1x4096x512) (k0_off3 q) ![1, 256, 512] (k0_off3_inb q), projV x0 x1 x2 x5 x8 x10 k⟩ :: (T k).2.2.2.2 := by
  intro T q
  have h := pb_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 (mean x0) lanes (k0_pay24 (acc2 x0 16)) (k0_pay25 (acc2 x0 16)) (k0_pay26 (acc2 x0 16)) 8#32 (harg1.unread x0) (harg2.unread x1) (harg3.unread x2) (harg4.unread x3) (harg5.unread x4) (harg6.unread x5) (harg7.unread x6) (harg8.unread x7) (harg9.unread x8) (harg10.unread x9) (harg11.unread x10) q
  exact ⟨(congrArg (fun p => p.1) h).trans (congrArg (· ++ (T k).1) (trip3_12 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 x0 x1 x2 x3 x4 x5 x6 x7 x8 x9 x10 q)),
    (congrArg (fun p => p.2.1) h).trans (congrArg (· ++ (T k).2.1) (trip3_13 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 x0 x1 x2 x3 x4 x5 x6 x7 x8 x9 x10 q)),
    (congrArg (fun p => p.2.2.1) h).trans (congrArg (· ++ (T k).2.2.1) (trip3_14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 x0 x1 x2 x3 x4 x5 x6 x7 x8 x9 x10 q)),
    (congrArg (fun p => p.2.2.2.1) h).trans (congrArg (· ++ (T k).2.2.2.1) (trip3_15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 x0 x1 x2 x3 x4 x5 x6 x7 x8 x9 x10 q)),
    (congrArg (fun p => p.2.2.2.2) h).trans (congrArg (· ++ (T k).2.2.2.2) (trip3_16 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 x0 x1 x2 x3 x4 x5 x6 x7 x8 x9 x10 q))⟩

set_option maxHeartbeats 8000000 in
/-- What one grid point does: from the eleven input blocks it fills the four output blocks, and in the array of
    scales it replaces the row of its own image. -/
theorem kernelRun0_A (c : Dev nD) (i : grid0.Coords) (arg1 : Memref sig .tc .vmem S1x4096x512 .bf16) (harg1 : arg1.IsWhole) (arg2 : Memref sig .tc .vmem S1x512 .f32) (harg2 : arg2.IsWhole) (arg3 : Memref sig .tc .vmem S1x512 .f32) (harg3 : arg3.IsWhole) (arg4 : Memref sig .tc .vmem S512x512 .fp8e4m3) (harg4 : arg4.IsWhole) (arg5 : Memref sig .tc .vmem S512x512 .fp8e4m3) (harg5 : arg5.IsWhole) (arg6 : Memref sig .tc .vmem S512x512 .fp8e4m3) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x4096x512 .fp8e4m3) (harg12 : arg12.IsWhole) (arg13 : Memref sig .tc .vmem S20x4096 .f32) (harg13 : arg13.IsWhole) (arg14 : Memref sig .tc .vmem S1x4096x512 .bf16) (harg14 : arg14.IsWhole) (arg15 : Memref sig .tc .vmem S1x4096x512 .bf16) (harg15 : arg15.IsWhole) (arg16 : Memref sig .tc .vmem S1x4096x512 .bf16) (harg16 : arg16.IsWhole)
    (x0 : Vec F S1x4096x512 .bf16) (x1 : Vec F S1x512 .f32) (x2 : Vec F S1x512 .f32) (x3 : Vec F S512x512 .fp8e4m3) (x4 : Vec F S512x512 .fp8e4m3) (x5 : Vec F S512x512 .fp8e4m3) (x6 : Vec F S1x512 .f32) (x7 : Vec F S1x512 .f32) (x8 : Vec F S1x512 .f32) (x9 : Vec F S1x512 .f32) (x10 : Vec F S1x512 .f32) (d12 : Vec F S20x4096 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare d12 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (rows (codesN x0 x1 x2)) ∗ owns (c : Thread nD τ) arg13 fullShare (putRow d12 (i 0).val (scaleN x0 x1 x2)) ∗ owns (c : Thread nD τ) arg14 fullShare (rows (projQ x0 x1 x2 x3 x6 x9)) ∗ owns (c : Thread nD τ) arg15 fullShare (rows (projK x0 x1 x2 x4 x7)) ∗ owns (c : Thread nD τ) arg16 fullShare (rows (projV x0 x1 x2 x5 x8 x10))) -∗ K ⟨⟩))
          ⊢ wp frame (wpE (defs₀ (F := F)) Variants.none c none) E (cc0_gn_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_gn_qkv_eq_skeleton]; unfold cc0_gn_qkv_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%d15, %f15, -, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    have h1 := st1_eq (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 16 (le_refl _)
    have h2 := st2_eq (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay15 x0 16 (le_refl _)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; swap; · iexact H11
      ipureintro; (delta kernelRun0_A.sl.r_3 kernelRun0_A.sl.r_4 kernelRun0_A.sl.r_5 kernelRun0_A.sl.r_6 kernelRun0_A.sl.v49);       (delta kernelRun0_A.sl.r kernelRun0_A.sl.r_1 kernelRun0_A.sl.r_2);       rw [show Scf.trips k0_t1_loop.lb k0_t1_loop.ub k0_t1_loop.st = 16 from trips1, h1, h2];       exact read_rows arg12.view f11 (fun k => (pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (mean x0) lanes (k0_pay24 (acc2 x0 16)) (k0_pay25 (acc2 x0 16)) (k0_pay26 (acc2 x0 16)) 8#32 (harg1.unread x0) (harg2.unread x1) (harg3.unread x2) (harg4.unread x3) (harg5.unread x4) (harg6.unread x5) (harg7.unread x6) (harg8.unread x7) (harg9.unread x8) (harg10.unread x9) (harg11.unread x10) k).1) _ (fun k hk => ⟨_, _, k0_off3_eq _, (pb3_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) x0 x1 x2 x3 x4 x5 x6 x7 x8 x9 x10 k hk).1⟩)
    isplitl [H12]
    · iexists _; isplitr; swap; · iexact H12
      ipureintro; (delta kernelRun0_A.sl.r_3 kernelRun0_A.sl.r_4 kernelRun0_A.sl.r_5 kernelRun0_A.sl.r_6 kernelRun0_A.sl.v49);       (delta kernelRun0_A.sl.r kernelRun0_A.sl.r_1 kernelRun0_A.sl.r_2);       rw [show Scf.trips k0_t1_loop.lb k0_t1_loop.ub k0_t1_loop.st = 16 from trips1, h1, h2];       exact read_putRow arg13.view f12 (fun k => (pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (mean x0) lanes (k0_pay24 (acc2 x0 16)) (k0_pay25 (acc2 x0 16)) (k0_pay26 (acc2 x0 16)) 8#32 (harg1.unread x0) (harg2.unread x1) (harg3.unread x2) (harg4.unread x3) (harg5.unread x4) (harg6.unread x5) (harg7.unread x6) (harg8.unread x7) (harg9.unread x8) (harg10.unread x9) (harg11.unread x10) k).2.1) _ _ d12 hf12 rfl (fun k hk => ⟨_, _, k0_off4_eq i _, (pb3_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) x0 x1 x2 x3 x4 x5 x6 x7 x8 x9 x10 k hk).2.1⟩)
    isplitl [H13]
    · iexists _; isplitr; swap; · iexact H13
      ipureintro; (delta kernelRun0_A.sl.r_3 kernelRun0_A.sl.r_4 kernelRun0_A.sl.r_5 kernelRun0_A.sl.r_6 kernelRun0_A.sl.v49);       (delta kernelRun0_A.sl.r kernelRun0_A.sl.r_1 kernelRun0_A.sl.r_2);       rw [show Scf.trips k0_t1_loop.lb k0_t1_loop.ub k0_t1_loop.st = 16 from trips1, h1, h2];       exact read_rows arg14.view f13 (fun k => (pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (mean x0) lanes (k0_pay24 (acc2 x0 16)) (k0_pay25 (acc2 x0 16)) (k0_pay26 (acc2 x0 16)) 8#32 (harg1.unread x0) (harg2.unread x1) (harg3.unread x2) (harg4.unread x3) (harg5.unread x4) (harg6.unread x5) (harg7.unread x6) (harg8.unread x7) (harg9.unread x8) (harg10.unread x9) (harg11.unread x10) k).2.2.1) _ (fun k hk => ⟨_, _, k0_off3_eq _, (pb3_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) x0 x1 x2 x3 x4 x5 x6 x7 x8 x9 x10 k hk).2.2.1⟩)
    isplitl [H14]
    · iexists _; isplitr; swap; · iexact H14
      ipureintro; (delta kernelRun0_A.sl.r_3 kernelRun0_A.sl.r_4 kernelRun0_A.sl.r_5 kernelRun0_A.sl.r_6 kernelRun0_A.sl.v49);       (delta kernelRun0_A.sl.r kernelRun0_A.sl.r_1 kernelRun0_A.sl.r_2);       rw [show Scf.trips k0_t1_loop.lb k0_t1_loop.ub k0_t1_loop.st = 16 from trips1, h1, h2];       exact read_rows arg15.view f14 (fun k => (pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (mean x0) lanes (k0_pay24 (acc2 x0 16)) (k0_pay25 (acc2 x0 16)) (k0_pay26 (acc2 x0 16)) 8#32 (harg1.unread x0) (harg2.unread x1) (harg3.unread x2) (harg4.unread x3) (harg5.unread x4) (harg6.unread x5) (harg7.unread x6) (harg8.unread x7) (harg9.unread x8) (harg10.unread x9) (harg11.unread x10) k).2.2.2.1) _ (fun k hk => ⟨_, _, k0_off3_eq _, (pb3_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) x0 x1 x2 x3 x4 x5 x6 x7 x8 x9 x10 k hk).2.2.2.1⟩)
    iexists _; isplitr; swap; · iexact H15
    ipureintro; (delta kernelRun0_A.sl.r_3 kernelRun0_A.sl.r_4 kernelRun0_A.sl.r_5 kernelRun0_A.sl.r_6 kernelRun0_A.sl.v49);       (delta kernelRun0_A.sl.r kernelRun0_A.sl.r_1 kernelRun0_A.sl.r_2);       rw [show Scf.trips k0_t1_loop.lb k0_t1_loop.ub k0_t1_loop.st = 16 from trips1, h1, h2];       exact read_rows arg16.view f15 (fun k => (pb_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (mean x0) lanes (k0_pay24 (acc2 x0 16)) (k0_pay25 (acc2 x0 16)) (k0_pay26 (acc2 x0 16)) 8#32 (harg1.unread x0) (harg2.unread x1) (harg3.unread x2) (harg4.unread x3) (harg5.unread x4) (harg6.unread x5) (harg7.unread x6) (harg8.unread x7) (harg9.unread x8) (harg10.unread x9) (harg11.unread x10) k).2.2.2.2) _ (fun k hk => ⟨_, _, k0_off3_eq _, (pb3_succ Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) x0 x1 x2 x3 x4 x5 x6 x7 x8 x9 x10 k hk).2.2.2.2⟩)
end Cert.QkvIdeal.Gen
end
-- ==== Proof.QkvLaunch.lean ====
module

public import proofs.«01_k».proof.Proof.Gen.QkvIdeal.Launch
public import proofs.«01_k».proof.Proof.Gen.QkvIdeal.Points
public import proofs.«01_k».proof.Proof.Gen.QkvIdeal.Skeleton
public import proofs.«01_k».proof.Proof.Gen.QkvIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.QkvRun
public import Idealize.ShloMosaic.Lib.Pipeline.ArrRel
public import Idealize.ShloMosaic.Lib.Pipeline.DatRel
public import Idealize.ShloMosaic.Lib.Pipeline.ValueKit

@[expose] public section

set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the kernel is entered: after the host's reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- The argument arrays after a run whose arrays start as the kernel finds them. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

abbrev ms0_0 (t : Fin cfg0.N) : Memref sig .tc .vmem S1x4096x512 .bf16 := win0_0.stage (cfg0.slots t 0)
abbrev ms0_1 (t : Fin cfg0.N) : Memref sig .tc .vmem S1x512 .f32 := win0_1.stage (cfg0.slots t 1)
abbrev ms0_2 (t : Fin cfg0.N) : Memref sig .tc .vmem S1x512 .f32 := win0_2.stage (cfg0.slots t 2)
abbrev ms0_3 (t : Fin cfg0.N) : Memref sig .tc .vmem S512x512 .fp8e4m3 := win0_3.stage (cfg0.slots t 3)
abbrev ms0_4 (t : Fin cfg0.N) : Memref sig .tc .vmem S512x512 .fp8e4m3 := win0_4.stage (cfg0.slots t 4)
abbrev ms0_5 (t : Fin cfg0.N) : Memref sig .tc .vmem S512x512 .fp8e4m3 := win0_5.stage (cfg0.slots t 5)
abbrev ms0_6 (t : Fin cfg0.N) : Memref sig .tc .vmem S1x512 .f32 := win0_6.stage (cfg0.slots t 6)
abbrev ms0_7 (t : Fin cfg0.N) : Memref sig .tc .vmem S1x512 .f32 := win0_7.stage (cfg0.slots t 7)
abbrev ms0_8 (t : Fin cfg0.N) : Memref sig .tc .vmem S1x512 .f32 := win0_8.stage (cfg0.slots t 8)
abbrev ms0_9 (t : Fin cfg0.N) : Memref sig .tc .vmem S1x512 .f32 := win0_9.stage (cfg0.slots t 9)
abbrev ms0_10 (t : Fin cfg0.N) : Memref sig .tc .vmem S1x512 .f32 := win0_10.stage (cfg0.slots t 10)
abbrev ms0_11 (t : Fin cfg0.N) : Memref sig .tc .vmem S1x4096x512 .fp8e4m3 := win0_11.stage (cfg0.slots t 11)
abbrev ms0_12 (t : Fin cfg0.N) : Memref sig .tc .vmem S20x4096 .f32 := win0_12.stage (cfg0.slots t 12)
abbrev ms0_13 (t : Fin cfg0.N) : Memref sig .tc .vmem S1x4096x512 .bf16 := win0_13.stage (cfg0.slots t 13)
abbrev ms0_14 (t : Fin cfg0.N) : Memref sig .tc .vmem S1x4096x512 .bf16 := win0_14.stage (cfg0.slots t 14)
abbrev ms0_15 (t : Fin cfg0.N) : Memref sig .tc .vmem S1x4096x512 .bf16 := win0_15.stage (cfg0.slots t 15)

theorem PhiA0_eq (c : Dev nD) :
    (Pipeline.ΦA spec0 c : sProp 𝕄) = iprop(BI.emp ∗ (∃ r, prngReg c r)) := by
  unfold Pipeline.ΦA; rw [scopedRest0_eq]

/-! ## What the output buffers hold -/

/-- Point `t`'s block of the codes. -/
def blk11 (c : Dev nD) (t : Fin cfg0.N) : Vec F S1x4096x512 .fp8e4m3 := rows (codesN (iblk m c 0 t) (iblk m c 1 t) (iblk m c 2 t))

/-- Point `t`'s block of the first projection. -/
def blk13 (c : Dev nD) (t : Fin cfg0.N) : Vec F S1x4096x512 .bf16 := rows (projQ (iblk m c 0 t) (iblk m c 1 t) (iblk m c 2 t) (iblk m c 3 t) (iblk m c 6 t) (iblk m c 9 t))

/-- Point `t`'s block of the second projection. -/
def blk14 (c : Dev nD) (t : Fin cfg0.N) : Vec F S1x4096x512 .bf16 := rows (projK (iblk m c 0 t) (iblk m c 1 t) (iblk m c 2 t) (iblk m c 4 t) (iblk m c 7 t))

/-- Point `t`'s block of the third projection. -/
def blk15 (c : Dev nD) (t : Fin cfg0.N) : Vec F S1x4096x512 .bf16 := rows (projV (iblk m c 0 t) (iblk m c 1 t) (iblk m c 2 t) (iblk m c 5 t) (iblk m c 8 t) (iblk m c 10 t))

/-- Point `t`'s row of scales, in runs of 256. -/
def row12 (c : Dev nD) (t : Fin cfg0.N) : ℕ → Vec F S1x256 .f32 := scaleN (iblk m c 0 t) (iblk m c 1 t) (iblk m c 2 t)

/-- The point that works on image `a`. -/
def ptOf (a : Fin 20) : Fin cfg0.N := ⟨a.val, a.isLt⟩

/-- The array of scales. -/
def arr12 (c : Dev nD) : Vec F S20x4096 .f32 := fun j =>
  row12 m c (ptOf (j 0)) ((j 1).val / 256) (ix2 0 ⟨(j 1).val % 256, Nat.mod_lt _ (by omega)⟩)

/-- What the body leaves in the output buffers: the four blocks, and the scales of every point so far. -/
def leaves0 (c : Dev nD) : (w : Fin cfg0.W) → (t : Fin cfg0.N) → ((cfg0.win w).block.Idx → Elt F (cfg0.win w).elt) → Prop
  | ⟨11, _⟩, t => fun X => X = blk11 m c t
  | ⟨12, _⟩, t => fun X => ∀ j : S20x4096.Idx, (j 0).val < t.val + 1 → X j = arr12 m c j
  | ⟨13, _⟩, t => fun X => X = blk13 m c t
  | ⟨14, _⟩, t => fun X => X = blk14 m c t
  | ⟨15, _⟩, t => fun X => X = blk15 m c t
  | _, _ => fun _ => True

theorem coords0_0 : ∀ t : Fin cfg0.N, (grid0.coords t 0).val = t.val := (by decide +kernel : ∀ t : Fin grid0.N, _)
theorem fetch0_12 : ∀ t : Fin cfg0.N, win0_12.fetch t = false := (by decide +kernel : ∀ t : Fin grid0.N, _)
theorem unflushed0_12 : ∀ t : Fin cfg0.N, t.val < 19 → win0_12.flush t = false := (by decide +kernel : ∀ t : Fin grid0.N, _)

/-- One point's scales put into an array that holds the earlier points' ones. -/
theorem put_step (c : Dev nD) (t : Fin cfg0.N) (Y : Vec F S20x4096 .f32)
    (hY : ∀ j : S20x4096.Idx, (j 0).val < t.val → Y j = arr12 m c j) (j : S20x4096.Idx)
    (hj : (j 0).val < t.val + 1) :
    putRow Y (grid0.coords t 0).val (row12 m c t) j = arr12 m c j := by
  rw [coords0_0]
  unfold putRow
  by_cases h : (j 0).val = t.val
  · rw [if_pos h]
    have ep : ptOf (j 0) = t := Fin.ext h
    unfold arr12; rw [ep]
  · rw [if_neg h]; exact hY j (by omega)

def forgets0 : Fin 16 → Bool := fun w => w.val == 11 || w.val == 12 || w.val == 13 || w.val == 14 || w.val == 15

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The array of scales as a point finds it holds the earlier points' ones. -/
theorem finds0_12 (c : Dev nD) (t : Fin cfg0.N) (Y : Vec F S20x4096 .f32)
    (h : ((dats m 0 c).toRRel forgets0 (leaves0 m c)).Finds 12 t Y) (j : S20x4096.Idx)
    (hj : (j 0).val < t.val) : Y j = arr12 m c j := by
  have ht : t.val < 20 := t.isLt
  by_cases h0 : t.val = 0
  · omega
  · rcases (Pipeline.RDat.finds_of_pos _ (w := 12) (fetch0_12 t) h0 Y).mp h with h1 | h1
    · exact absurd h1 (by rw [show (cfg0.win 12).flush _ = false from unflushed0_12 _ (by show t.val - 1 < 19; omega)]; exact Bool.false_ne_true)
    · have h2 := (dats m 0 c).toRRel_leaves (fgt := forgets0) (Rl := leaves0 m c) (w := 12) rfl h1
      exact h2 j (by show _ < t.val - 1 + 1; omega)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, ⌜((dats m 0 c).toRRel forgets0 (leaves0 m c)).Finds 11 t d⌝ ∗ owns (c : Thread nD τ) (ms0_11 t) fullShare d)
    ∗ (∃ d, ⌜((dats m 0 c).toRRel forgets0 (leaves0 m c)).Finds 12 t d⌝ ∗ owns (c : Thread nD τ) (ms0_12 t) fullShare d)
    ∗ (∃ d, ⌜((dats m 0 c).toRRel forgets0 (leaves0 m c)).Finds 13 t d⌝ ∗ owns (c : Thread nD τ) (ms0_13 t) fullShare d)
    ∗ (∃ d, ⌜((dats m 0 c).toRRel forgets0 (leaves0 m c)).Finds 14 t d⌝ ∗ owns (c : Thread nD τ) (ms0_14 t) fullShare d)
    ∗ (∃ d, ⌜((dats m 0 c).toRRel forgets0 (leaves0 m c)).Finds 15 t d⌝ ∗ owns (c : Thread nD τ) (ms0_15 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, ⌜leaves0 m c 11 t d⌝ ∗ owns (c : Thread nD τ) (ms0_11 t) fullShare d)
    ∗ (∃ d, ⌜leaves0 m c 12 t d⌝ ∗ owns (c : Thread nD τ) (ms0_12 t) fullShare d)
    ∗ (∃ d, ⌜leaves0 m c 13 t d⌝ ∗ owns (c : Thread nD τ) (ms0_13 t) fullShare d)
    ∗ (∃ d, ⌜leaves0 m c 14 t d⌝ ∗ owns (c : Thread nD τ) (ms0_14 t) fullShare d)
    ∗ (∃ d, ⌜leaves0 m c 15 t d⌝ ∗ owns (c : Thread nD τ) (ms0_15 t) fullShare d))

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩, ⟨%d12, %hd12, H12⟩, ⟨%d13, -, H13⟩, ⟨%d14, -, H14⟩, ⟨%d15, -, H15⟩⟩
  iapply ((kernelRun0_A c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitr; swap; · iexact H11
    ipureintro; rfl
  isplitl [H12]
  · iexists _; isplitr; swap; · iexact H12
    ipureintro; exact put_step m c t d12 (finds0_12 m c t d12 hd12)
  isplitl [H13]
  · iexists _; isplitr; swap; · iexact H13
    ipureintro; rfl
  isplitl [H14]
  · iexists _; isplitr; swap; · iexact H14
    ipureintro; rfl
  iexists _; isplitr; swap; · iexact H15
  ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ forgets0 (leaves0 m c) := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRRel forgets0 (leaves0 m c)) (V m)) r ∧ r.2.sem = fun _ => 0) :=
  Pipeline.RDat.θ_run_frame (Q' := _) cfgs (0 : Fin 1) launch0 defs₀ Variants.none (fun c => (dats m 0 c).toRRel forgets0 (leaves0 m c)) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRRel forgets0 (leaves0 m c)) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  unchanged_of m ρ (fun c => (dats m 0 c).toRRel forgets0 (leaves0 m c)) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

/-! ## The result arrays -/

/-- The array of the codes. -/
def arr11 (c : Dev nD) : Vec F S20x4096x512 .fp8e4m3 := fun j => blk11 m c (ptOf (j 0)) (ix3 0 (j 1) (j 2))

theorem index0_11 : ∀ t : Fin cfg0.N, win0_11.index t = ![t.val, 0, 0] := (by decide +kernel : ∀ t : Fin grid0.N, _)

theorem final11 (c : Dev nD) (dat : Dat τ (Elt F) Unit ℕ (UR sig nD τ) ℕ cfg0 c)
    (h : ∀ t, win0_11.flush t = true → dat.after 11 t = blk11 m c t) : dat.arrAt 11 cfg0.N = arr11 m c := by
  refine dat.arrAt_eq_of_covers 11 _ (by decide +kernel) fun t hf y => ?_
  blk_simp
  rw [h t hf]
  have h0 : (y 0).val < 1 := (y 0).isLt
  have ht : t.val < 20 := t.isLt
  unfold arr11
  have e0 : ((win0_11.blk t).view.emb y 0).val = t.val := by
    blk_simp [index0_11 t]; try omega
  have e1 : ((win0_11.blk t).view.emb y 1).val = (y 1).val := by
    blk_simp [index0_11 t]; try omega
  have e2 : ((win0_11.blk t).view.emb y 2).val = (y 2).val := by
    blk_simp [index0_11 t]; try omega
  have ep : ptOf ((win0_11.blk t).view.emb y 0) = t := Fin.ext e0
  rw [ep]
  congr 1
  funext a; apply Fin.ext; fin_cases a
  · show (y 0).val = 0; omega
  · exact e1.symm
  · exact e2.symm

/-- The array of the first projection. -/
def arr13 (c : Dev nD) : Vec F S20x4096x512 .bf16 := fun j => blk13 m c (ptOf (j 0)) (ix3 0 (j 1) (j 2))

theorem index0_13 : ∀ t : Fin cfg0.N, win0_13.index t = ![t.val, 0, 0] := (by decide +kernel : ∀ t : Fin grid0.N, _)

theorem final13 (c : Dev nD) (dat : Dat τ (Elt F) Unit ℕ (UR sig nD τ) ℕ cfg0 c)
    (h : ∀ t, win0_13.flush t = true → dat.after 13 t = blk13 m c t) : dat.arrAt 13 cfg0.N = arr13 m c := by
  refine dat.arrAt_eq_of_covers 13 _ (by decide +kernel) fun t hf y => ?_
  blk_simp
  rw [h t hf]
  have h0 : (y 0).val < 1 := (y 0).isLt
  have ht : t.val < 20 := t.isLt
  unfold arr13
  have e0 : ((win0_13.blk t).view.emb y 0).val = t.val := by
    blk_simp [index0_13 t]; try omega
  have e1 : ((win0_13.blk t).view.emb y 1).val = (y 1).val := by
    blk_simp [index0_13 t]; try omega
  have e2 : ((win0_13.blk t).view.emb y 2).val = (y 2).val := by
    blk_simp [index0_13 t]; try omega
  have ep : ptOf ((win0_13.blk t).view.emb y 0) = t := Fin.ext e0
  rw [ep]
  congr 1
  funext a; apply Fin.ext; fin_cases a
  · show (y 0).val = 0; omega
  · exact e1.symm
  · exact e2.symm

/-- The array of the second projection. -/
def arr14 (c : Dev nD) : Vec F S20x4096x512 .bf16 := fun j => blk14 m c (ptOf (j 0)) (ix3 0 (j 1) (j 2))

theorem index0_14 : ∀ t : Fin cfg0.N, win0_14.index t = ![t.val, 0, 0] := (by decide +kernel : ∀ t : Fin grid0.N, _)

theorem final14 (c : Dev nD) (dat : Dat τ (Elt F) Unit ℕ (UR sig nD τ) ℕ cfg0 c)
    (h : ∀ t, win0_14.flush t = true → dat.after 14 t = blk14 m c t) : dat.arrAt 14 cfg0.N = arr14 m c := by
  refine dat.arrAt_eq_of_covers 14 _ (by decide +kernel) fun t hf y => ?_
  blk_simp
  rw [h t hf]
  have h0 : (y 0).val < 1 := (y 0).isLt
  have ht : t.val < 20 := t.isLt
  unfold arr14
  have e0 : ((win0_14.blk t).view.emb y 0).val = t.val := by
    blk_simp [index0_14 t]; try omega
  have e1 : ((win0_14.blk t).view.emb y 1).val = (y 1).val := by
    blk_simp [index0_14 t]; try omega
  have e2 : ((win0_14.blk t).view.emb y 2).val = (y 2).val := by
    blk_simp [index0_14 t]; try omega
  have ep : ptOf ((win0_14.blk t).view.emb y 0) = t := Fin.ext e0
  rw [ep]
  congr 1
  funext a; apply Fin.ext; fin_cases a
  · show (y 0).val = 0; omega
  · exact e1.symm
  · exact e2.symm

/-- The array of the third projection. -/
def arr15 (c : Dev nD) : Vec F S20x4096x512 .bf16 := fun j => blk15 m c (ptOf (j 0)) (ix3 0 (j 1) (j 2))

theorem index0_15 : ∀ t : Fin cfg0.N, win0_15.index t = ![t.val, 0, 0] := (by decide +kernel : ∀ t : Fin grid0.N, _)

theorem final15 (c : Dev nD) (dat : Dat τ (Elt F) Unit ℕ (UR sig nD τ) ℕ cfg0 c)
    (h : ∀ t, win0_15.flush t = true → dat.after 15 t = blk15 m c t) : dat.arrAt 15 cfg0.N = arr15 m c := by
  refine dat.arrAt_eq_of_covers 15 _ (by decide +kernel) fun t hf y => ?_
  blk_simp
  rw [h t hf]
  have h0 : (y 0).val < 1 := (y 0).isLt
  have ht : t.val < 20 := t.isLt
  unfold arr15
  have e0 : ((win0_15.blk t).view.emb y 0).val = t.val := by
    blk_simp [index0_15 t]; try omega
  have e1 : ((win0_15.blk t).view.emb y 1).val = (y 1).val := by
    blk_simp [index0_15 t]; try omega
  have e2 : ((win0_15.blk t).view.emb y 2).val = (y 2).val := by
    blk_simp [index0_15 t]; try omega
  have ep : ptOf ((win0_15.blk t).view.emb y 0) = t := Fin.ext e0
  rw [ep]
  congr 1
  funext a; apply Fin.ext; fin_cases a
  · show (y 0).val = 0; omega
  · exact e1.symm
  · exact e2.symm

theorem final12 (c : Dev nD) (dat : Dat τ (Elt F) Unit ℕ (UR sig nD τ) ℕ cfg0 c)
    (h : ∀ t, win0_12.flush t = true → leaves0 m c 12 t (dat.after 12 t)) : dat.arrAt 12 cfg0.N = arr12 m c := by
  refine dat.arrAt_eq_of_after_last 12 (⟨19, by decide⟩ : Fin grid0.N) (by decide +kernel) _ fun j => ?_
  blk_simp
  have h0 : (j 0).val < 20 := (j 0).isLt
  exact h (⟨19, by decide⟩ : Fin grid0.N) (by decide +kernel) j (by show _ < 19 + 1; omega)

/-- The run: the five result arrays named, the arguments unchanged. -/
theorem run : θ_run defs (onTc (τ := τ) (main (F := F))) ⟨m, fun _ => 0, ρ⟩ (fun r => ∀ c : Dev nD,
      (r.2.mem ((c.tc : Thread nD τ).loc main_v7_0) = arr11 m c
      ∧ r.2.mem ((c.tc : Thread nD τ).loc main_v7_1) = arr12 m c
      ∧ r.2.mem ((c.tc : Thread nD τ).loc main_v7_2) = arr13 m c
      ∧ r.2.mem ((c.tc : Thread nD τ).loc main_v7_3) = arr14 m c
      ∧ r.2.mem ((c.tc : Thread nD τ).loc main_v7_4) = arr15 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    refine ⟨?_, h.2 c⟩
    obtain ⟨after, hL, hA⟩ := Pipeline.RDat.FramePost.exists_exact h.1 c
    have hl : ∀ w : Fin cfg0.W, forgets0 w = true → ∀ t, (cfg0.win w).flush t = true → leaves0 m c w t (after w t) :=
      fun w hw t hf => (dats m 0 c).toRRel_leaves hw (hL w t hf)
    exact ⟨(hA 11).trans (final11 m c _ fun t hf => hl 11 rfl t hf), (hA 12).trans (final12 m c _ fun t hf => hl 12 rfl t hf), (hA 13).trans (final13 m c _ fun t hf => hl 13 rfl t hf), (hA 14).trans (final14 m c _ fun t hf => hl 14 rfl t hf), (hA 15).trans (final15 m c _ fun t hf => hl 15 rfl t hf)⟩)
    (θ_run_and (run_main m ρ) (unchanged m ρ))

end Cert.QkvIdeal.Gen

end
-- ==== Proof.Grp.lean ====
module

public import proofs.«01_k».proof.Proof.AttnIdx

@[expose] public section

set_option maxRecDepth 16384

noncomputable section

/-! The group normalisation over the extended reals: sums over runs of neighbouring channels, the mean, the variance
    and the normalised values of an image. -/

namespace Cert.Grp

open Idealize.ShloMosaic
open scoped BigOperators

/-- The sum over the aligned run of `s` indices around `n`. -/
def S (s : ℕ) (F : ℕ → EReal) (n : ℕ) : EReal := ∑ j ∈ Finset.range s, F (s * (n / s) + j)

theorem S_one (F : ℕ → EReal) (n : ℕ) : S 1 F n = F n := by
  simp [S]

/-- Two neighbouring runs make one of twice the length. -/
theorem S_two (F : ℕ → EReal) (s n : ℕ) (hs : 0 < s) :
    S s F n + (if n / s % 2 = 1 then S s F (n - s) else S s F (n + s)) = S (s + s) F n := by
  have key : ∀ q : ℕ, (∑ j ∈ Finset.range (s + s), F ((s + s) * q + j))
      = (∑ j ∈ Finset.range s, F (s * (2 * q) + j)) + ∑ j ∈ Finset.range s, F (s * (2 * q + 1) + j) := fun q => by
    rw [Finset.sum_range_add]
    refine congrArg₂ (· + ·) (Finset.sum_congr rfl fun j _ => congrArg F ?_) (Finset.sum_congr rfl fun j _ => congrArg F ?_)
    · ring
    · ring
  have hq : n / (s + s) = n / s / 2 := by rw [← two_mul, mul_comm, Nat.div_div_eq_div_mul]
  unfold S
  rw [hq, key]
  by_cases h : n / s % 2 = 1
  · have hn : s ≤ n := by
      by_contra hc
      rw [Nat.div_eq_of_lt (by omega)] at h
      omega
    have e : (n - s) / s = n / s - 1 := by
      have := Nat.sub_mul_div n s 1
      rwa [mul_one] at this
    rw [if_pos h, e, add_comm]
    have e1 : n / s - 1 = 2 * (n / s / 2) := by omega
    have e2 : n / s = 2 * (n / s / 2) + 1 := by omega
    rw [e1]
    congr 1
    rw [← e2]
  · have e : (n + s) / s = n / s + 1 := Nat.add_div_right n hs
    rw [if_neg h, e]
    have e2 : n / s = 2 * (n / s / 2) := by omega
    rw [← e2]

/-- A sum over 4096 positions by blocks, tiles and sublanes. -/
theorem sum_rows (f : Fin 4096 → EReal) :
    ∑ r : Fin 8, ∑ k : Fin 16, ∑ q : Fin 32, f ⟨256 * k.val + (q.val * 8 + r.val), by omega⟩ = ∑ n, f n := by
  rw [Fin.sum_univ_tiles 16 256 rfl f, Finset.sum_comm]
  refine Finset.sum_congr rfl fun k _ => ?_
  rw [Fin.sum_univ_tiles 32 8 rfl, Finset.sum_comm]
  refine Finset.sum_congr rfl fun q _ => Finset.sum_congr rfl fun r _ => congrArg f (Fin.ext ?_)
  simp only []
  omega

/-- The sum over the positions and the 16 channels of a group. -/
def tot (X : Fin 4096 → Fin 512 → EReal) (g : Fin 32) : EReal :=
  ∑ n : Fin 4096, ∑ j : Fin 16, X n ⟨g.val * 16 + j.val, by omega⟩

/-- The group of a channel. -/
def of (d : Fin 512) : Fin 32 := ⟨d.val / 16, by omega⟩

/-- A group's mean. -/
def mu (X : Fin 4096 → Fin 512 → EReal) (g : Fin 32) : EReal := tot X g * Ideal.ofBits .f32 0x37800000#32

/-- The values less their group's mean. -/
def cen (X : Fin 4096 → Fin 512 → EReal) (n : Fin 4096) (d : Fin 512) : EReal := X n d - mu X (of d)

/-- One over the root of a group's variance. -/
def rs (X : Fin 4096 → Fin 512 → EReal) (g : Fin 32) : EReal :=
  Ideal.rsqrt (mu (fun n d => cen X n d * cen X n d) g + Ideal.ofBits .f32 0x358637BD#32)

/-- The normalised values. -/
def nrm (X : Fin 4096 → Fin 512 → EReal) (g b : Fin 512 → EReal) (n : Fin 4096) (d : Fin 512) : EReal :=
  cen X n d * rs X (of d) * g d + b d

/-- The totals as aligned runs of column sums. -/
theorem tot_eq (X : Fin 4096 → Fin 512 → EReal) (F : ℕ → EReal) (hF : ∀ d : Fin 512, F d.val = ∑ n, X n d) (d : Fin 512) :
    S 16 F d.val = tot X (of d) := by
  unfold S tot of
  rw [Finset.sum_range, Finset.sum_comm]
  refine Finset.sum_congr rfl fun j _ => ?_
  exact (congrArg F (by simp only []; omega)).trans (hF ⟨d.val / 16 * 16 + j.val, by omega⟩)

/-- The reciprocal of the number of values in a group. -/
theorem inv_size : Ideal.ofBits .f32 0x37800000#32 = (((65536 : ℝ)⁻¹ : ℝ) : EReal) := by
  simp [Ideal.ofBits, Ideal.ieee, -EReal.coe_mul]; norm_num

theorem size : Ideal.ofBits .f32 0x47800000#32 = ((65536 : ℝ) : EReal) := by
  simp [Ideal.ofBits, Ideal.ieee, -EReal.coe_mul]; norm_num

theorem div_size (a : EReal) : Ideal.div a (Ideal.ofBits .f32 0x47800000#32) = a * Ideal.ofBits .f32 0x37800000#32 := by
  rw [size, inv_size, Ideal.div_coe (by norm_num), one_div]

/-- The normalised values of row `n` of image `a`. -/
def row (X : Vec Ideal (⟨3, ![20, 4096, 512]⟩ : Shape) .bf16) (g b : Vec Ideal (⟨1, ![512]⟩ : Shape) .f32) (a : Fin 20) (n : Fin 4096) : Fin 512 → EReal :=
  nrm (fun n d => X (ix3 a n d)) (fun d => g (ix1 d)) (fun d => b (ix1 d)) n

end Cert.Grp

end
-- ==== Proof.QkvIdx.lean ====
module

public import proofs.«01_k».proof.Proof.QkvLaunch
public import proofs.«01_k».proof.Proof.Grp
public import Idealize.ShloMosaic.Lib.Pointwise

@[expose] public section

set_option maxRecDepth 16384

noncomputable section

/-! The group normalisation of the projection call over the extended reals, read at an index. -/

namespace Cert.QkvIdeal.Gen

open Idealize.ShloMosaic Cert.QkvIdeal
open scoped BigOperators

/-- One exchange of a value with the lane that differs in one bit. -/
def swap (k k' : BitVec 32) (v : FVec Ideal S8x512 .f32) : FVec Ideal S8x512 .f32 :=
  addf v (select (cmpi .ne (andi (iota .tc S8x512 32 [1] iota_S8x512_d1_w32) (broadcast S8x512 k)) (broadcast S8x512 0#32))
    (dynamicRotate 1 k none v rotates_S8x512_d1) (dynamicRotate 1 k' none v rotates_S8x512_d1))

theorem bit1 : ∀ d : Fin 512, IntOp.cmpi .ne (IntOp.andi (BitVec.ofNat 32 d.val) 1#32) 0#32 = BitVec.ofBool (decide (d.val / 1 % 2 = 1)) := by decide +kernel
theorem bit2 : ∀ d : Fin 512, IntOp.cmpi .ne (IntOp.andi (BitVec.ofNat 32 d.val) 2#32) 0#32 = BitVec.ofBool (decide (d.val / 2 % 2 = 1)) := by decide +kernel
theorem bit4 : ∀ d : Fin 512, IntOp.cmpi .ne (IntOp.andi (BitVec.ofNat 32 d.val) 4#32) 0#32 = BitVec.ofBool (decide (d.val / 4 % 2 = 1)) := by decide +kernel
theorem bit8 : ∀ d : Fin 512, IntOp.cmpi .ne (IntOp.andi (BitVec.ofNat 32 d.val) 8#32) 0#32 = BitVec.ofBool (decide (d.val / 8 % 2 = 1)) := by decide +kernel

theorem sel (p : Prop) [Decidable p] (x y : EReal) : Scalar.select (BitVec.ofBool (decide p)) x y = if p then x else y := by
  by_cases h : p <;> simp [h, Scalar.select]

theorem swap1 (v : FVec Ideal S8x512 .f32) (F : ℕ → EReal) (hv : ∀ r d, v (ix2 r d) = Cert.Grp.S 1 F d.val) (r : Fin 8) (d : Fin 512) :
    swap 1#32 511#32 v (ix2 r d) = Cert.Grp.S 2 F d.val := by
  pointwise [swap]
  rw [bit1, sel, ← Cert.Grp.S_two F 1 d.val (by omega)]
  simp only [hv]
  split_ifs with h
  · have hd := d.isLt
    refine congrArg₂ (· + ·) rfl (congrArg (Cert.Grp.S _ F) ?_)
    omega
  · have hd := d.isLt
    refine congrArg₂ (· + ·) rfl (congrArg (Cert.Grp.S _ F) ?_)
    omega

theorem swap2 (v : FVec Ideal S8x512 .f32) (F : ℕ → EReal) (hv : ∀ r d, v (ix2 r d) = Cert.Grp.S 2 F d.val) (r : Fin 8) (d : Fin 512) :
    swap 2#32 510#32 v (ix2 r d) = Cert.Grp.S 4 F d.val := by
  pointwise [swap]
  rw [bit2, sel, ← Cert.Grp.S_two F 2 d.val (by omega)]
  simp only [hv]
  split_ifs with h
  · have hd := d.isLt
    refine congrArg₂ (· + ·) rfl (congrArg (Cert.Grp.S _ F) ?_)
    omega
  · have hd := d.isLt
    refine congrArg₂ (· + ·) rfl (congrArg (Cert.Grp.S _ F) ?_)
    omega

theorem swap4 (v : FVec Ideal S8x512 .f32) (F : ℕ → EReal) (hv : ∀ r d, v (ix2 r d) = Cert.Grp.S 4 F d.val) (r : Fin 8) (d : Fin 512) :
    swap 4#32 508#32 v (ix2 r d) = Cert.Grp.S 8 F d.val := by
  pointwise [swap]
  rw [bit4, sel, ← Cert.Grp.S_two F 4 d.val (by omega)]
  simp only [hv]
  split_ifs with h
  · have hd := d.isLt
    refine congrArg₂ (· + ·) rfl (congrArg (Cert.Grp.S _ F) ?_)
    omega
  · have hd := d.isLt
    refine congrArg₂ (· + ·) rfl (congrArg (Cert.Grp.S _ F) ?_)
    omega

theorem swap8 (v : FVec Ideal S8x512 .f32) (F : ℕ → EReal) (hv : ∀ r d, v (ix2 r d) = Cert.Grp.S 8 F d.val) (r : Fin 8) (d : Fin 512) :
    swap 8#32 504#32 v (ix2 r d) = Cert.Grp.S 16 F d.val := by
  pointwise [swap]
  rw [bit8, sel, ← Cert.Grp.S_two F 8 d.val (by omega)]
  simp only [hv]
  split_ifs with h
  · have hd := d.isLt
    refine congrArg₂ (· + ·) rfl (congrArg (Cert.Grp.S _ F) ?_)
    omega
  · have hd := d.isLt
    refine congrArg₂ (· + ·) rfl (congrArg (Cert.Grp.S _ F) ?_)
    omega

/-- The sublanes summed, on every sublane. -/
def sub8 (a : FVec Ideal S8x512 .f32) : FVec Ideal S8x512 .f32 :=
  broadcastTo S8x512 (shapeCast S1x512 (shapeCast S1x512 (multiReduction .add [0] S512 a 0x00000000#32 reduces_S8x512_S512 (.inl rfl) rfl)
    shapeCasts_S512_S1x512) shapeCasts_S1x512_S1x512) broadcasts_S1x512_S8x512

theorem sub8_at (a : FVec Ideal S8x512 .f32) (r : Fin 8) (d : Fin 512) : sub8 a (ix2 r d) = ∑ r : Fin 8, a (ix2 r d) := by
  pointwise [sub8]

theorem pay17_eq (a : FVec Ideal S8x512 .f32) :
    k0_pay17 (F := Ideal) a = swap 4#32 508#32 (swap 2#32 510#32 (swap 1#32 511#32 (sub8 a))) := rfl

theorem pay24_eq (a : FVec Ideal S8x512 .f32) :
    k0_pay24 (F := Ideal) a = swap 4#32 508#32 (swap 2#32 510#32 (swap 1#32 511#32 (sub8 a))) := rfl

/-- The four exchanges leave the group's sum on each of its lanes. -/
theorem group_at (a : FVec Ideal S8x512 .f32) (X : Fin 4096 → Fin 512 → EReal) (h : ∀ d : Fin 512, ∑ r : Fin 8, a (ix2 r d) = ∑ n, X n d)
    (r : Fin 8) (d : Fin 512) :
    swap 8#32 504#32 (swap 4#32 508#32 (swap 2#32 510#32 (swap 1#32 511#32 (sub8 a)))) (ix2 r d) = Cert.Grp.tot X (Cert.Grp.of d) := by
  let F : ℕ → EReal := fun n => if h : n < 512 then ∑ m, X m ⟨n, h⟩ else 0
  have hF : ∀ d : Fin 512, F d.val = ∑ n, X n d := fun d => dif_pos d.isLt
  refine (swap8 _ F (swap4 _ F (swap2 _ F (swap1 _ F fun r d => ?_))) r d).trans (Cert.Grp.tot_eq X F hF d)
  rw [Cert.Grp.S_one, sub8_at, h, hF]

theorem pay22_eq (a : FVec Ideal S8x512 .f32) (d : Fin 512) :
    k0_pay22 (F := Ideal) (k0_pay17 a) (k0_pay18 a) (k0_pay19 a) k0_pay20 k0_pay21 (ix2 0 d)
      = swap 8#32 504#32 (k0_pay17 a) (ix2 0 d) * Ideal.ofBits .f32 0x37800000#32 := by
  have e : k0_pay22 (F := Ideal) (k0_pay17 a) (k0_pay18 a) (k0_pay19 a) k0_pay20 k0_pay21
      = extractStridedSlice S1x512 ![0, 0] (mulf (swap 8#32 504#32 (k0_pay17 a)) (broadcast S8x512 (Scalar.ofBits .f32 0x37800000#32))) slices_S8x512_o0_0_S1x512 := rfl
  rw [e]
  generalize swap 8#32 504#32 (k0_pay17 a) = v
  pointwise

theorem pay1_eq (a : FVec Ideal S8x512 .f32) (d : Fin 512) :
    k0_pay1 (F := Ideal) (iota .tc S8x512 32 [1] iota_S8x512_d1_w32) (k0_pay24 a) (k0_pay25 a) (k0_pay26 a) 8#32 (ix2 0 d)
      = Ideal.rsqrt (swap 8#32 504#32 (k0_pay24 a) (ix2 0 d) * Ideal.ofBits .f32 0x37800000#32 + Ideal.ofBits .f32 0x358637BD#32) := by
  have e : k0_pay1 (F := Ideal) (iota .tc S8x512 32 [1] iota_S8x512_d1_w32) (k0_pay24 a) (k0_pay25 a) (k0_pay26 a) 8#32
      = extractStridedSlice S1x512 ![0, 0] (rsqrt (addf (mulf (swap 8#32 504#32 (k0_pay24 a)) (broadcast S8x512 (Scalar.ofBits .f32 0x37800000#32)))
        (broadcast S8x512 (Scalar.ofBits .f32 0x358637BD#32)))) slices_S8x512_o0_0_S1x512 := rfl
  rw [e]
  generalize swap 8#32 504#32 (k0_pay24 a) = v
  pointwise

theorem pay16_at (a : FVec Ideal S8x512 .f32) (y : Vec Ideal S1x256x512 .bf16) (s : Fin 8) (d : Fin 512) :
    k0_pay16 (F := Ideal) a y (ix2 s d) = a (ix2 s d) + ∑ q : Fin 32, y (ix3 0 ⟨q.val * 8 + s.val, by omega⟩ d) := by
  pointwise [k0_pay16]

/-- The squares of a block's distances from the mean, summed onto an accumulator. -/
theorem pay23_at (v31 v32 v33 : FVec Ideal S8x512 .f32) (v35 v36 : IVec S8x512 32) (a : FVec Ideal S8x512 .f32) (y : Vec Ideal S1x256x512 .bf16)
    (s : Fin 8) (d : Fin 512) :
    k0_pay23 (F := Ideal) v31 v32 v33 v35 v36 a y (ix2 s d) = a (ix2 s d) + ∑ q : Fin 32,
      (y (ix3 0 ⟨q.val * 8 + s.val, by omega⟩ d) - k0_pay22 (F := Ideal) v31 v32 v33 v35 v36 (ix2 0 d))
        * (y (ix3 0 ⟨q.val * 8 + s.val, by omega⟩ d) - k0_pay22 (F := Ideal) v31 v32 v33 v35 v36 (ix2 0 d)) := by
  unfold k0_pay23
  generalize k0_pay22 (F := Ideal) v31 v32 v33 v35 v36 = u
  pointwise

theorem pay3_at (mu rs : FVec Ideal S1x512 .f32) (y : Vec Ideal S1x256x512 .bf16) (g b : Vec Ideal S1x512 .f32) (i : Fin 256) (d : Fin 512) :
    k0_pay3 (F := Ideal) mu rs y g b (ix2 i d) = (y (ix3 0 i d) - mu (ix2 0 d)) * rs (ix2 0 d) * g (ix2 0 d) + b (ix2 0 d) := by
  pointwise [k0_pay3]

theorem slab_at (x : Vec Ideal S1x4096x512 .bf16) (k : ℕ) (i : Fin 256) (d : Fin 512) :
    slab x k (ix3 0 i d) = x (ix3 0 ⟨(256 * k + i.val) % 4096, by omega⟩ d) := rfl

/-- An image's values. -/
def img (x : Vec Ideal S1x4096x512 .bf16) (n : Fin 4096) (d : Fin 512) : EReal := x (ix3 0 n d)

theorem acc1_at (x : Vec Ideal S1x4096x512 .bf16) (r : Fin 8) (d : Fin 512) (k : ℕ) :
    acc1 (F := Ideal) x k (ix2 r d)
      = ∑ i ∈ Finset.range k, ∑ q : Fin 32, x (ix3 0 ⟨(256 * i + (q.val * 8 + r.val)) % 4096, by omega⟩ d) := by
  induction k with
  | zero => unfold acc1; pointwise [k0_pay15]; simp
  | succ k ih =>
    rw [Finset.sum_range_succ, ← ih]
    exact pay16_at _ _ r d

theorem acc1_sum (x : Vec Ideal S1x4096x512 .bf16) (d : Fin 512) :
    ∑ r : Fin 8, acc1 (F := Ideal) x 16 (ix2 r d) = ∑ n, img x n d := by
  rw [← Cert.Grp.sum_rows]
  refine Finset.sum_congr rfl fun r _ => ?_
  rw [acc1_at, Finset.sum_range]
  refine Finset.sum_congr rfl fun i _ => Finset.sum_congr rfl fun q _ => ?_
  exact congrArg (fun n => x (ix3 0 n d)) (Fin.ext (by simp only []; omega))

theorem mean_at (x : Vec Ideal S1x4096x512 .bf16) (d : Fin 512) :
    mean (F := Ideal) x (ix2 0 d) = Cert.Grp.mu (img x) (Cert.Grp.of d) := by
  unfold mean
  rw [pay22_eq, pay17_eq, group_at _ _ (acc1_sum x)]
  rfl

theorem acc2_at (x : Vec Ideal S1x4096x512 .bf16) (r : Fin 8) (d : Fin 512) (k : ℕ) :
    acc2 (F := Ideal) x k (ix2 r d)
      = ∑ i ∈ Finset.range k, ∑ q : Fin 32,
          (x (ix3 0 ⟨(256 * i + (q.val * 8 + r.val)) % 4096, by omega⟩ d) - mean (F := Ideal) x (ix2 0 d))
            * (x (ix3 0 ⟨(256 * i + (q.val * 8 + r.val)) % 4096, by omega⟩ d) - mean (F := Ideal) x (ix2 0 d)) := by
  induction k with
  | zero => unfold acc2; pointwise [k0_pay15]; simp
  | succ k ih =>
    rw [Finset.sum_range_succ, ← ih]
    exact pay23_at _ _ _ _ _ _ _ r d

theorem acc2_sum (x : Vec Ideal S1x4096x512 .bf16) (d : Fin 512) :
    ∑ r : Fin 8, acc2 (F := Ideal) x 16 (ix2 r d) = ∑ n, Cert.Grp.cen (img x) n d * Cert.Grp.cen (img x) n d := by
  rw [← Cert.Grp.sum_rows]
  refine Finset.sum_congr rfl fun r _ => ?_
  rw [acc2_at, Finset.sum_range, mean_at]
  refine Finset.sum_congr rfl fun i _ => Finset.sum_congr rfl fun q _ => ?_
  exact congrArg (fun n => (x (ix3 0 n d) - Cert.Grp.mu (img x) (Cert.Grp.of d)) * (x (ix3 0 n d) - Cert.Grp.mu (img x) (Cert.Grp.of d)))
    (Fin.ext (by simp only []; omega))

theorem rstd_at (x : Vec Ideal S1x4096x512 .bf16) (d : Fin 512) :
    rstd (F := Ideal) x (ix2 0 d) = Cert.Grp.rs (img x) (Cert.Grp.of d) := by
  unfold rstd
  refine (pay1_eq _ d).trans ?_
  rw [pay24_eq, group_at _ (fun n d => Cert.Grp.cen (img x) n d * Cert.Grp.cen (img x) n d) (acc2_sum x)]
  rfl

/-- The normalised values of block `k`. -/
theorem hN_at (x : Vec Ideal S1x4096x512 .bf16) (g b : Vec Ideal S1x512 .f32) (k : ℕ) (i : Fin 256) (d : Fin 512) :
    hN (F := Ideal) x g b k (ix2 i d)
      = Cert.Grp.nrm (img x) (fun d => g (ix2 0 d)) (fun d => b (ix2 0 d)) ⟨(256 * k + i.val) % 4096, by omega⟩ d := by
  unfold hN
  rw [pay3_at, mean_at, rstd_at, slab_at]
  rfl

/-! ## The quantiser of 256 rows -/

/-- The count of the powers of two at or below the row's scaled magnitude. -/
theorem pay4_at (mu rs : FVec Ideal S1x512 .f32) (y : Vec Ideal S1x256x512 .bf16) (g b : Vec Ideal S1x512 .f32) (i : Fin 256) :
    k0_pay4 (F := Ideal) mu rs y g b (ix2 i 0) = Cert.Blk.count (Cert.Blk.amaxR fun d => k0_pay3 (F := Ideal) mu rs y g b (ix2 i d)) := by
  unfold k0_pay4
  generalize k0_pay3 (F := Ideal) mu rs y g b = o
  pointwise
  rw [Cert.Blk.ofBits_neg_inf]
  rfl

theorem pay5_at (n : IVec S256x1 32) (i : Fin 256) : k0_pay5 n 0#32 (ix2 i 0) = Cert.Blk.expW (n (ix2 i 0)) := by
  pointwise [k0_pay5]
  rfl

theorem pay6_at (o : Fin 512 → EReal) (n : IVec S256x1 32) (i : Fin 256) (hn : n (ix2 i 0) = Cert.Blk.count (Cert.Blk.amaxR o)) :
    k0_pay6 (F := Ideal) n 0#32 (ix2 i 0) = Ideal.exp2 (Cert.Blk.refE (Cert.Blk.amaxR o)) := by
  unfold k0_pay6
  have h := pay5_at n i
  generalize k0_pay5 n 0#32 = e at h
  pointwise
  rw [h, hn]
  exact (Cert.Blk.quant _).1

theorem pay7_at (o : FVec Ideal S256x512 .f32) (n : IVec S256x1 32) (i : Fin 256) (d : Fin 512)
    (hn : n (ix2 i 0) = Cert.Blk.count (Cert.Blk.amaxR fun d => o (ix2 i d))) :
    k0_pay7 (F := Ideal) o n 0#32 (ix2 i d) = Cert.Blk.codesR (fun d => o (ix2 i d)) d := by
  unfold k0_pay7
  have h := pay5_at n i
  generalize k0_pay5 n 0#32 = e at h
  pointwise
  rw [h, hn]
  unfold Cert.Blk.codesR
  rw [← (Cert.Blk.quant _).2]

theorem pay8_at (o : FVec Ideal S256x512 .f32) (n : IVec S256x1 32) (i : Fin 256) (d : Fin 512) :
    k0_pay8 (F := Ideal) o n 0#32 (ix3 0 i d) = k0_pay7 (F := Ideal) o n 0#32 (ix2 i d) := by
  unfold k0_pay8
  generalize k0_pay7 (F := Ideal) o n 0#32 = v
  pointwise

theorem diag (s : Fin 128 → EReal) (l : Fin 128) :
    ∑ x : Fin 128, Scalar.select (IntOp.cmpi .eq (BitVec.ofNat 32 x.val) (BitVec.ofNat 32 l.val)) (s x) (0 : EReal) = s l := by
  simp only [Cert.Blk.eqW]
  have : ∀ x : Fin 128, Scalar.select (BitVec.ofBool (decide (x = l))) (s x) (0 : EReal) = if x = l then s x else 0 := fun x => by
    by_cases h : x = l <;> simp [h, Scalar.select]
  simp only [this]
  exact (Finset.sum_ite_eq' _ _ _).trans (if_pos (Finset.mem_univ _))

/-- The scales as a row. -/
theorem pay12_at (n : IVec S256x1 32) (l : Fin 256) :
    k0_pay12 (F := Ideal) (k0_pay10 n 0#32) (k0_pay11 n 0#32) (ix2 0 l) = k0_pay6 (F := Ideal) n 0#32 (ix2 l 0) := by
  unfold k0_pay10 k0_pay11
  generalize k0_pay6 (F := Ideal) n 0#32 = v
  pointwise [k0_pay12, k0_pay9]
  by_cases h : l.val < 128
  · rw [dif_pos h]
    pointwise
    exact diag (fun x => v (ix2 ⟨x.val, by omega⟩ 0)) ⟨l.val, h⟩
  · rw [dif_neg h]
    pointwise
    refine (diag (fun x => v (ix2 ⟨128 + x.val, by omega⟩ 0)) ⟨l.val - 128, by omega⟩).trans ?_
    exact congrArg (fun a => v (ix2 a 0)) (Fin.ext (by dsimp only; omega))

theorem pay13_at (u : FVec Ideal S256x1 .f32) (v : FVec Ideal S256x512 .fp8e4m3) (w : Vec Ideal S512x512 .fp8e4m3) (s b : Vec Ideal S1x512 .f32)
    (i : Fin 256) (d : Fin 512) :
    k0_pay13 (F := Ideal) u v w s b (ix3 0 i d) = (∑ x : Fin 512, v (ix2 i x) * w (ix2 x d)) * u (ix2 i 0) * s (ix2 0 d) + b (ix2 0 d) := by
  pointwise [k0_pay13]

theorem pay14_at (u : FVec Ideal S256x1 .f32) (v : FVec Ideal S256x512 .fp8e4m3) (w : Vec Ideal S512x512 .fp8e4m3) (s : Vec Ideal S1x512 .f32)
    (i : Fin 256) (d : Fin 512) :
    k0_pay14 (F := Ideal) u v w s (ix3 0 i d) = (∑ x : Fin 512, v (ix2 i x) * w (ix2 x d)) * u (ix2 i 0) * s (ix2 0 d) := by
  pointwise [k0_pay14]

theorem pay2_at (u : FVec Ideal S256x1 .f32) (v : FVec Ideal S256x512 .fp8e4m3) (w : Vec Ideal S512x512 .fp8e4m3) (s b : Vec Ideal S1x512 .f32)
    (i : Fin 256) (d : Fin 512) :
    k0_pay2 (F := Ideal) u v w (constant S256x512 .f32 0x00000000#32) s b (ix3 0 i d)
      = (∑ x : Fin 512, v (ix2 i x) * w (ix2 x d)) * u (ix2 i 0) * s (ix2 0 d) + b (ix2 0 d) := by
  pointwise [k0_pay2]

/-! ## A block's results -/

section Block

variable (x : Vec Ideal S1x4096x512 .bf16) (g b : Vec Ideal S1x512 .f32) (k : ℕ) (i : Fin 256) (d : Fin 512)

/-- A row of the block's normalised values. -/
def hRow : Fin 512 → EReal :=
  Cert.Grp.nrm (img x) (fun d => g (ix2 0 d)) (fun d => b (ix2 0 d)) ⟨(256 * k + i.val) % 4096, by omega⟩

theorem hN_row : (fun d => hN (F := Ideal) x g b k (ix2 i d)) = hRow x g b k i := funext fun d => hN_at x g b k i d

theorem eN_at : eN (F := Ideal) x g b k (ix2 i 0) = Cert.Blk.count (Cert.Blk.amaxR (hRow x g b k i)) := by
  rw [← hN_row]
  exact pay4_at _ _ _ _ _ i

theorem pay7N_at : k0_pay7 (F := Ideal) (hN x g b k) (eN x g b k) 0#32 (ix2 i d) = Cert.Blk.codesR (hRow x g b k i) d := by
  rw [← hN_row]
  exact pay7_at _ _ i d (by rw [hN_row]; exact eN_at x g b k i)

theorem pay6N_at : k0_pay6 (F := Ideal) (eN x g b k) 0#32 (ix2 i 0) = Ideal.exp2 (Cert.Blk.refE (Cert.Blk.amaxR (hRow x g b k i))) :=
  pay6_at _ _ i (eN_at x g b k i)

theorem codesN_at : codesN (F := Ideal) x g b k (ix3 0 i d) = Cert.Blk.codesR (hRow x g b k i) d :=
  (pay8_at _ _ i d).trans (pay7N_at x g b k i d)

theorem scaleN_at : scaleN (F := Ideal) x g b k (ix2 0 i) = Ideal.exp2 (Cert.Blk.refE (Cert.Blk.amaxR (hRow x g b k i))) :=
  (pay12_at _ i).trans (pay6N_at x g b k i)

theorem projQ_at (w : Vec Ideal S512x512 .fp8e4m3) (s c : Vec Ideal S1x512 .f32) : projQ (F := Ideal) x g b w s c k (ix3 0 i d)
    = Cert.Blk.projR (hRow x g b k i) (fun x => w (ix2 x d)) (s (ix2 0 d)) (c (ix2 0 d)) := by
  refine (pay13_at _ _ w s c i d).trans ?_
  simp only [pay6N_at, pay7N_at]
  rfl

theorem projV_at (w : Vec Ideal S512x512 .fp8e4m3) (s c : Vec Ideal S1x512 .f32) : projV (F := Ideal) x g b w s c k (ix3 0 i d)
    = Cert.Blk.projR (hRow x g b k i) (fun x => w (ix2 x d)) (s (ix2 0 d)) (c (ix2 0 d)) := by
  refine (pay2_at _ _ w s c i d).trans ?_
  simp only [pay6N_at, pay7N_at]
  rfl

theorem projK_at (w : Vec Ideal S512x512 .fp8e4m3) (s : Vec Ideal S1x512 .f32) : projK (F := Ideal) x g b w s k (ix3 0 i d)
    = (∑ x' : Fin 512, Cert.Blk.codesR (hRow x g b k i) x' * w (ix2 x' d))
      * Ideal.exp2 (Cert.Blk.refE (Cert.Blk.amaxR (hRow x g b k i))) * s (ix2 0 d) := by
  refine (pay14_at _ _ w s i d).trans ?_
  simp only [pay6N_at, pay7N_at]

end Block

end Cert.QkvIdeal.Gen

end
-- ==== Proof.QkvVal.lean ====
module

public import proofs.«01_k».proof.Proof.QkvLaunch
public import proofs.«01_k».proof.Proof.QkvIdx
public import Idealize.ShloMosaic.Lib.Pointwise

@[expose] public section

set_option maxRecDepth 16384

noncomputable section

/-! The projection call's result arrays over the extended reals, read at an index of the argument arrays. -/

namespace Cert.QkvIdeal.Gen

open Idealize.ShloMosaic Idealize.ShloMosaic.TcCoe Idealize.ShloMosaic.Tactic Idealize.SL.Sem
open scoped BigOperators

section In

variable {F : FTy → Type} [FloatOps F] [Named F]
variable (m : (ℓ : Loc nD τ sig) → Buf (Elt F) ℓ)

theorem index0_0 : ∀ t : Fin cfg0.N, win0_0.index t = ![t.val, 0, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![0, 0] := (by decide +kernel : ∀ t : Fin grid0.N, _)
theorem index0_5 : ∀ t : Fin cfg0.N, win0_5.index t = ![0, 0] := (by decide +kernel : ∀ t : Fin grid0.N, _)
theorem index0_6 : ∀ t : Fin cfg0.N, win0_6.index t = ![0, 0] := (by decide +kernel : ∀ t : Fin grid0.N, _)
theorem index0_7 : ∀ t : Fin cfg0.N, win0_7.index t = ![0, 0] := (by decide +kernel : ∀ t : Fin grid0.N, _)
theorem index0_8 : ∀ t : Fin cfg0.N, win0_8.index t = ![0, 0] := (by decide +kernel : ∀ t : Fin grid0.N, _)
theorem index0_9 : ∀ t : Fin cfg0.N, win0_9.index t = ![0, 0] := (by decide +kernel : ∀ t : Fin grid0.N, _)
theorem index0_10 : ∀ t : Fin cfg0.N, win0_10.index t = ![0, 0] := (by decide +kernel : ∀ t : Fin grid0.N, _)

theorem iblk0 (c : Dev nD) (a : Fin 20) (n : Fin 4096) (d : Fin 512) :
    (iblk m c 0 (ptOf a) : Vec F S1x4096x512 .bf16) (ix3 0 n d)
      = (m ((c : Thread nD τ).loc main_arg0) : Vec F S20x4096x512 .bf16) (ix3 a n d) := by
  have h : (ptOf a).val = a.val := rfl
  generalize ptOf a = t at h
  have e : a = ⟨t.val, by omega⟩ := Fin.ext h.symm
  rw [e]
  blk_point [iblk, V, index0_0 t]

theorem iblk1 (c : Dev nD) (t : Fin cfg0.N) (d : Fin 512) :
    (iblk m c 1 t : Vec F S1x512 .f32) (ix2 0 d) = (m ((c : Thread nD τ).loc main_arg1) : Vec F S512 .f32) (ix1 d) := by
  blk_point [iblk, V, index0_1 t]

theorem iblk2 (c : Dev nD) (t : Fin cfg0.N) (d : Fin 512) :
    (iblk m c 2 t : Vec F S1x512 .f32) (ix2 0 d) = (m ((c : Thread nD τ).loc main_arg2) : Vec F S512 .f32) (ix1 d) := by
  blk_point [iblk, V, index0_2 t]

theorem iblk6 (c : Dev nD) (t : Fin cfg0.N) (d : Fin 512) :
    (iblk m c 6 t : Vec F S1x512 .f32) (ix2 0 d) = (m ((c : Thread nD τ).loc main_arg6) : Vec F S512 .f32) (ix1 d) := by
  blk_point [iblk, V, index0_6 t]

theorem iblk7 (c : Dev nD) (t : Fin cfg0.N) (d : Fin 512) :
    (iblk m c 7 t : Vec F S1x512 .f32) (ix2 0 d) = (m ((c : Thread nD τ).loc main_arg7) : Vec F S512 .f32) (ix1 d) := by
  blk_point [iblk, V, index0_7 t]

theorem iblk8 (c : Dev nD) (t : Fin cfg0.N) (d : Fin 512) :
    (iblk m c 8 t : Vec F S1x512 .f32) (ix2 0 d) = (m ((c : Thread nD τ).loc main_arg8) : Vec F S512 .f32) (ix1 d) := by
  blk_point [iblk, V, index0_8 t]

theorem iblk9 (c : Dev nD) (t : Fin cfg0.N) (d : Fin 512) :
    (iblk m c 9 t : Vec F S1x512 .f32) (ix2 0 d) = (m ((c : Thread nD τ).loc main_arg9) : Vec F S512 .f32) (ix1 d) := by
  blk_point [iblk, V, index0_9 t]

theorem iblk10 (c : Dev nD) (t : Fin cfg0.N) (d : Fin 512) :
    (iblk m c 10 t : Vec F S1x512 .f32) (ix2 0 d) = (m ((c : Thread nD τ).loc main_arg10) : Vec F S512 .f32) (ix1 d) := by
  blk_point [iblk, V, index0_10 t]

theorem iblk3 (c : Dev nD) (t : Fin cfg0.N) (i d : Fin 512) :
    (iblk m c 3 t : Vec F S512x512 .fp8e4m3) (ix2 i d) = (m ((c : Thread nD τ).loc main_arg3) : Vec F S512x512 .fp8e4m3) (ix2 i d) := by
  blk_point [iblk, V, index0_3 t]

theorem iblk4 (c : Dev nD) (t : Fin cfg0.N) (i d : Fin 512) :
    (iblk m c 4 t : Vec F S512x512 .fp8e4m3) (ix2 i d) = (m ((c : Thread nD τ).loc main_arg4) : Vec F S512x512 .fp8e4m3) (ix2 i d) := by
  blk_point [iblk, V, index0_4 t]

theorem iblk5 (c : Dev nD) (t : Fin cfg0.N) (i d : Fin 512) :
    (iblk m c 5 t : Vec F S512x512 .fp8e4m3) (ix2 i d) = (m ((c : Thread nD τ).loc main_arg5) : Vec F S512x512 .fp8e4m3) (ix2 i d) := by
  blk_point [iblk, V, index0_5 t]

end In

section Values

variable (m : (ℓ : Loc nD τ sig) → Buf (Elt Ideal) ℓ)

/-- The normalised values of a row of the argument. -/
abbrev rowA (c : Dev nD) (a : Fin 20) (r : Fin 4096) : Fin 512 → EReal :=
  Cert.Grp.row (m ((c : Thread nD τ).loc main_arg0)) (m ((c : Thread nD τ).loc main_arg1)) (m ((c : Thread nD τ).loc main_arg2)) a r

theorem hRow_eq (c : Dev nD) (a : Fin 20) (r : Fin 4096) :
    hRow (iblk m c 0 (ptOf a)) (iblk m c 1 (ptOf a)) (iblk m c 2 (ptOf a)) (r.val / 256) ⟨r.val % 256, by omega⟩ = rowA m c a r := by
  unfold hRow rowA Cert.Grp.row img
  have e : (⟨(256 * (r.val / 256) + r.val % 256) % 4096, by omega⟩ : Fin 4096) = r := Fin.ext (by dsimp only; omega)
  simp only [e, iblk0, iblk1, iblk2]

theorem arr11_at (c : Dev nD) (a : Fin 20) (r : Fin 4096) (d : Fin 512) :
    (arr11 m c : Vec Ideal S20x4096x512 .fp8e4m3) (ix3 a r d) = Cert.Blk.codesR (rowA m c a r) d := by
  refine (codesN_at (iblk m c 0 (ptOf a)) (iblk m c 1 (ptOf a)) (iblk m c 2 (ptOf a)) (r.val / 256) ⟨r.val % 256, by omega⟩ d).trans ?_
  rw [hRow_eq]

theorem arr12_at (c : Dev nD) (a : Fin 20) (r : Fin 4096) :
    (arr12 m c : Vec Ideal S20x4096 .f32) (ix2 a r) = Ideal.exp2 (Cert.Blk.refE (Cert.Blk.amaxR (rowA m c a r))) := by
  refine (scaleN_at (iblk m c 0 (ptOf a)) (iblk m c 1 (ptOf a)) (iblk m c 2 (ptOf a)) (r.val / 256) ⟨r.val % 256, by omega⟩).trans ?_
  rw [hRow_eq]

theorem arr13_at (c : Dev nD) (a : Fin 20) (r : Fin 4096) (d : Fin 512) :
    (arr13 m c : Vec Ideal S20x4096x512 .bf16) (ix3 a r d) = Cert.Blk.projR (rowA m c a r)
      (fun x => (m ((c : Thread nD τ).loc main_arg3) : Vec Ideal S512x512 .fp8e4m3) (ix2 x d))
      ((m ((c : Thread nD τ).loc main_arg6) : Vec Ideal S512 .f32) (ix1 d)) ((m ((c : Thread nD τ).loc main_arg9) : Vec Ideal S512 .f32) (ix1 d)) := by
  refine (projQ_at (iblk m c 0 (ptOf a)) (iblk m c 1 (ptOf a)) (iblk m c 2 (ptOf a)) (r.val / 256) ⟨r.val % 256, by omega⟩ d
    (iblk m c 3 (ptOf a)) (iblk m c 6 (ptOf a)) (iblk m c 9 (ptOf a))).trans ?_
  rw [hRow_eq, iblk6, iblk9]
  simp only [iblk3]

theorem arr14_at (c : Dev nD) (a : Fin 20) (r : Fin 4096) (d : Fin 512) :
    (arr14 m c : Vec Ideal S20x4096x512 .bf16) (ix3 a r d)
      = (∑ x : Fin 512, Cert.Blk.codesR (rowA m c a r) x * (m ((c : Thread nD τ).loc main_arg4) : Vec Ideal S512x512 .fp8e4m3) (ix2 x d))
        * Ideal.exp2 (Cert.Blk.refE (Cert.Blk.amaxR (rowA m c a r))) * (m ((c : Thread nD τ).loc main_arg7) : Vec Ideal S512 .f32) (ix1 d) := by
  refine (projK_at (iblk m c 0 (ptOf a)) (iblk m c 1 (ptOf a)) (iblk m c 2 (ptOf a)) (r.val / 256) ⟨r.val % 256, by omega⟩ d
    (iblk m c 4 (ptOf a)) (iblk m c 7 (ptOf a))).trans ?_
  rw [hRow_eq, iblk7]
  simp only [iblk4]

theorem arr15_at (c : Dev nD) (a : Fin 20) (r : Fin 4096) (d : Fin 512) :
    (arr15 m c : Vec Ideal S20x4096x512 .bf16) (ix3 a r d) = Cert.Blk.projR (rowA m c a r)
      (fun x => (m ((c : Thread nD τ).loc main_arg5) : Vec Ideal S512x512 .fp8e4m3) (ix2 x d))
      ((m ((c : Thread nD τ).loc main_arg8) : Vec Ideal S512 .f32) (ix1 d)) ((m ((c : Thread nD τ).loc main_arg10) : Vec Ideal S512 .f32) (ix1 d)) := by
  refine (projV_at (iblk m c 0 (ptOf a)) (iblk m c 1 (ptOf a)) (iblk m c 2 (ptOf a)) (r.val / 256) ⟨r.val % 256, by omega⟩ d
    (iblk m c 5 (ptOf a)) (iblk m c 8 (ptOf a)) (iblk m c 10 (ptOf a))).trans ?_
  rw [hRow_eq, iblk8, iblk10]
  simp only [iblk5]

end Values

end Cert.QkvIdeal.Gen

end
-- ==== Proof.RefQkvIdx.lean ====
module

public import proofs.«01_k».proof.Proof.Gen.RefQkvIdeal.Value
public import proofs.«01_k».proof.Proof.Grp
public import Idealize.ShloMosaic.Lib.Pointwise
public import Idealize.ShloMosaic.Lib.StableHlo.ReadAt
public import Idealize.ShloMosaic.Lib.Pipeline.ValueKit.Point

@[expose] public section

set_option maxRecDepth 16384

noncomputable section

/-! The reference's group normalisation over the extended reals, read at an index. -/

namespace Cert.RefQkvIdeal.Gen

open Idealize.ShloMosaic Cert.RefQkvIdeal
open Idealize.ShloMosaic.TcCoe Idealize.ShloMosaic.Tactic Idealize.SL.Sem
open scoped BigOperators

/-- The mean over the positions and the 16 channels of each group. -/
def meanH (x : FVec Ideal S20x4096x32x16 .f32) : FVec Ideal S20x1x32x1 .f32 :=
  Host.divf (broadcastInDim S20x1x32x1 ![0, 2] bcast_S20x32_S20x1x32x1_0_2
      (Host.reduceAdd x (constant S_ .f32 0x00000000#32) reducesTo_S20x4096x32x16_S20x32_d1_3 h_S_))
    (broadcastInDim S20x1x32x1 ![] bcast_S_S20x1x32x1 (constant S_ .f32 0x47800000#32))

/-- The values less their group's mean. -/
def cenH (x : FVec Ideal S20x4096x32x16 .f32) : FVec Ideal S20x4096x32x16 .f32 :=
  subf x (broadcastInDim S20x4096x32x16 ![0, 1, 2, 3] bcast_S20x1x32x1_S20x4096x32x16_0_1_2_3 (meanH x))

/-- One over the root of the variance of centred values. -/
def rsH (y : FVec Ideal S20x4096x32x16 .f32) : FVec Ideal S20x1x32x1 .f32 :=
  Host.rsqrt (addf (meanH (mulf y y)) (broadcastInDim S20x1x32x1 ![] bcast_S_S20x1x32x1 (constant S_ .f32 0x358637BD#32)))

/-- The array in groups of 16 channels. -/
def grpH (X : FVec Ideal S20x4096x512 .bf16) : FVec Ideal S20x4096x32x16 .f32 :=
  shapeCast S20x4096x32x16 (extf .f32 X bitsLt_bf16_f32) shapeCasts_S20x4096x512_S20x4096x32x16

/-- The normalised array. -/
def nrmH (y : FVec Ideal S20x4096x32x16 .f32) (g b : FVec Ideal S512 .f32) : FVec Ideal S20x4096x512 .f32 :=
  addf (mulf (shapeCast S20x4096x512 (mulf y (broadcastInDim S20x4096x32x16 ![0, 1, 2, 3] bcast_S20x1x32x1_S20x4096x32x16_0_1_2_3 (rsH y)))
      shapeCasts_S20x4096x32x16_S20x4096x512)
    (broadcastInDim S20x4096x512 ![0, 1, 2] bcast_S1x1x512_S20x4096x512_0_1_2 (broadcastInDim S1x1x512 ![2] bcast_S512_S1x1x512_2 g)))
    (broadcastInDim S20x4096x512 ![0, 1, 2] bcast_S1x1x512_S20x4096x512_0_1_2 (broadcastInDim S1x1x512 ![2] bcast_S512_S1x1x512_2 b))

/-- The source indices that drop to a group are its positions and channels. -/
theorem fiber (h : S20x4096x32x16.ReducesTo [1, 3] S20x32) (b : Fin 20) (g : Fin 32) (i : S20x4096x32x16.Idx) :
    h.drop i = ix2 b g ↔ ∃ k : Fin 4096 × Fin 16, ix4 b k.1 g k.2 = i := by
  constructor
  · intro e
    refine ⟨(i 1, i 3), ?_⟩
    funext a; apply Fin.ext
    match a with
    | ⟨0, _⟩ => exact (congrArg Fin.val (congrFun e 0)).symm
    | ⟨1, _⟩ => rfl
    | ⟨2, _⟩ => exact (congrArg Fin.val (congrFun e 1)).symm
    | ⟨3, _⟩ => rfl
  · rintro ⟨k, rfl⟩
    funext a
    apply Fin.ext
    match a with
    | ⟨0, _⟩ => rfl
    | ⟨1, _⟩ => rfl

theorem red_at (h : S20x4096x32x16.ReducesTo [1, 3] S20x32) (x : FVec Ideal S20x4096x32x16 .f32) (b : Fin 20) (g : Fin 32) :
    Ideal.hostReduceAdd h x 0 (ix2 b g) = ∑ n : Fin 4096, ∑ j : Fin 16, x (ix4 b n g j) := by
  refine (zero_add _).trans ?_
  refine (Finset.sum_filter_eq_sum_of_fiber _ (fun k : Fin 4096 × Fin 16 => ix4 b k.1 g k.2)
    (fun _ _ e => Prod.ext (congrFun e 1) (congrFun e 3)) (fiber h b g) x).trans ?_
  exact Fintype.sum_prod_type _

theorem meanH_at (x : FVec Ideal S20x4096x32x16 .f32) (b : Fin 20) (g : Fin 32) :
    meanH x (ix4 b 0 g 0) = Ideal.div (∑ n : Fin 4096, ∑ j : Fin 16, x (ix4 b n g j)) (Ideal.ofBits .f32 0x47800000#32) := by
  pointwise [meanH]
  rw [red_at]

theorem cenH_at (x : FVec Ideal S20x4096x32x16 .f32) (b : Fin 20) (n : Fin 4096) (g : Fin 32) (j : Fin 16) :
    cenH x (ix4 b n g j) = x (ix4 b n g j) - meanH x (ix4 b 0 g 0) := by
  pointwise [cenH]

theorem rsH_at (y : FVec Ideal S20x4096x32x16 .f32) (b : Fin 20) (g : Fin 32) :
    rsH y (ix4 b 0 g 0) = Ideal.rsqrt (meanH (mulf y y) (ix4 b 0 g 0) + Ideal.ofBits .f32 0x358637BD#32) := by
  pointwise [rsH]

theorem grpH_at (X : FVec Ideal S20x4096x512 .bf16) (b : Fin 20) (n : Fin 4096) (g : Fin 32) (j : Fin 16) :
    grpH X (ix4 b n g j) = X (ix3 b n ⟨g.val * 16 + j.val, by omega⟩) := by
  pointwise [grpH]

theorem nrmH_at (y : FVec Ideal S20x4096x32x16 .f32) (g b : FVec Ideal S512 .f32) (a : Fin 20) (n : Fin 4096) (d : Fin 512) :
    nrmH y g b (ix3 a n d) = y (ix4 a n ⟨d.val / 16, by omega⟩ ⟨d.val % 16, by omega⟩) * rsH y (ix4 a 0 ⟨d.val / 16, by omega⟩ 0)
      * g (ix1 d) + b (ix1 d) := by
  pointwise [nrmH]

variable (m : (ℓ : Loc nD τ sig) → Buf (Elt Ideal) ℓ)

theorem V24 (c : Dev nD) : (V m c main_v24 : FVec Ideal S20x4096x512 .f32)
    = nrmH (cenH (grpH (m ((c : Thread nD τ).loc main_arg0)))) (m ((c : Thread nD τ).loc main_arg1)) (m ((c : Thread nD τ).loc main_arg2)) := by
  unfold V
  after_results_simp
  rfl

theorem mean_at (X : FVec Ideal S20x4096x512 .bf16) (b : Fin 20) (g : Fin 32) :
    meanH (grpH X) (ix4 b 0 g 0) = Cert.Grp.mu (fun n d => X (ix3 b n d)) g := by
  rw [meanH_at]
  simp only [grpH_at]
  rw [Cert.Grp.div_size]
  rfl

theorem of_grp (g : Fin 32) (j : Fin 16) : Cert.Grp.of ⟨g.val * 16 + j.val, by omega⟩ = g :=
  Fin.ext (show (g.val * 16 + j.val) / 16 = g.val by omega)

theorem cen_at (X : FVec Ideal S20x4096x512 .bf16) (b : Fin 20) (n : Fin 4096) (g : Fin 32) (j : Fin 16) :
    cenH (grpH X) (ix4 b n g j) = Cert.Grp.cen (fun n d => X (ix3 b n d)) n ⟨g.val * 16 + j.val, by omega⟩ := by
  rw [cenH_at, grpH_at, mean_at]
  unfold Cert.Grp.cen
  rw [of_grp]

theorem rs_at (X : FVec Ideal S20x4096x512 .bf16) (b : Fin 20) (g : Fin 32) :
    rsH (cenH (grpH X)) (ix4 b 0 g 0) = Cert.Grp.rs (fun n d => X (ix3 b n d)) g := by
  rw [rsH_at, meanH_at, Cert.Grp.div_size]
  unfold Cert.Grp.rs Cert.Grp.mu Cert.Grp.tot
  refine congrArg (fun z => Ideal.rsqrt (z * Ideal.ofBits .f32 0x37800000#32 + Ideal.ofBits .f32 0x358637BD#32)) ?_
  refine Finset.sum_congr rfl fun n _ => Finset.sum_congr rfl fun j _ => ?_
  show cenH (grpH X) (ix4 b n g j) * cenH (grpH X) (ix4 b n g j) = _
  rw [cen_at]

theorem nrm_at (X : FVec Ideal S20x4096x512 .bf16) (g b : FVec Ideal S512 .f32) (a : Fin 20) (n : Fin 4096) (d : Fin 512) :
    nrmH (cenH (grpH X)) g b (ix3 a n d) = Cert.Grp.row X g b a n d := by
  rw [nrmH_at, cen_at, rs_at]
  have e : (⟨d.val / 16 * 16 + d.val % 16, by omega⟩ : Fin 512) = d := Fin.ext (by simp only []; omega)
  simp only [e]
  rfl

/-- The reference's normalised array, read at an index of the argument arrays. -/
theorem V24_at (c : Dev nD) (a : Fin 20) (n : Fin 4096) (d : Fin 512) :
    (V m c main_v24 : FVec Ideal S20x4096x512 .f32) (ix3 a n d)
      = Cert.Grp.row (m ((c : Thread nD τ).loc main_arg0)) (m ((c : Thread nD τ).loc main_arg1)) (m ((c : Thread nD τ).loc main_arg2)) a n d :=
  (congrFun (V24 m c) (ix3 a n d)).trans (nrm_at _ _ _ a n d)

end Cert.RefQkvIdeal.Gen

end
-- ==== Proof.RefQkvPay.lean ====
module

public import proofs.«01_k».proof.Proof.Gen.RefQkvIdeal.Value
public import proofs.«01_k».proof.Proof.AttnIdx
public import Idealize.ShloMosaic.Lib.Pointwise

@[expose] public section

set_option maxRecDepth 16384

noncomputable section

/-! The projection reference's payloads over the extended reals, read at an index. -/

namespace Cert.RefQkvIdeal.Gen

open Idealize.ShloMosaic
open scoped BigOperators

/-- The scaled row maximum of the magnitudes. -/
def amaxT (o : FVec Ideal S20x4096x512 .f32) : FVec Ideal S20x4096x1 .f32 :=
  mulf (shapeCast S20x4096x1 (multiReduction .maximumf [2] S20x4096 (absf o) 0xFF800000#32 reduces_S20x4096x512_S20x4096 (.inl rfl) rfl)
    shapeCasts_S20x4096_S20x4096x1) (broadcast S20x4096x1 (Scalar.ofBits .f32 0x3B124925#32))

/-- The exponents of scaled maxima. -/
def expT (a : FVec Ideal S20x4096x1 .f32) : FVec Ideal S20x4096x1 .f32 :=
  select (ori (cmpf .olt a (broadcast S20x4096x1 (Scalar.ofBits .f32 0x00800000#32)))
      (cmpf .oeq a (broadcast S20x4096x1 (Scalar.ofBits .f32 0x7F800000#32))))
    (broadcast S20x4096x1 (Scalar.ofBits .f32 0x00000000#32))
    (minimumf (addf (floor (divf (log a) (broadcast S20x4096x1 (Named.named κ "ln2" 0x3F317218#32))))
      (broadcast S20x4096x1 (Scalar.ofBits .f32 0x3F800000#32))) (broadcast S20x4096x1 (Scalar.ofBits .f32 0x42FC0000#32)))

theorem pay2_at (o : FVec Ideal S20x4096x512 .f32) (b : Fin 20) (i : Fin 4096) (d : Fin 512) :
    k0_pay2 (F := Ideal) o (ix3 b i d) = o (ix3 b i d) := by
  pointwise [k0_pay2]

theorem pay2_eq (o : FVec Ideal S20x4096x512 .f32) : k0_pay2 (F := Ideal) o = o := by
  funext j
  obtain ⟨b, r, d, rfl⟩ : ∃ b r d, j = ix3 b r d := ⟨j 0, j 1, j 2, eq_ix3 j⟩
  exact pay2_at o b r d

theorem pay3_eq (o : FVec Ideal S20x4096x512 .f32) : k0_pay3 (F := Ideal) o = expT (amaxT o) := by
  refine Eq.trans (b := expT (amaxT (k0_pay2 (F := Ideal) o))) rfl ?_
  rw [pay2_eq]

theorem maxc_at (s : FVec Ideal S20x4096x512 .f32) (b : Fin 20) (i : Fin 4096) :
    multiReduction .maximumf [2] S20x4096 s 0xFF800000#32 reduces_S20x4096x512_S20x4096 (.inl rfl) rfl (ix2 b i)
      = (Finset.univ : Finset (Fin 512)).fold max ⊥ fun l => s (ix3 b i l) := by
  refine Eq.trans ?_ (congrArg (fun z => (Finset.univ : Finset (Fin 512)).fold max z fun l => s (ix3 b i l)) Cert.Blk.ofBits_neg_inf)
  pointwise

theorem col_mul_at (u : FVec Ideal S20x4096 .f32) (z : EReal) (b : Fin 20) (i : Fin 4096) :
    (mulf (shapeCast S20x4096x1 u shapeCasts_S20x4096_S20x4096x1) (broadcast S20x4096x1 z) : FVec Ideal S20x4096x1 .f32) (ix3 b i 0)
      = u (ix2 b i) * z := by
  pointwise

theorem amaxT_at (o : FVec Ideal S20x4096x512 .f32) (b : Fin 20) (i : Fin 4096) :
    amaxT o (ix3 b i 0) = Cert.Blk.amaxR fun d => o (ix3 b i d) :=
  (col_mul_at _ _ b i).trans (congrArg (· * Ideal.ofBits .f32 0x3B124925#32) (maxc_at (absf o) b i))

theorem expT_at (a : FVec Ideal S20x4096x1 .f32) (b : Fin 20) (i : Fin 4096) :
    expT a (ix3 b i 0) = Cert.Blk.refE (a (ix3 b i 0)) := by
  pointwise [expT]
  unfold Cert.Blk.refE
  rw [Cert.Blk.ofBits_one]
  rfl

theorem pay3_at (o : FVec Ideal S20x4096x512 .f32) (b : Fin 20) (i : Fin 4096) :
    k0_pay3 (F := Ideal) o (ix3 b i 0) = Cert.Blk.refE (Cert.Blk.amaxR fun d => o (ix3 b i d)) := by
  rw [pay3_eq, expT_at, amaxT_at]

/-- The codes of values under exponents. -/
def codesT (o : FVec Ideal S20x4096x512 .f32) (e : FVec Ideal S20x4096x1 .f32) : FVec Ideal S20x4096x512 .fp8e4m3 :=
  truncf .fp8e4m3 (minimumf (broadcast S20x4096x512 (Scalar.ofBits .f32 0x43E00000#32))
    (maximumf (broadcast S20x4096x512 (Scalar.ofBits .f32 0xC3E00000#32))
      (mulf o (broadcastTo S20x4096x512 (exp2 (subf (broadcast S20x4096x1 (Scalar.ofBits .f32 0x00000000#32)) e))
        broadcasts_S20x4096x1_S20x4096x512)))) bitsLt_fp8e4m3_f32

theorem codesT_at (o : FVec Ideal S20x4096x512 .f32) (e : FVec Ideal S20x4096x1 .f32) (b : Fin 20) (i : Fin 4096) (d : Fin 512) :
    codesT o e (ix3 b i d) = min (Ideal.ofBits .f32 0x43E00000#32) (max (Ideal.ofBits .f32 0xC3E00000#32)
      (o (ix3 b i d) * Ideal.exp2 (0 - e (ix3 b i 0)))) := by
  pointwise [codesT]
  rfl

theorem pay4_eq (o : FVec Ideal S20x4096x512 .f32) : k0_pay4 (F := Ideal) o = codesT o (k0_pay3 (F := Ideal) o) := by
  refine Eq.trans (b := codesT (k0_pay2 (F := Ideal) o) (k0_pay3 (F := Ideal) o)) rfl ?_
  rw [pay2_eq]

theorem pay4_at (o : FVec Ideal S20x4096x512 .f32) (b : Fin 20) (i : Fin 4096) (d : Fin 512) :
    k0_pay4 (F := Ideal) o (ix3 b i d) = Cert.Blk.codesR (fun d => o (ix3 b i d)) d := by
  rw [pay4_eq, codesT_at, pay3_at]
  unfold Cert.Blk.codesR
  with_reducible rfl

theorem exp2_at (e : FVec Ideal S20x4096x1 .f32) (b : Fin 20) (i : Fin 4096) :
    exp2 e (ix3 b i 0) = Ideal.exp2 (e (ix3 b i 0)) := by
  pointwise
  rfl

theorem pay5_eq (o : FVec Ideal S20x4096x512 .f32) : k0_pay5 (F := Ideal) o = exp2 (k0_pay3 (F := Ideal) o) := rfl

theorem pay5_at (o : FVec Ideal S20x4096x512 .f32) (b : Fin 20) (i : Fin 4096) :
    k0_pay5 (F := Ideal) o (ix3 b i 0) = Ideal.exp2 (Cert.Blk.refE (Cert.Blk.amaxR fun d => o (ix3 b i d))) := by
  rw [pay5_eq, exp2_at, pay3_at]

theorem col_at (e : FVec Ideal S20x4096x1 .f32) (b : Fin 20) (i : Fin 4096) :
    (shapeCast S20x4096 e shapeCasts_S20x4096x1_S20x4096 : FVec Ideal S20x4096 .f32) (ix2 b i) = e (ix3 b i 0) := by
  pointwise

theorem pay6_eq (o : FVec Ideal S20x4096x512 .f32) :
    k0_pay6 (F := Ideal) o = shapeCast S20x4096 (k0_pay5 (F := Ideal) o) shapeCasts_S20x4096x1_S20x4096 := rfl

theorem pay6_at (o : FVec Ideal S20x4096x512 .f32) (b : Fin 20) (i : Fin 4096) :
    k0_pay6 (F := Ideal) o (ix2 b i) = Ideal.exp2 (Cert.Blk.refE (Cert.Blk.amaxR fun d => o (ix3 b i d))) := by
  rw [pay6_eq, col_at, pay5_at]

theorem pay7_at (q : FVec Ideal S20x4096x512 .fp8e4m3) (s : FVec Ideal S20x4096x1 .f32)
    (w : FVec Ideal S512x512 .fp8e4m3) (sc bi : FVec Ideal S512 .f32) (b : Fin 20) (i : Fin 4096) (d : Fin 512) :
    k0_pay7 (F := Ideal) q s w sc bi (ix3 b i d)
      = (∑ x : Fin 512, q (ix3 b i x) * w (ix2 x d)) * s (ix3 b i 0) * sc (ix1 d) + bi (ix1 d) := by
  pointwise [k0_pay7]

theorem pay8_at (q : FVec Ideal S20x4096x512 .fp8e4m3) (s : FVec Ideal S20x4096x1 .f32)
    (w : FVec Ideal S512x512 .fp8e4m3) (sc : FVec Ideal S512 .f32) (b : Fin 20) (i : Fin 4096) (d : Fin 512) :
    k0_pay8 (F := Ideal) q s w sc (ix3 b i d)
      = (∑ x : Fin 512, q (ix3 b i x) * w (ix2 x d)) * s (ix3 b i 0) * sc (ix1 d) := by
  pointwise [k0_pay8]

theorem pay9_at (q : FVec Ideal S20x4096x512 .fp8e4m3) (s : FVec Ideal S20x4096x1 .f32)
    (w : FVec Ideal S512x512 .fp8e4m3) (sc : FVec Ideal S512 .f32) (b : Fin 20) (i : Fin 4096) (d : Fin 512) :
    k0_pay9 (F := Ideal) q s w sc (ix3 b i d)
      = (∑ x : Fin 512, q (ix3 b i x) * w (ix2 x d)) * s (ix3 b i 0) * sc (ix1 d) := by
  pointwise [k0_pay9]

theorem pay1_at (u v : FVec Ideal S20x4096x512 .f32) (b : Fin 20) (i : Fin 4096) (d : Fin 512) :
    k0_pay1 (F := Ideal) u v (ix3 b i d) = u (ix3 b i d) + v (ix3 b i d) := by
  pointwise [k0_pay1]

theorem pay10_at (v : FVec Ideal S512 .f32) (b : Fin 20) (i : Fin 4096) (d : Fin 512) :
    k0_pay10 (F := Ideal) v (ix3 b i d) = v (ix1 d) := by
  pointwise [k0_pay10]

end Cert.RefQkvIdeal.Gen

end
-- ==== Proof.RefQkvRun.lean ====
module

public import proofs.«01_k».proof.Proof.Gen.RefQkvIdeal.Value

@[expose] public section

set_option maxRecDepth 16384

noncomputable section

/-! The projection reference's result arrays. -/

namespace Cert.RefQkvIdeal.Gen

open Idealize.ShloMosaic Cert.RefQkvIdeal
open Idealize.ShloMosaic.TcCoe Idealize.SL.Sem

variable {F : FTy → Type} [FloatOps F] [Named F]
variable (m : (ℓ : Loc nD τ sig) → Buf (Elt F) ℓ)

theorem z1 : (![0] : Fin 1 → Nat) = fun _ => 0 := funext fun a => by fin_cases a <;> rfl
theorem z2 : (![0, 0] : Fin 2 → Nat) = fun _ => 0 := funext fun a => by fin_cases a <;> rfl
theorem z3 : (![0, 0, 0] : Fin 3 → Nat) = fun _ => 0 := funext fun a => by fin_cases a <;> rfl

theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

theorem emb0 (t : Fin cfg0.N) (j : S20x4096x512.Idx) : ((cfg0.win 0).blk t).view.emb j = j := by
  obtain ⟨e0, e1, e2⟩ := idx_zero0 t
  funext a; apply Fin.ext
  match a with
  | ⟨0, _⟩ => show win0_0.index t (0 : Fin 3) * 20 + 1 * (j 0).val = (j 0).val; omega
  | ⟨1, _⟩ => show win0_0.index t (1 : Fin 3) * 4096 + 1 * (j 1).val = (j 1).val; omega
  | ⟨2, _⟩ => show win0_0.index t (2 : Fin 3) * 512 + 1 * (j 2).val = (j 2).val; omega

theorem iblk0_eq (c : Dev nD) (t : Fin cfg0.N) : iblk m c 0 t = V m c main_v24 := by
  funext j; show V m c main_v24 (((cfg0.win 0).blk t).view.emb j) = V m c main_v24 j; rw [emb0]

theorem idx_zero1 : ∀ t : Fin cfg0.N, win0_1.index t (0 : Fin 2) = 0 ∧ win0_1.index t (1 : Fin 2) = 0 :=
  (by decide +kernel : ∀ t : Fin grid0.N, _)

theorem emb1 (t : Fin cfg0.N) (j : S512x512.Idx) : ((cfg0.win 1).blk t).view.emb j = j := by
  obtain ⟨e0, e1⟩ := idx_zero1 t
  funext a; apply Fin.ext
  match a with
  | ⟨0, _⟩ => show win0_1.index t (0 : Fin 2) * 512 + 1 * (j 0).val = (j 0).val; omega
  | ⟨1, _⟩ => show win0_1.index t (1 : Fin 2) * 512 + 1 * (j 1).val = (j 1).val; omega

theorem iblk1_eq (c : Dev nD) (t : Fin cfg0.N) : iblk m c 1 t = V m c main_arg3 := by
  funext j; show V m c main_arg3 (((cfg0.win 1).blk t).view.emb j) = V m c main_arg3 j; rw [emb1]

theorem idx_zero2 : ∀ t : Fin cfg0.N, win0_2.index t (0 : Fin 2) = 0 ∧ win0_2.index t (1 : Fin 2) = 0 :=
  (by decide +kernel : ∀ t : Fin grid0.N, _)

theorem emb2 (t : Fin cfg0.N) (j : S512x512.Idx) : ((cfg0.win 2).blk t).view.emb j = j := by
  obtain ⟨e0, e1⟩ := idx_zero2 t
  funext a; apply Fin.ext
  match a with
  | ⟨0, _⟩ => show win0_2.index t (0 : Fin 2) * 512 + 1 * (j 0).val = (j 0).val; omega
  | ⟨1, _⟩ => show win0_2.index t (1 : Fin 2) * 512 + 1 * (j 1).val = (j 1).val; omega

theorem iblk2_eq (c : Dev nD) (t : Fin cfg0.N) : iblk m c 2 t = V m c main_arg4 := by
  funext j; show V m c main_arg4 (((cfg0.win 2).blk t).view.emb j) = V m c main_arg4 j; rw [emb2]

theorem idx_zero3 : ∀ t : Fin cfg0.N, win0_3.index t (0 : Fin 2) = 0 ∧ win0_3.index t (1 : Fin 2) = 0 :=
  (by decide +kernel : ∀ t : Fin grid0.N, _)

theorem emb3 (t : Fin cfg0.N) (j : S512x512.Idx) : ((cfg0.win 3).blk t).view.emb j = j := by
  obtain ⟨e0, e1⟩ := idx_zero3 t
  funext a; apply Fin.ext
  match a with
  | ⟨0, _⟩ => show win0_3.index t (0 : Fin 2) * 512 + 1 * (j 0).val = (j 0).val; omega
  | ⟨1, _⟩ => show win0_3.index t (1 : Fin 2) * 512 + 1 * (j 1).val = (j 1).val; omega

theorem iblk3_eq (c : Dev nD) (t : Fin cfg0.N) : iblk m c 3 t = V m c main_arg5 := by
  funext j; show V m c main_arg5 (((cfg0.win 3).blk t).view.emb j) = V m c main_arg5 j; rw [emb3]

theorem idx_zero4 : ∀ t : Fin cfg0.N, win0_4.index t (0 : Fin 1) = 0 :=
  (by decide +kernel : ∀ t : Fin grid0.N, _)

theorem emb4 (t : Fin cfg0.N) (j : S512.Idx) : ((cfg0.win 4).blk t).view.emb j = j := by
  have e0 := idx_zero4 t
  funext a; apply Fin.ext
  match a with
  | ⟨0, _⟩ => show win0_4.index t (0 : Fin 1) * 512 + 1 * (j 0).val = (j 0).val; omega

theorem iblk4_eq (c : Dev nD) (t : Fin cfg0.N) : iblk m c 4 t = V m c main_arg6 := by
  funext j; show V m c main_arg6 (((cfg0.win 4).blk t).view.emb j) = V m c main_arg6 j; rw [emb4]

theorem idx_zero5 : ∀ t : Fin cfg0.N, win0_5.index t (0 : Fin 1) = 0 :=
  (by decide +kernel : ∀ t : Fin grid0.N, _)

theorem emb5 (t : Fin cfg0.N) (j : S512.Idx) : ((cfg0.win 5).blk t).view.emb j = j := by
  have e0 := idx_zero5 t
  funext a; apply Fin.ext
  match a with
  | ⟨0, _⟩ => show win0_5.index t (0 : Fin 1) * 512 + 1 * (j 0).val = (j 0).val; omega

theorem iblk5_eq (c : Dev nD) (t : Fin cfg0.N) : iblk m c 5 t = V m c main_arg7 := by
  funext j; show V m c main_arg7 (((cfg0.win 5).blk t).view.emb j) = V m c main_arg7 j; rw [emb5]

theorem idx_zero6 : ∀ t : Fin cfg0.N, win0_6.index t (0 : Fin 1) = 0 :=
  (by decide +kernel : ∀ t : Fin grid0.N, _)

theorem emb6 (t : Fin cfg0.N) (j : S512.Idx) : ((cfg0.win 6).blk t).view.emb j = j := by
  have e0 := idx_zero6 t
  funext a; apply Fin.ext
  match a with
  | ⟨0, _⟩ => show win0_6.index t (0 : Fin 1) * 512 + 1 * (j 0).val = (j 0).val; omega

theorem iblk6_eq (c : Dev nD) (t : Fin cfg0.N) : iblk m c 6 t = V m c main_arg8 := by
  funext j; show V m c main_arg8 (((cfg0.win 6).blk t).view.emb j) = V m c main_arg8 j; rw [emb6]

theorem idx_zero7 : ∀ t : Fin cfg0.N, win0_7.index t (0 : Fin 1) = 0 :=
  (by decide +kernel : ∀ t : Fin grid0.N, _)

theorem emb7 (t : Fin cfg0.N) (j : S512.Idx) : ((cfg0.win 7).blk t).view.emb j = j := by
  have e0 := idx_zero7 t
  funext a; apply Fin.ext
  match a with
  | ⟨0, _⟩ => show win0_7.index t (0 : Fin 1) * 512 + 1 * (j 0).val = (j 0).val; omega

theorem iblk7_eq (c : Dev nD) (t : Fin cfg0.N) : iblk m c 7 t = V m c main_arg9 := by
  funext j; show V m c main_arg9 (((cfg0.win 7).blk t).view.emb j) = V m c main_arg9 j; rw [emb7]

theorem idx_zero8 : ∀ t : Fin cfg0.N, win0_8.index t (0 : Fin 1) = 0 :=
  (by decide +kernel : ∀ t : Fin grid0.N, _)

theorem emb8 (t : Fin cfg0.N) (j : S512.Idx) : ((cfg0.win 8).blk t).view.emb j = j := by
  have e0 := idx_zero8 t
  funext a; apply Fin.ext
  match a with
  | ⟨0, _⟩ => show win0_8.index t (0 : Fin 1) * 512 + 1 * (j 0).val = (j 0).val; omega

theorem iblk8_eq (c : Dev nD) (t : Fin cfg0.N) : iblk m c 8 t = V m c main_arg10 := by
  funext j; show V m c main_arg10 (((cfg0.win 8).blk t).view.emb j) = V m c main_arg10 j; rw [emb8]

theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

theorem emb9 (t : Fin cfg0.N) (j : S20x4096x512.Idx) : ((cfg0.win 9).blk t).view.emb j = j := by
  obtain ⟨e0, e1, e2⟩ := idx_zero9 t
  funext a; apply Fin.ext
  match a with
  | ⟨0, _⟩ => show win0_9.index t (0 : Fin 3) * 20 + 1 * (j 0).val = (j 0).val; omega
  | ⟨1, _⟩ => show win0_9.index t (1 : Fin 3) * 4096 + 1 * (j 1).val = (j 1).val; omega
  | ⟨2, _⟩ => show win0_9.index t (2 : Fin 3) * 512 + 1 * (j 2).val = (j 2).val; omega

theorem idx_zero10 : ∀ t : Fin cfg0.N, win0_10.index t (0 : Fin 2) = 0 ∧ win0_10.index t (1 : Fin 2) = 0 :=
  (by decide +kernel : ∀ t : Fin grid0.N, _)

theorem emb10 (t : Fin cfg0.N) (j : S20x4096.Idx) : ((cfg0.win 10).blk t).view.emb j = j := by
  obtain ⟨e0, e1⟩ := idx_zero10 t
  funext a; apply Fin.ext
  match a with
  | ⟨0, _⟩ => show win0_10.index t (0 : Fin 2) * 20 + 1 * (j 0).val = (j 0).val; omega
  | ⟨1, _⟩ => show win0_10.index t (1 : Fin 2) * 4096 + 1 * (j 1).val = (j 1).val; omega

theorem idx_zero11 : ∀ t : Fin cfg0.N, win0_11.index t (0 : Fin 3) = 0 ∧ win0_11.index t (1 : Fin 3) = 0 ∧ win0_11.index t (2 : Fin 3) = 0 :=
  (by decide +kernel : ∀ t : Fin grid0.N, _)

theorem emb11 (t : Fin cfg0.N) (j : S20x4096x512.Idx) : ((cfg0.win 11).blk t).view.emb j = j := by
  obtain ⟨e0, e1, e2⟩ := idx_zero11 t
  funext a; apply Fin.ext
  match a with
  | ⟨0, _⟩ => show win0_11.index t (0 : Fin 3) * 20 + 1 * (j 0).val = (j 0).val; omega
  | ⟨1, _⟩ => show win0_11.index t (1 : Fin 3) * 4096 + 1 * (j 1).val = (j 1).val; omega
  | ⟨2, _⟩ => show win0_11.index t (2 : Fin 3) * 512 + 1 * (j 2).val = (j 2).val; omega

theorem idx_zero12 : ∀ t : Fin cfg0.N, win0_12.index t (0 : Fin 3) = 0 ∧ win0_12.index t (1 : Fin 3) = 0 ∧ win0_12.index t (2 : Fin 3) = 0 :=
  (by decide +kernel : ∀ t : Fin grid0.N, _)

theorem emb12 (t : Fin cfg0.N) (j : S20x4096x512.Idx) : ((cfg0.win 12).blk t).view.emb j = j := by
  obtain ⟨e0, e1, e2⟩ := idx_zero12 t
  funext a; apply Fin.ext
  match a with
  | ⟨0, _⟩ => show win0_12.index t (0 : Fin 3) * 20 + 1 * (j 0).val = (j 0).val; omega
  | ⟨1, _⟩ => show win0_12.index t (1 : Fin 3) * 4096 + 1 * (j 1).val = (j 1).val; omega
  | ⟨2, _⟩ => show win0_12.index t (2 : Fin 3) * 512 + 1 * (j 2).val = (j 2).val; omega

theorem idx_zero13 : ∀ t : Fin cfg0.N, win0_13.index t (0 : Fin 3) = 0 ∧ win0_13.index t (1 : Fin 3) = 0 ∧ win0_13.index t (2 : Fin 3) = 0 :=
  (by decide +kernel : ∀ t : Fin grid0.N, _)

theorem emb13 (t : Fin cfg0.N) (j : S20x4096x512.Idx) : ((cfg0.win 13).blk t).view.emb j = j := by
  obtain ⟨e0, e1, e2⟩ := idx_zero13 t
  funext a; apply Fin.ext
  match a with
  | ⟨0, _⟩ => show win0_13.index t (0 : Fin 3) * 20 + 1 * (j 0).val = (j 0).val; omega
  | ⟨1, _⟩ => show win0_13.index t (1 : Fin 3) * 4096 + 1 * (j 1).val = (j 1).val; omega
  | ⟨2, _⟩ => show win0_13.index t (2 : Fin 3) * 512 + 1 * (j 2).val = (j 2).val; omega

theorem out9_eq (P : Vec F S20x4096x512 .f32) (w1 w2 w3 : Vec F S512x512 .fp8e4m3) (b4 b5 b6 b7 b8 : Vec F S512 .f32) :
    out0_9 (F := F) P w1 w2 w3 b4 b5 b6 b7 b8 = k0_pay4 P := by
  unfold out0_9
  rw [View.canon_unit_zero z3, View.ld_unit_zero (S := S20x4096x512) z3 _ P]

theorem final9 (c : Dev nD) : (dats m 0 c).arrAt 9 cfg0.N
    = k0_pay4 (V m c main_v24) := by
  refine (dats m 0 c).arrAt_eq_of_cover 9 _ (fun t _ => ?_) fun i => ⟨(⟨0, by decide⟩ : Fin cfg0.N), flush0_9 _, by
    have h := ((cfg0.win 9).blk (⟨0, by decide⟩ : Fin cfg0.N)).view.emb_mem_set i; rwa [emb9] at h⟩
  show (cfg0.win 9).cut (grid0.coords t) ((dats m 0 c).after 9 t) = _
  rw [after0_9, iblk0_eq, iblk1_eq, iblk2_eq, iblk3_eq, iblk4_eq, iblk5_eq, iblk6_eq, iblk7_eq, iblk8_eq, out9_eq]
  funext j
  refine congrArg (k0_pay4 (V m c main_v24)) (emb9 t j).symm

theorem out10_eq (P : Vec F S20x4096x512 .f32) (w1 w2 w3 : Vec F S512x512 .fp8e4m3) (b4 b5 b6 b7 b8 : Vec F S512 .f32) :
    out0_10 (F := F) P w1 w2 w3 b4 b5 b6 b7 b8 = k0_pay6 P := by
  unfold out0_10
  rw [View.canon_unit_zero z2, View.ld_unit_zero (S := S20x4096x512) z3 _ P]

theorem final10 (c : Dev nD) : (dats m 0 c).arrAt 10 cfg0.N
    = k0_pay6 (V m c main_v24) := by
  refine (dats m 0 c).arrAt_eq_of_cover 10 _ (fun t _ => ?_) fun i => ⟨(⟨0, by decide⟩ : Fin cfg0.N), flush0_10 _, by
    have h := ((cfg0.win 10).blk (⟨0, by decide⟩ : Fin cfg0.N)).view.emb_mem_set i; rwa [emb10] at h⟩
  show (cfg0.win 10).cut (grid0.coords t) ((dats m 0 c).after 10 t) = _
  rw [after0_10, iblk0_eq, iblk1_eq, iblk2_eq, iblk3_eq, iblk4_eq, iblk5_eq, iblk6_eq, iblk7_eq, iblk8_eq, out10_eq]
  funext j
  refine congrArg (k0_pay6 (V m c main_v24)) (emb10 t j).symm

theorem out11_eq (P : Vec F S20x4096x512 .f32) (w1 w2 w3 : Vec F S512x512 .fp8e4m3) (b4 b5 b6 b7 b8 : Vec F S512 .f32) :
    out0_11 (F := F) P w1 w2 w3 b4 b5 b6 b7 b8 = k0_pay7 (k0_pay4 P) (k0_pay5 P) w1 b4 b7 := by
  unfold out0_11 k0_pay11 k0_pay12
  rw [View.canon_unit_zero z3, View.ld_unit_zero (S := S20x4096x512) z3 _ P, View.ld_unit_zero (S := S512x512) z2 _ w1, View.ld_unit_zero (S := S512) z1 _ b4, View.ld_unit_zero (S := S512) z1 _ b7]

theorem final11 (c : Dev nD) : (dats m 0 c).arrAt 11 cfg0.N
    = k0_pay7 (k0_pay4 (V m c main_v24)) (k0_pay5 (V m c main_v24)) (m ((c : Thread nD τ).loc main_arg3)) (m ((c : Thread nD τ).loc main_arg6)) (m ((c : Thread nD τ).loc main_arg9)) := by
  refine (dats m 0 c).arrAt_eq_of_cover 11 _ (fun t _ => ?_) fun i => ⟨(⟨0, by decide⟩ : Fin cfg0.N), flush0_11 _, by
    have h := ((cfg0.win 11).blk (⟨0, by decide⟩ : Fin cfg0.N)).view.emb_mem_set i; rwa [emb11] at h⟩
  show (cfg0.win 11).cut (grid0.coords t) ((dats m 0 c).after 11 t) = _
  rw [after0_11, iblk0_eq, iblk1_eq, iblk2_eq, iblk3_eq, iblk4_eq, iblk5_eq, iblk6_eq, iblk7_eq, iblk8_eq, out11_eq,
    V_main_arg3, V_main_arg6, V_main_arg9]
  funext j
  refine congrArg (k0_pay7 (k0_pay4 (V m c main_v24)) (k0_pay5 (V m c main_v24)) (m ((c : Thread nD τ).loc main_arg3)) (m ((c : Thread nD τ).loc main_arg6)) (m ((c : Thread nD τ).loc main_arg9))) (emb11 t j).symm

theorem out12_eq (P : Vec F S20x4096x512 .f32) (w1 w2 w3 : Vec F S512x512 .fp8e4m3) (b4 b5 b6 b7 b8 : Vec F S512 .f32) :
    out0_12 (F := F) P w1 w2 w3 b4 b5 b6 b7 b8 = k0_pay8 (k0_pay4 P) (k0_pay5 P) w2 b5 := by
  unfold out0_12 k0_pay11 k0_pay12
  rw [View.canon_unit_zero z3, View.ld_unit_zero (S := S20x4096x512) z3 _ P, View.ld_unit_zero (S := S512x512) z2 _ w2, View.ld_unit_zero (S := S512) z1 _ b5]

theorem final12 (c : Dev nD) : (dats m 0 c).arrAt 12 cfg0.N
    = k0_pay8 (k0_pay4 (V m c main_v24)) (k0_pay5 (V m c main_v24)) (m ((c : Thread nD τ).loc main_arg4)) (m ((c : Thread nD τ).loc main_arg7)) := by
  refine (dats m 0 c).arrAt_eq_of_cover 12 _ (fun t _ => ?_) fun i => ⟨(⟨0, by decide⟩ : Fin cfg0.N), flush0_12 _, by
    have h := ((cfg0.win 12).blk (⟨0, by decide⟩ : Fin cfg0.N)).view.emb_mem_set i; rwa [emb12] at h⟩
  show (cfg0.win 12).cut (grid0.coords t) ((dats m 0 c).after 12 t) = _
  rw [after0_12, iblk0_eq, iblk1_eq, iblk2_eq, iblk3_eq, iblk4_eq, iblk5_eq, iblk6_eq, iblk7_eq, iblk8_eq, out12_eq,
    V_main_arg4, V_main_arg7]
  funext j
  refine congrArg (k0_pay8 (k0_pay4 (V m c main_v24)) (k0_pay5 (V m c main_v24)) (m ((c : Thread nD τ).loc main_arg4)) (m ((c : Thread nD τ).loc main_arg7))) (emb12 t j).symm

theorem out13_eq (P : Vec F S20x4096x512 .f32) (w1 w2 w3 : Vec F S512x512 .fp8e4m3) (b4 b5 b6 b7 b8 : Vec F S512 .f32) :
    out0_13 (F := F) P w1 w2 w3 b4 b5 b6 b7 b8 = k0_pay1 (k0_pay9 (k0_pay4 P) (k0_pay5 P) w3 b6) (k0_pay10 b8) := by
  unfold out0_13 k0_pay11 k0_pay12
  rw [View.canon_unit_zero z3, View.ld_unit_zero (S := S20x4096x512) z3 _ P, View.ld_unit_zero (S := S512x512) z2 _ w3, View.ld_unit_zero (S := S512) z1 _ b6, View.ld_unit_zero (S := S512) z1 _ b8]

theorem final13 (c : Dev nD) : (dats m 0 c).arrAt 13 cfg0.N
    = k0_pay1 (k0_pay9 (k0_pay4 (V m c main_v24)) (k0_pay5 (V m c main_v24)) (m ((c : Thread nD τ).loc main_arg5)) (m ((c : Thread nD τ).loc main_arg8))) (k0_pay10 (m ((c : Thread nD τ).loc main_arg10))) := by
  refine (dats m 0 c).arrAt_eq_of_cover 13 _ (fun t _ => ?_) fun i => ⟨(⟨0, by decide⟩ : Fin cfg0.N), flush0_13 _, by
    have h := ((cfg0.win 13).blk (⟨0, by decide⟩ : Fin cfg0.N)).view.emb_mem_set i; rwa [emb13] at h⟩
  show (cfg0.win 13).cut (grid0.coords t) ((dats m 0 c).after 13 t) = _
  rw [after0_13, iblk0_eq, iblk1_eq, iblk2_eq, iblk3_eq, iblk4_eq, iblk5_eq, iblk6_eq, iblk7_eq, iblk8_eq, out13_eq,
    V_main_arg5, V_main_arg8, V_main_arg10]
  funext j
  refine congrArg (k0_pay1 (k0_pay9 (k0_pay4 (V m c main_v24)) (k0_pay5 (V m c main_v24)) (m ((c : Thread nD τ).loc main_arg5)) (m ((c : Thread nD τ).loc main_arg8))) (k0_pay10 (m ((c : Thread nD τ).loc main_arg10)))) (emb13 t j).symm

end Cert.RefQkvIdeal.Gen

end
-- ==== Proof.QkvEq.lean ====
module

public import proofs.«01_k».proof.Proof.QkvVal
public import proofs.«01_k».proof.Proof.RefQkvIdx
public import proofs.«01_k».proof.Proof.RefQkvPay
public import proofs.«01_k».proof.Proof.RefQkvRun

@[expose] public section

set_option maxRecDepth 16384

noncomputable section

/-! The result arrays of the projection call and of its reference, equal over the extended reals. -/

namespace Cert.RefQkvIdeal.Gen

open Idealize.ShloMosaic Cert.RefQkvIdeal
open Idealize.ShloMosaic.TcCoe Idealize.SL.Sem
open scoped BigOperators

variable (m : (ℓ : Loc nD τ sig) → Buf (Elt Ideal) ℓ)

/-- A normalised row of the reference, from the argument arrays. -/
abbrev rowR (c : Dev nD) (a : Fin 20) (r : Fin 4096) : Fin 512 → EReal :=
  Cert.Grp.row (m ((c : Thread nD τ).loc main_arg0)) (m ((c : Thread nD τ).loc main_arg1)) (m ((c : Thread nD τ).loc main_arg2)) a r

theorem V24_row (c : Dev nD) (a : Fin 20) (r : Fin 4096) :
    (fun d => (V m c main_v24 : FVec Ideal S20x4096x512 .f32) (ix3 a r d)) = rowR m c a r :=
  funext fun d => V24_at m c a r d

theorem ref9_at (c : Dev nD) (a : Fin 20) (r : Fin 4096) (d : Fin 512) :
    ((dats m 0 c).arrAt 9 cfg0.N : FVec Ideal S20x4096x512 .fp8e4m3) (ix3 a r d) = Cert.Blk.codesR (rowR m c a r) d := by
  rw [final9]
  refine (pay4_at _ a r d).trans ?_
  rw [V24_row]

theorem ref10_at (c : Dev nD) (a : Fin 20) (r : Fin 4096) :
    ((dats m 0 c).arrAt 10 cfg0.N : FVec Ideal S20x4096 .f32) (ix2 a r)
      = Ideal.exp2 (Cert.Blk.refE (Cert.Blk.amaxR (rowR m c a r))) := by
  rw [final10]
  refine (pay6_at _ a r).trans ?_
  rw [V24_row]

/-- A product of codes, their scale and a channel's weight scale, in terms of the normalised row. -/
theorem prod_at (c : Dev nD) (w : Fin 512 → EReal) (s : EReal) (a : Fin 20) (r : Fin 4096) :
    (∑ x : Fin 512, k0_pay4 (F := Ideal) (V m c main_v24) (ix3 a r x) * w x) * k0_pay5 (F := Ideal) (V m c main_v24) (ix3 a r 0) * s
      = (∑ x : Fin 512, Cert.Blk.codesR (rowR m c a r) x * w x) * Ideal.exp2 (Cert.Blk.refE (Cert.Blk.amaxR (rowR m c a r))) * s := by
  have h4 : ∀ x : Fin 512, k0_pay4 (F := Ideal) (V m c main_v24) (ix3 a r x) = Cert.Blk.codesR (rowR m c a r) x := fun x => by
    refine (pay4_at _ a r x).trans ?_
    rw [V24_row]
  have h5 : k0_pay5 (F := Ideal) (V m c main_v24) (ix3 a r 0) = Ideal.exp2 (Cert.Blk.refE (Cert.Blk.amaxR (rowR m c a r))) := by
    refine (pay5_at _ a r).trans ?_
    rw [V24_row]
  rw [h5]
  simp only [h4]

theorem ref11_at (c : Dev nD) (a : Fin 20) (r : Fin 4096) (d : Fin 512) :
    ((dats m 0 c).arrAt 11 cfg0.N : FVec Ideal S20x4096x512 .bf16) (ix3 a r d)
      = Cert.Blk.projR (rowR m c a r) (fun x => (m ((c : Thread nD τ).loc main_arg3) : FVec Ideal S512x512 .fp8e4m3) (ix2 x d))
        ((m ((c : Thread nD τ).loc main_arg6) : FVec Ideal S512 .f32) (ix1 d))
        ((m ((c : Thread nD τ).loc main_arg9) : FVec Ideal S512 .f32) (ix1 d)) := by
  rw [final11]
  refine (pay7_at _ _ _ _ _ a r d).trans ?_
  rw [prod_at m c (fun x => (m ((c : Thread nD τ).loc main_arg3) : FVec Ideal S512x512 .fp8e4m3) (ix2 x d))]
  unfold Cert.Blk.projR
  rfl

theorem ref12_at (c : Dev nD) (a : Fin 20) (r : Fin 4096) (d : Fin 512) :
    ((dats m 0 c).arrAt 12 cfg0.N : FVec Ideal S20x4096x512 .bf16) (ix3 a r d)
      = (∑ x, Cert.Blk.codesR (rowR m c a r) x * (m ((c : Thread nD τ).loc main_arg4) : FVec Ideal S512x512 .fp8e4m3) (ix2 x d))
        * Ideal.exp2 (Cert.Blk.refE (Cert.Blk.amaxR (rowR m c a r)))
        * (m ((c : Thread nD τ).loc main_arg7) : FVec Ideal S512 .f32) (ix1 d) := by
  rw [final12]
  refine (pay8_at _ _ _ _ a r d).trans ?_
  exact prod_at m c (fun x => (m ((c : Thread nD τ).loc main_arg4) : FVec Ideal S512x512 .fp8e4m3) (ix2 x d)) _ a r

theorem ref13_at (c : Dev nD) (a : Fin 20) (r : Fin 4096) (d : Fin 512) :
    ((dats m 0 c).arrAt 13 cfg0.N : FVec Ideal S20x4096x512 .bf16) (ix3 a r d)
      = Cert.Blk.projR (rowR m c a r) (fun x => (m ((c : Thread nD τ).loc main_arg5) : FVec Ideal S512x512 .fp8e4m3) (ix2 x d))
        ((m ((c : Thread nD τ).loc main_arg8) : FVec Ideal S512 .f32) (ix1 d))
        ((m ((c : Thread nD τ).loc main_arg10) : FVec Ideal S512 .f32) (ix1 d)) := by
  rw [final13]
  refine (pay1_at _ _ a r d).trans ?_
  refine (congrArg₂ (· + ·) (pay9_at _ _ _ _ a r d) (pay10_at _ a r d)).trans ?_
  rw [prod_at m c (fun x => (m ((c : Thread nD τ).loc main_arg5) : FVec Ideal S512x512 .fp8e4m3) (ix2 x d))]
  unfold Cert.Blk.projR
  rfl

end Cert.RefQkvIdeal.Gen

namespace Cert.QkvEq

open Idealize.ShloMosaic Idealize.ShloMosaic.TcCoe Idealize.SL.Sem
open scoped BigOperators

variable (m : (ℓ : Loc Cert.QkvIdeal.nD Cert.QkvIdeal.τ Cert.QkvIdeal.sig) → Buf (Elt Ideal) ℓ)
variable (m' : (ℓ : Loc Cert.RefQkvIdeal.nD Cert.RefQkvIdeal.τ Cert.RefQkvIdeal.sig) → Buf (Elt Ideal) ℓ)

theorem eq9 (c : Dev Cert.QkvIdeal.nD)
    (e0 : m' ((c.tc : Thread Cert.RefQkvIdeal.nD Cert.RefQkvIdeal.τ).loc Cert.RefQkvIdeal.main_arg0) = m ((c.tc : Thread Cert.QkvIdeal.nD Cert.QkvIdeal.τ).loc Cert.QkvIdeal.main_arg0))
    (e1 : m' ((c.tc : Thread Cert.RefQkvIdeal.nD Cert.RefQkvIdeal.τ).loc Cert.RefQkvIdeal.main_arg1) = m ((c.tc : Thread Cert.QkvIdeal.nD Cert.QkvIdeal.τ).loc Cert.QkvIdeal.main_arg1))
    (e2 : m' ((c.tc : Thread Cert.RefQkvIdeal.nD Cert.RefQkvIdeal.τ).loc Cert.RefQkvIdeal.main_arg2) = m ((c.tc : Thread Cert.QkvIdeal.nD Cert.QkvIdeal.τ).loc Cert.QkvIdeal.main_arg2)) :
    ((Cert.RefQkvIdeal.Gen.dats m' 0 c).arrAt 9 Cert.RefQkvIdeal.cfg0.N : FVec Ideal Cert.RefQkvIdeal.S20x4096x512 .fp8e4m3) = Cert.QkvIdeal.Gen.arr11 m c := by
  funext j
  obtain ⟨a, r, d, rfl⟩ : ∃ a r d, j = ix3 a r d := ⟨j 0, j 1, j 2, eq_ix3 j⟩
  refine (Cert.RefQkvIdeal.Gen.ref9_at m' c a r d).trans ?_
  unfold Cert.RefQkvIdeal.Gen.rowR
  rw [e0, e1, e2]
  exact (Cert.QkvIdeal.Gen.arr11_at m c a r d).symm

theorem eq10 (c : Dev Cert.QkvIdeal.nD)
    (e0 : m' ((c.tc : Thread Cert.RefQkvIdeal.nD Cert.RefQkvIdeal.τ).loc Cert.RefQkvIdeal.main_arg0) = m ((c.tc : Thread Cert.QkvIdeal.nD Cert.QkvIdeal.τ).loc Cert.QkvIdeal.main_arg0))
    (e1 : m' ((c.tc : Thread Cert.RefQkvIdeal.nD Cert.RefQkvIdeal.τ).loc Cert.RefQkvIdeal.main_arg1) = m ((c.tc : Thread Cert.QkvIdeal.nD Cert.QkvIdeal.τ).loc Cert.QkvIdeal.main_arg1))
    (e2 : m' ((c.tc : Thread Cert.RefQkvIdeal.nD Cert.RefQkvIdeal.τ).loc Cert.RefQkvIdeal.main_arg2) = m ((c.tc : Thread Cert.QkvIdeal.nD Cert.QkvIdeal.τ).loc Cert.QkvIdeal.main_arg2)) :
    ((Cert.RefQkvIdeal.Gen.dats m' 0 c).arrAt 10 Cert.RefQkvIdeal.cfg0.N : FVec Ideal Cert.RefQkvIdeal.S20x4096 .f32) = Cert.QkvIdeal.Gen.arr12 m c := by
  funext j
  obtain ⟨a, r, rfl⟩ : ∃ a r, j = ix2 a r := ⟨j 0, j 1, eq_ix2 j⟩
  refine (Cert.RefQkvIdeal.Gen.ref10_at m' c a r).trans ?_
  unfold Cert.RefQkvIdeal.Gen.rowR
  rw [e0, e1, e2]
  exact (Cert.QkvIdeal.Gen.arr12_at m c a r).symm

theorem eq11 (c : Dev Cert.QkvIdeal.nD)
    (e0 : m' ((c.tc : Thread Cert.RefQkvIdeal.nD Cert.RefQkvIdeal.τ).loc Cert.RefQkvIdeal.main_arg0) = m ((c.tc : Thread Cert.QkvIdeal.nD Cert.QkvIdeal.τ).loc Cert.QkvIdeal.main_arg0))
    (e1 : m' ((c.tc : Thread Cert.RefQkvIdeal.nD Cert.RefQkvIdeal.τ).loc Cert.RefQkvIdeal.main_arg1) = m ((c.tc : Thread Cert.QkvIdeal.nD Cert.QkvIdeal.τ).loc Cert.QkvIdeal.main_arg1))
    (e2 : m' ((c.tc : Thread Cert.RefQkvIdeal.nD Cert.RefQkvIdeal.τ).loc Cert.RefQkvIdeal.main_arg2) = m ((c.tc : Thread Cert.QkvIdeal.nD Cert.QkvIdeal.τ).loc Cert.QkvIdeal.main_arg2))
    (e3 : m' ((c.tc : Thread Cert.RefQkvIdeal.nD Cert.RefQkvIdeal.τ).loc Cert.RefQkvIdeal.main_arg3) = m ((c.tc : Thread Cert.QkvIdeal.nD Cert.QkvIdeal.τ).loc Cert.QkvIdeal.main_arg3))
    (e6 : m' ((c.tc : Thread Cert.RefQkvIdeal.nD Cert.RefQkvIdeal.τ).loc Cert.RefQkvIdeal.main_arg6) = m ((c.tc : Thread Cert.QkvIdeal.nD Cert.QkvIdeal.τ).loc Cert.QkvIdeal.main_arg6))
    (e9 : m' ((c.tc : Thread Cert.RefQkvIdeal.nD Cert.RefQkvIdeal.τ).loc Cert.RefQkvIdeal.main_arg9) = m ((c.tc : Thread Cert.QkvIdeal.nD Cert.QkvIdeal.τ).loc Cert.QkvIdeal.main_arg9)) :
    ((Cert.RefQkvIdeal.Gen.dats m' 0 c).arrAt 11 Cert.RefQkvIdeal.cfg0.N : FVec Ideal Cert.RefQkvIdeal.S20x4096x512 .bf16) = Cert.QkvIdeal.Gen.arr13 m c := by
  funext j
  obtain ⟨a, r, d, rfl⟩ : ∃ a r d, j = ix3 a r d := ⟨j 0, j 1, j 2, eq_ix3 j⟩
  refine (Cert.RefQkvIdeal.Gen.ref11_at m' c a r d).trans ?_
  unfold Cert.RefQkvIdeal.Gen.rowR
  rw [e0, e1, e2, e3, e6, e9]
  exact (Cert.QkvIdeal.Gen.arr13_at m c a r d).symm

theorem eq12 (c : Dev Cert.QkvIdeal.nD)
    (e0 : m' ((c.tc : Thread Cert.RefQkvIdeal.nD Cert.RefQkvIdeal.τ).loc Cert.RefQkvIdeal.main_arg0) = m ((c.tc : Thread Cert.QkvIdeal.nD Cert.QkvIdeal.τ).loc Cert.QkvIdeal.main_arg0))
    (e1 : m' ((c.tc : Thread Cert.RefQkvIdeal.nD Cert.RefQkvIdeal.τ).loc Cert.RefQkvIdeal.main_arg1) = m ((c.tc : Thread Cert.QkvIdeal.nD Cert.QkvIdeal.τ).loc Cert.QkvIdeal.main_arg1))
    (e2 : m' ((c.tc : Thread Cert.RefQkvIdeal.nD Cert.RefQkvIdeal.τ).loc Cert.RefQkvIdeal.main_arg2) = m ((c.tc : Thread Cert.QkvIdeal.nD Cert.QkvIdeal.τ).loc Cert.QkvIdeal.main_arg2))
    (e4 : m' ((c.tc : Thread Cert.RefQkvIdeal.nD Cert.RefQkvIdeal.τ).loc Cert.RefQkvIdeal.main_arg4) = m ((c.tc : Thread Cert.QkvIdeal.nD Cert.QkvIdeal.τ).loc Cert.QkvIdeal.main_arg4))
    (e7 : m' ((c.tc : Thread Cert.RefQkvIdeal.nD Cert.RefQkvIdeal.τ).loc Cert.RefQkvIdeal.main_arg7) = m ((c.tc : Thread Cert.QkvIdeal.nD Cert.QkvIdeal.τ).loc Cert.QkvIdeal.main_arg7)) :
    ((Cert.RefQkvIdeal.Gen.dats m' 0 c).arrAt 12 Cert.RefQkvIdeal.cfg0.N : FVec Ideal Cert.RefQkvIdeal.S20x4096x512 .bf16) = Cert.QkvIdeal.Gen.arr14 m c := by
  funext j
  obtain ⟨a, r, d, rfl⟩ : ∃ a r d, j = ix3 a r d := ⟨j 0, j 1, j 2, eq_ix3 j⟩
  refine (Cert.RefQkvIdeal.Gen.ref12_at m' c a r d).trans ?_
  unfold Cert.RefQkvIdeal.Gen.rowR
  rw [e0, e1, e2, e4, e7]
  exact (Cert.QkvIdeal.Gen.arr14_at m c a r d).symm

theorem eq13 (c : Dev Cert.QkvIdeal.nD)
    (e0 : m' ((c.tc : Thread Cert.RefQkvIdeal.nD Cert.RefQkvIdeal.τ).loc Cert.RefQkvIdeal.main_arg0) = m ((c.tc : Thread Cert.QkvIdeal.nD Cert.QkvIdeal.τ).loc Cert.QkvIdeal.main_arg0))
    (e1 : m' ((c.tc : Thread Cert.RefQkvIdeal.nD Cert.RefQkvIdeal.τ).loc Cert.RefQkvIdeal.main_arg1) = m ((c.tc : Thread Cert.QkvIdeal.nD Cert.QkvIdeal.τ).loc Cert.QkvIdeal.main_arg1))
    (e2 : m' ((c.tc : Thread Cert.RefQkvIdeal.nD Cert.RefQkvIdeal.τ).loc Cert.RefQkvIdeal.main_arg2) = m ((c.tc : Thread Cert.QkvIdeal.nD Cert.QkvIdeal.τ).loc Cert.QkvIdeal.main_arg2))
    (e5 : m' ((c.tc : Thread Cert.RefQkvIdeal.nD Cert.RefQkvIdeal.τ).loc Cert.RefQkvIdeal.main_arg5) = m ((c.tc : Thread Cert.QkvIdeal.nD Cert.QkvIdeal.τ).loc Cert.QkvIdeal.main_arg5))
    (e8 : m' ((c.tc : Thread Cert.RefQkvIdeal.nD Cert.RefQkvIdeal.τ).loc Cert.RefQkvIdeal.main_arg8) = m ((c.tc : Thread Cert.QkvIdeal.nD Cert.QkvIdeal.τ).loc Cert.QkvIdeal.main_arg8))
    (e10 : m' ((c.tc : Thread Cert.RefQkvIdeal.nD Cert.RefQkvIdeal.τ).loc Cert.RefQkvIdeal.main_arg10) = m ((c.tc : Thread Cert.QkvIdeal.nD Cert.QkvIdeal.τ).loc Cert.QkvIdeal.main_arg10)) :
    ((Cert.RefQkvIdeal.Gen.dats m' 0 c).arrAt 13 Cert.RefQkvIdeal.cfg0.N : FVec Ideal Cert.RefQkvIdeal.S20x4096x512 .bf16) = Cert.QkvIdeal.Gen.arr15 m c := by
  funext j
  obtain ⟨a, r, d, rfl⟩ : ∃ a r d, j = ix3 a r d := ⟨j 0, j 1, j 2, eq_ix3 j⟩
  refine (Cert.RefQkvIdeal.Gen.ref13_at m' c a r d).trans ?_
  unfold Cert.RefQkvIdeal.Gen.rowR
  rw [e0, e1, e2, e5, e8, e10]
  exact (Cert.QkvIdeal.Gen.arr15_at m c a r d).symm

end Cert.QkvEq

end
-- ==== Proof.lean ====
module

public import proofs.«01_k».proof.Defs
public import proofs.«01_k».proof.Proof.Gen.Attn
public import proofs.«01_k».proof.Proof.Gen.AttnIdeal
public import proofs.«01_k».proof.Proof.Gen.RefAttnIdeal
public import proofs.«01_k».proof.Proof.Gen.RefAttnIdeal.Frame
public import proofs.«01_k».proof.Proof.Gen.RefAttnIdeal.Value
public import proofs.«01_k».proof.Proof.Gen.RefAttn
public import proofs.«01_k».proof.Proof.Gen.RefAttn.Frame
public import proofs.«01_k».proof.Proof.AttnFrame
public import proofs.«01_k».proof.Proof.AttnLaunch
public import proofs.«01_k».proof.Proof.Gen.Pre_finite_qk
public import proofs.«01_k».proof.Proof.AttnVal
public import proofs.«01_k».proof.Proof.RefIdx
public import proofs.«01_k».proof.Proof.AttnEq
public import proofs.«01_k».proof.Proof.Gen.Qkv
public import proofs.«01_k».proof.Proof.Gen.QkvIdeal
public import proofs.«01_k».proof.Proof.Gen.RefQkv
public import proofs.«01_k».proof.Proof.Gen.RefQkvIdeal
public import proofs.«01_k».proof.Proof.Gen.RefQkv.Frame
public import proofs.«01_k».proof.Proof.Gen.RefQkvIdeal.Frame
public import proofs.«01_k».proof.Proof.Gen.RefQkvIdeal.Value
public import proofs.«01_k».proof.Proof.Gen.Qkv.Skeleton
public import proofs.«01_k».proof.Proof.Gen.Qkv.Loops
public import proofs.«01_k».proof.Proof.Gen.Qkv.Launch
public import proofs.«01_k».proof.Proof.Gen.Qkv.Points
public import proofs.«01_k».proof.Proof.Gen.QkvIdeal.Skeleton
public import proofs.«01_k».proof.Proof.Gen.QkvIdeal.Loops
public import proofs.«01_k».proof.Proof.Gen.QkvIdeal.Launch
public import proofs.«01_k».proof.Proof.Gen.QkvIdeal.Points
public import proofs.«01_k».proof.Proof.QkvFrame
public import proofs.«01_k».proof.Proof.QkvLaunch
public import proofs.«01_k».proof.Proof.QkvEq
public import Idealize.ShloMosaic.Adequacy
public import Idealize.ShloMosaic.Init

@[expose] public section

noncomputable section

namespace Cert.Proof

open Idealize.ShloMosaic Idealize.SL.Sem

/-- The kernel's named constant, at both readings. -/
theorem preserves_attn : Cert.preserves_Attn_AttnIdeal :=
  IdealRules.named_const.statement Cert.AttnIdeal.κ "score_log2e" .f32 0x3D8293EE#32
    (((Real.sqrt 512)⁻¹ * (Real.log 2)⁻¹ : ℝ) : EReal) rfl

/-- The reference's two named constants, at both readings. -/
theorem preserves_ref : Cert.preserves_RefAttn_RefAttnIdeal :=
  ⟨IdealRules.named_const.statement Cert.RefAttnIdeal.κ "score" .f32 0x3D3504F3#32 (((Real.sqrt 512)⁻¹ : ℝ) : EReal) rfl,
    IdealRules.named_const.statement Cert.RefAttnIdeal.κ "ln2" .f32 0x3F317218#32 ((Real.log 2 : ℝ) : EReal) rfl⟩

/-- The call's four results and the reference's, equal over the extended reals. -/
theorem algebraic : Cert.algebraic_AttnIdeal_RefAttnIdeal_pre_finite_qk := by
  intro m g m' g' hpre hargs
  refine ⟨fun c => Cert.AttnIdeal.Gen.arr7 m c, fun c => Cert.AttnIdeal.Gen.arr8 m c, fun c => Cert.AttnIdeal.Gen.arr9 m c,
    fun c => Cert.AttnIdeal.Gen.arr10 m c, ?_, ?_⟩
  · refine (θ_run _ _ _).mono (fun r h c => ?_) (Cert.AttnIdeal.Gen.run m g)
    obtain ⟨⟨h0, h1, h2, h3⟩, hs⟩ := h c
    exact ⟨h0, h1, h2, h3, hs⟩
  · refine (θ_run _ _ _).mono (fun r h c => ?_) (Cert.RefAttnIdeal.Value.run m' g')
    obtain ⟨h0, h1, h2, h3, hs⟩ := h c
    obtain ⟨e0, e1, e2, e3, e4, e5, e6⟩ := hargs c
    obtain ⟨hq, hk⟩ := Cert.AttnEq.finite _ _ _ _ _ _ _ (hpre c)
    rw [e0, e1, e2, e3, e4, e5, e6] at h0 h1 h2 h3
    exact ⟨h0.trans ((Cert.AttnEq.ref7 _ _ _ _ _ _ _ hq hk).trans (Cert.AttnEq.arr7_eq m c).symm),
      h1.trans ((Cert.AttnEq.ref8 _ _ _ _ _ _ _ hq hk).trans (Cert.AttnEq.arr8_eq m c).symm),
      h2.trans ((Cert.AttnEq.ref9 _ _ _ _ _ _ _ hq hk).trans (Cert.AttnEq.arr9_eq m c).symm),
      h3.trans ((Cert.AttnEq.ref10 _ _ _ _ _ _ _ hq hk).trans (Cert.AttnEq.arr10_eq m c).symm), hs⟩

/-- The projection reference's named constant, at both readings. -/
theorem preserves_ref_qkv : Cert.preserves_RefQkv_RefQkvIdeal :=
  IdealRules.named_const.statement Cert.RefQkvIdeal.κ "ln2" .f32 0x3F317218#32 ((Real.log 2 : ℝ) : EReal) rfl

/-- The projection call's five results and the reference's, equal over the extended reals. -/
theorem algebraic_qkv : Cert.algebraic_QkvIdeal_RefQkvIdeal := by
  intro m g m' g' _ hargs
  refine ⟨fun c => Cert.QkvIdeal.Gen.arr11 m c, fun c => Cert.QkvIdeal.Gen.arr12 m c, fun c => Cert.QkvIdeal.Gen.arr13 m c,
    fun c => Cert.QkvIdeal.Gen.arr14 m c, fun c => Cert.QkvIdeal.Gen.arr15 m c, ?_, ?_⟩
  · refine (θ_run _ _ _).mono (fun r h c => ?_) (Cert.QkvIdeal.Gen.run m g)
    obtain ⟨⟨h0, h1, h2, h3, h4⟩, hs⟩ := h c
    exact ⟨h0, h1, h2, h3, h4, hs⟩
  · refine (θ_run _ _ _).mono (fun r h c => ?_) (Cert.RefQkvIdeal.Value.run_blocks m' g')
    obtain ⟨h0, h1, h2, h3, h4, hs⟩ := h c
    obtain ⟨e0, e1, e2, e3, e4, e5, e6, e7, e8, e9, e10⟩ := hargs c
    exact ⟨h0.trans (Cert.QkvEq.eq9 m m' c e0 e1 e2), h1.trans (Cert.QkvEq.eq10 m m' c e0 e1 e2),
      h2.trans (Cert.QkvEq.eq11 m m' c e0 e1 e2 e3 e6 e9), h3.trans (Cert.QkvEq.eq12 m m' c e0 e1 e2 e4 e7),
      h4.trans (Cert.QkvEq.eq13 m m' c e0 e1 e2 e5 e8 e10), hs⟩

theorem claim : Cert.Claim :=
  ⟨Cert.Attn.Gen.facts, Cert.AttnIdeal.Gen.facts, Cert.RefAttnIdeal.Gen.facts, Cert.RefAttn.Gen.facts, Cert.Qkv.Gen.facts,
    Cert.QkvIdeal.Gen.facts, Cert.RefQkvIdeal.Gen.facts, Cert.RefQkv.Gen.facts, Cert.Pre_finite_qk.Gen.facts,
    fun m g _ => Cert.Attn.Gen.frame m g, fun m g _ => Cert.AttnIdeal.Gen.frame m g, fun m g _ => Cert.AttnIdeal.Gen.frame m g,
    fun m g _ => Cert.RefAttnIdeal.Gen.frame m g, fun m g _ => Cert.RefAttnIdeal.Gen.frame m g, fun m g _ => Cert.RefAttn.Gen.frame m g,
    fun m g _ => Cert.Qkv.Gen.frame m g, fun m g _ => Cert.QkvIdeal.Gen.frame m g, fun m g _ => Cert.RefQkvIdeal.Gen.frame m g,
    fun m g _ => Cert.RefQkv.Gen.frame m g,
    preserves_attn, preserves_ref, algebraic, trivial, preserves_ref_qkv, algebraic_qkv⟩

end Cert.Proof

end
